-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_packed [hPre_finite_packed : Cert.Pre_finite_packed.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_packed.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_finite_packed.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_finite_packed.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_packed [hPre_finite_packed : Cert.Pre_finite_packed.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_packed.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_finite_packed.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_finite_packed.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_packed [hKernel6Ideal : Cert.Kernel6Ideal.Facts] [hPre_finite_packed : Cert.Pre_finite_packed.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_packed m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_packed [hReference6Ideal : Cert.Reference6Ideal.Facts] [hPre_finite_packed : Cert.Pre_finite_packed.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_packed m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v5_0)) (v1 : (c : Dev Cert.Kernel4Ideal.nD) → Buf (Elt Ideal) ((c.tc : Thread Cert.Kernel4Ideal.nD Cert.Kernel4Ideal.τ).loc Cert.Kernel4Ideal.main_v5_1)) (v2 : (c : Dev Cert.Kernel4Ideal.nD) → Buf (Elt Ideal) ((c.tc : Thread Cert.Kernel4Ideal.nD Cert.Kernel4Ideal.τ).loc Cert.Kernel4Ideal.main_v5_2)) (v3 : (c : Dev Cert.Kernel4Ideal.nD) → Buf (Elt Ideal) ((c.tc : Thread Cert.Kernel4Ideal.nD Cert.Kernel4Ideal.τ).loc Cert.Kernel4Ideal.main_v5_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5_0) = v0 c
          ∧ r.2.mem ((c.tc : Thread Cert.Kernel4Ideal.nD Cert.Kernel4Ideal.τ).loc Cert.Kernel4Ideal.main_v5_1) = v1 c
          ∧ r.2.mem ((c.tc : Thread Cert.Kernel4Ideal.nD Cert.Kernel4Ideal.τ).loc Cert.Kernel4Ideal.main_v5_2) = v2 c
          ∧ r.2.mem ((c.tc : Thread Cert.Kernel4Ideal.nD Cert.Kernel4Ideal.τ).loc Cert.Kernel4Ideal.main_v5_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v18) = v1 c
          ∧ r.2.mem ((c.tc : Thread Cert.Reference4Ideal.nD Cert.Reference4Ideal.τ).loc Cert.Reference4Ideal.main_v19) = v2 c
          ∧ r.2.mem ((c.tc : Thread Cert.Reference4Ideal.nD Cert.Reference4Ideal.τ).loc Cert.Reference4Ideal.main_v23) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v47_0)) (v1 : (c : Dev Cert.Kernel5Ideal.nD) → Buf (Elt Ideal) ((c.tc : Thread Cert.Kernel5Ideal.nD Cert.Kernel5Ideal.τ).loc Cert.Kernel5Ideal.main_v47_1)) (v2 : (c : Dev Cert.Kernel5Ideal.nD) → Buf (Elt Ideal) ((c.tc : Thread Cert.Kernel5Ideal.nD Cert.Kernel5Ideal.τ).loc Cert.Kernel5Ideal.main_v47_2)) (v3 : (c : Dev Cert.Kernel5Ideal.nD) → Buf (Elt Ideal) ((c.tc : Thread Cert.Kernel5Ideal.nD Cert.Kernel5Ideal.τ).loc Cert.Kernel5Ideal.main_v47_3)) (v4 : (c : Dev Cert.Kernel5Ideal.nD) → Buf (Elt Ideal) ((c.tc : Thread Cert.Kernel5Ideal.nD Cert.Kernel5Ideal.τ).loc Cert.Kernel5Ideal.main_v47_4)) (v5 : (c : Dev Cert.Kernel5Ideal.nD) → Buf (Elt Ideal) ((c.tc : Thread Cert.Kernel5Ideal.nD Cert.Kernel5Ideal.τ).loc Cert.Kernel5Ideal.main_v47_5)) (v6 : (c : Dev Cert.Kernel5Ideal.nD) → Buf (Elt Ideal) ((c.tc : Thread Cert.Kernel5Ideal.nD Cert.Kernel5Ideal.τ).loc Cert.Kernel5Ideal.main_v47_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v47_0) = v0 c
          ∧ r.2.mem ((c.tc : Thread Cert.Kernel5Ideal.nD Cert.Kernel5Ideal.τ).loc Cert.Kernel5Ideal.main_v47_1) = v1 c
          ∧ r.2.mem ((c.tc : Thread Cert.Kernel5Ideal.nD Cert.Kernel5Ideal.τ).loc Cert.Kernel5Ideal.main_v47_2) = v2 c
          ∧ r.2.mem ((c.tc : Thread Cert.Kernel5Ideal.nD Cert.Kernel5Ideal.τ).loc Cert.Kernel5Ideal.main_v47_3) = v3 c
          ∧ r.2.mem ((c.tc : Thread Cert.Kernel5Ideal.nD Cert.Kernel5Ideal.τ).loc Cert.Kernel5Ideal.main_v47_4) = v4 c
          ∧ r.2.mem ((c.tc : Thread Cert.Kernel5Ideal.nD Cert.Kernel5Ideal.τ).loc Cert.Kernel5Ideal.main_v47_5) = v5 c
          ∧ r.2.mem ((c.tc : Thread Cert.Kernel5Ideal.nD Cert.Kernel5Ideal.τ).loc Cert.Kernel5Ideal.main_v47_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v94) = v0 c
          ∧ r.2.mem ((c.tc : Thread Cert.Reference5Ideal.nD Cert.Reference5Ideal.τ).loc Cert.Reference5Ideal.main_v67) = v1 c
          ∧ r.2.mem ((c.tc : Thread Cert.Reference5Ideal.nD Cert.Reference5Ideal.τ).loc Cert.Reference5Ideal.main_v95) = v2 c
          ∧ r.2.mem ((c.tc : Thread Cert.Reference5Ideal.nD Cert.Reference5Ideal.τ).loc Cert.Reference5Ideal.main_v93) = v3 c
          ∧ r.2.mem ((c.tc : Thread Cert.Reference5Ideal.nD Cert.Reference5Ideal.τ).loc Cert.Reference5Ideal.main_v98) = v4 c
          ∧ r.2.mem ((c.tc : Thread Cert.Reference5Ideal.nD Cert.Reference5Ideal.τ).loc Cert.Reference5Ideal.main_v72) = v5 c
          ∧ r.2.mem ((c.tc : Thread Cert.Reference5Ideal.nD Cert.Reference5Ideal.τ).loc Cert.Reference5Ideal.main_v100) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  IdealRules.named_const.Statement Cert.Kernel6Ideal.κ "mask" .f32 0xF149F2CA#32 ⊥

def algebraic_Kernel6Ideal_Reference6Ideal_pre_finite_packed [hKernel6Ideal : Cert.Kernel6Ideal.Facts] [hReference6Ideal : Cert.Reference6Ideal.Facts] [hPre_finite_packed : Cert.Pre_finite_packed.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_packed m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v44) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v37)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v37) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v51) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_v12) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_scores : Cert.Pre_finite_scores.Facts) (hPre_finite_packed : Cert.Pre_finite_packed.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_packed (hKernel6Ideal := hKernel6Ideal) (hPre_finite_packed := hPre_finite_packed)
    ∧ quiescent_Reference6Ideal (hReference6Ideal := hReference6Ideal)
    ∧ quiescent_Reference6Ideal_pre_finite_packed (hReference6Ideal := hReference6Ideal) (hPre_finite_packed := hPre_finite_packed)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_packed (hKernel6Ideal := hKernel6Ideal) (hReference6Ideal := hReference6Ideal) (hPre_finite_packed := hPre_finite_packed)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite_packed.lean ====
abbrev S16384x2048 : Shape := ⟨2, ![16384, 2048]⟩
abbrev S16384x512 : Shape := ⟨2, ![16384, 512]⟩
abbrev S16384x256 : Shape := ⟨2, ![16384, 256]⟩
abbrev S256x512 : Shape := ⟨2, ![256, 512]⟩
abbrev S256x256 : Shape := ⟨2, ![256, 256]⟩
abbrev S_ : Shape := ⟨0, ![]⟩
abbrev S16x512 : Shape := ⟨2, ![16, 512]⟩

class Facts : Prop where
  bitsLt_bf16_f32 : FTy.bits .bf16 < FTy.bits .f32
  bcast_S_S16384x2048 : S_.BroadcastsInDim S16384x2048 (![] : Fin 0 → Fin S16384x2048.rank)
  bcast_S_S16384x512 : S_.BroadcastsInDim S16384x512 (![] : Fin 0 → Fin S16384x512.rank)
  slices_S256x512_S16x512_128_0 : S256x512.Slices ![128, 0] S16x512
  bcast_S_S16x512 : S_.BroadcastsInDim S16x512 (![] : Fin 0 → Fin S16x512.rank)

variable [Facts]

def fn {F : FTy → Type} [FloatOps F] (main_arg0 : FVec F S16384x2048 .bf16) (main_arg1 : FVec F S16384x512 .bf16) (main_arg2 : FVec F S16384x256 .bf16) (main_arg3 : FVec F S256x512 .bf16) (main_arg4 : FVec F S256x256 .bf16) : IVec S16384x2048 1 × IVec S16384x512 1 × IVec S16x512 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_v4 : FVec F S16384x512 .f32 := (extf .f32 · bitsLt_bf16_f32) main_arg1
  let main_v5 : FVec F S16384x512 .f32 := Host.absf main_v4
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v5 main_v6
  let main_v8 : FVec F S16x512 .bf16 := (extractStridedSlice S16x512 ![128, 0] · slices_S256x512_S16x512_128_0) main_arg3
  let main_v9 : FVec F S16x512 .f32 := (extf .f32 · bitsLt_bf16_f32) main_v8
  let main_v10 : FVec F S16x512 .f32 := Host.absf main_v9
  let main_cst_1 : FVec F S_ .f32 := constant S_ .f32 0x7F800000#32
  let main_v11 : FVec F S16x512 .f32 := broadcastInDim S16x512 ![] bcast_S_S16x512 main_cst_1
  let main_v12 : IVec S16x512 1 := cmpf .olt main_v10 main_v11
  (main_v3, main_v7, main_v12)
-- ==== Pre_finite_scores.lean ====
abbrev S16384x2048 : Shape := ⟨2, ![16384, 2048]⟩
abbrev S16384x1024 : Shape := ⟨2, ![16384, 1024]⟩
abbrev S256x2048 : Shape := ⟨2, ![256, 2048]⟩
abbrev S256x1024 : Shape := ⟨2, ![256, 1024]⟩
abbrev S_ : Shape := ⟨0, ![]⟩
abbrev S16x2048 : Shape := ⟨2, ![16, 2048]⟩

class Facts : Prop where
  bitsLt_bf16_f32 : FTy.bits .bf16 < FTy.bits .f32
  bcast_S_S16384x2048 : S_.BroadcastsInDim S16384x2048 (![] : Fin 0 → Fin S16384x2048.rank)
  slices_S256x2048_S16x2048_128_0 : S256x2048.Slices ![128, 0] S16x2048
  bcast_S_S16x2048 : S_.BroadcastsInDim S16x2048 (![] : Fin 0 → Fin S16x2048.rank)

variable [Facts]

def fn {F : FTy → Type} [FloatOps F] (main_arg0 : FVec F S16384x2048 .bf16) (main_arg1 : FVec F S16384x2048 .bf16) (main_arg2 : FVec F S16384x1024 .bf16) (main_arg3 : FVec F S256x2048 .bf16) (main_arg4 : FVec F S256x1024 .bf16) : IVec S16384x2048 1 × IVec S16384x2048 1 × IVec S16x2048 1 :=
  let main_v0 : FVec F S16384x2048 .f32 := (extf .f32 · bitsLt_bf16_f32) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_v4 : FVec F S16384x2048 .f32 := (extf .f32 · bitsLt_bf16_f32) main_arg1
  let main_v5 : FVec F S16384x2048 .f32 := Host.absf main_v4
  let main_cst_0 : FVec F S_ .f32 := constant S_ .f32 0x7F800000#32
  let main_v6 : FVec F S16384x2048 .f32 := broadcastInDim S16384x2048 ![] bcast_S_S16384x2048 main_cst_0
  let main_v7 : IVec S16384x2048 1 := cmpf .olt main_v5 main_v6
  let main_v8 : FVec F S16x2048 .bf16 := (extractStridedSlice S16x2048 ![128, 0] · slices_S256x2048_S16x2048_128_0) main_arg3
  let main_v9 : FVec F S16x2048 .f32 := (extf .f32 · bitsLt_bf16_f32) main_v8
  let main_v10 : FVec F S16x2048 .f32 := Host.absf main_v9
  let main_cst_1 : FVec F S_ .f32 := constant S_ .f32 0x7F800000#32
  let main_v11 : FVec F S16x2048 .f32 := broadcastInDim S16x2048 ![] bcast_S_S16x2048 main_cst_1
  let main_v12 : IVec S16x2048 1 := cmpf .olt main_v10 main_v11
  (main_v3, main_v7, main_v12)
-- ==== Kernel.lean ====
abbrev S16384x2048 : Shape := ⟨2, ![16384, 2048]⟩
abbrev S16384x1024 : Shape := ⟨2, ![16384, 1024]⟩
abbrev S256x2048 : Shape := ⟨2, ![256, 2048]⟩
abbrev S256x1024 : Shape := ⟨2, ![256, 1024]⟩
abbrev S128 : Shape := ⟨1, ![128]⟩
abbrev S_ : Shape := ⟨0, ![]⟩
abbrev S128x1 : Shape := ⟨2, ![128, 1]⟩
abbrev S32x512x1024 : Shape := ⟨3, ![32, 512, 1024]⟩
abbrev S32x1024x512 : Shape := ⟨3, ![32, 1024, 512]⟩
abbrev S128x2048 : Shape := ⟨2, ![128, 2048]⟩
abbrev S128x1024 : Shape := ⟨2, ![128, 1024]⟩
abbrev S1024x128 : Shape := ⟨2, ![1024, 128]⟩
abbrev S512x512 : Shape := ⟨2, ![512, 512]⟩
abbrev S2048x512 : Shape := ⟨2, ![2048, 512]⟩
abbrev S4x256x512 : Shape := ⟨3, ![4, 256, 512]⟩
abbrev S128x512 : Shape := ⟨2, ![128, 512]⟩
abbrev S256x128 : Shape := ⟨2, ![256, 128]⟩
abbrev S512x256 : Shape := ⟨2, ![512, 256]⟩
abbrev S1x512 : Shape := ⟨2, ![1, 512]⟩
abbrev S128x256 : Shape := ⟨2, ![128, 256]⟩
abbrev S512 : Shape := ⟨1, ![512]⟩
abbrev S128x128 : Shape := ⟨2, ![128, 128]⟩
abbrev S1x256x512 : Shape := ⟨3, ![1, 256, 512]⟩
abbrev S256x512 : Shape := ⟨2, ![256, 512]⟩
abbrev S512x128 : Shape := ⟨2, ![512, 128]⟩

abbrev nBuf : Space → Nat
  | .hbm => 24
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S256x2048, .bf16⟩
  | .hbm, ⟨4, _⟩ => ⟨S256x1024, .bf16⟩
  | .hbm, ⟨5, _⟩ => ⟨S128, .i32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S128x1, .i1⟩
  | .hbm, ⟨10, _⟩ => ⟨S32x512x1024, .bf16⟩
  | .hbm, ⟨11, _⟩ => ⟨S32x1024x512, .bf16⟩
  | .hbm, ⟨12, _⟩ => ⟨S128x2048, .bf16⟩
  | .hbm, ⟨13, _⟩ => ⟨S_, .bf16⟩
  | .hbm, ⟨14, _⟩ => ⟨S128x2048, .i1⟩
  | .hbm, ⟨15, _⟩ => ⟨S128x2048, .bf16⟩
  | .hbm, ⟨16, _⟩ => ⟨S128x2048, .bf16⟩
  | .hbm, ⟨17, _⟩ => ⟨S128x1024, .bf16⟩
  | .hbm, ⟨18, _⟩ => ⟨S_, .bf16⟩
  | .hbm, ⟨19, _⟩ => ⟨S128x1024, .i1⟩
  | .hbm, ⟨20, _⟩ => ⟨S128x1024, .bf16⟩
  | .hbm, ⟨21, _⟩ => ⟨S128x1024, .bf16⟩
  | .hbm, ⟨22, _⟩ => ⟨S1024x128, .bf16⟩
  | .hbm, ⟨23, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S4x256x512, .bf16⟩
  | .local _ .vmem, ⟨5, _⟩ => ⟨S4x256x512, .bf16⟩
  | .local _ .vmem, ⟨6, _⟩ => ⟨S128x512, .bf16⟩
  | .local _ .vmem, ⟨7, _⟩ => ⟨S128x512, .bf16⟩
  | .local _ .vmem, ⟨8, _⟩ => ⟨S256x128, .bf16⟩
  | .local _ .vmem, ⟨9, _⟩ => ⟨S256x128, .bf16⟩
  | .local _ .vmem, ⟨10, _⟩ => ⟨S512x256, .bf16⟩
  | .local _ .vmem, ⟨11, _⟩ => ⟨S512x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_call1_v0 : Ref sig .tc := ⟨.hbm, 19, rfl⟩
abbrev main_call1_v1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_mult1 : BitVec 32 :=
  let c0_i32 : BitVec 32 := 0#32
  c0_i32
@[reducible] def k0_t1_loop (i : grid0.Coords) : Scf.Loop 32 :=
  let c0_i32_21 : BitVec 32 := 0#32
  let arg2 : BitVec 32 := BitVec.ofNat 32 (i 2).val
  let v63 : BitVec 32 := Scalar.subi arg2 c0_i32_21
  let c1_i32 : BitVec 32 := 1#32
  let v65 : BitVec 32 := Scalar.divsi v63 c1_i32
  let v66 : BitVec 32 := Scalar.muli v65 c1_i32
  let v67 : BitVec 32 := Scalar.addi c0_i32_21 v66
  let c1_i32_22 : BitVec 32 := 1#32
  ⟨c0_i32_21, v67, c1_i32_22⟩
def k0_mult2 (i : grid0.Coords) (k0_t1 : Fin (k0_t1_loop i).trips) : BitVec 32 :=
  let c0_i32_21 : BitVec 32 := 0#32
  let c1_i32_22 : BitVec 32 := 1#32
  let arg9 : BitVec 32 := Scf.iv c0_i32_21 c1_i32_22 k0_t1
  let c1_i32_37 : BitVec 32 := 1#32
  let v126 : BitVec 32 := Scalar.addi arg9 c1_i32_37
  let c512_i32 : BitVec 32 := 512#32
  let v127 : BitVec 32 := Scalar.muli v126 c512_i32
  v127
def k0_off1 (i : grid0.Coords) (k0_t1 : Fin (k0_t1_loop i).trips) : Fin 2 → Nat :=
  let c0_i32_21 : BitVec 32 := 0#32
  let c1_i32_22 : BitVec 32 := 1#32
  let arg9 : BitVec 32 := Scf.iv c0_i32_21 c1_i32_22 k0_t1
  let c1_i32_37 : BitVec 32 := 1#32
  let v126 : BitVec 32 := Scalar.addi arg9 c1_i32_37
  let c512_i32 : BitVec 32 := 512#32
  let v127 : BitVec 32 := Scalar.muli v126 c512_i32
  let v128 : BitVec 32 := v127
  let v129 : Index := Scalar.indexCast v128
  let c0_38 : Index := 0#32
  ![v129.toNat, 0]
def k0_off2 (i : grid0.Coords) (k0_t1 : Fin (k0_t1_loop i).trips) : Fin 3 → Nat :=
  let c0_i32_21 : BitVec 32 := 0#32
  let c1_i32_22 : BitVec 32 := 1#32
  let arg9 : BitVec 32 := Scf.iv c0_i32_21 c1_i32_22 k0_t1
  let v135 : Index := Scalar.indexCast arg9
  let c0_41 : Index := 0#32
  let c0_42 : Index := 0#32
  ![v135.toNat, 0, 0]
@[reducible] def k0_t2_loop (i : grid0.Coords) : Scf.Loop 32 :=
  let c0_i32_21 : BitVec 32 := 0#32
  let arg2 : BitVec 32 := BitVec.ofNat 32 (i 2).val
  let v63 : BitVec 32 := Scalar.subi arg2 c0_i32_21
  let c1_i32 : BitVec 32 := 1#32
  let v65 : BitVec 32 := Scalar.divsi v63 c1_i32
  let v66 : BitVec 32 := Scalar.muli v65 c1_i32
  let v67 : BitVec 32 := Scalar.addi c0_i32_21 v66
  let v64 : BitVec 32 := Scalar.addi c0_i32_21 v63
  let c1_i32_23 : BitVec 32 := 1#32
  ⟨v67, v64, c1_i32_23⟩
def k0_mult3 (i : grid0.Coords) (k0_t2 : Fin (k0_t2_loop i).trips) : BitVec 32 :=
  let c0_i32_21 : BitVec 32 := 0#32
  let arg2 : BitVec 32 := BitVec.ofNat 32 (i 2).val
  let v63 : BitVec 32 := Scalar.subi arg2 c0_i32_21
  let c1_i32 : BitVec 32 := 1#32
  let v65 : BitVec 32 := Scalar.divsi v63 c1_i32
  let v66 : BitVec 32 := Scalar.muli v65 c1_i32
  let v67 : BitVec 32 := Scalar.addi c0_i32_21 v66
  let c1_i32_23 : BitVec 32 := 1#32
  let arg9 : BitVec 32 := Scf.iv v67 c1_i32_23 k0_t2
  let c1_i32_37 : BitVec 32 := 1#32
  let v126 : BitVec 32 := Scalar.addi arg9 c1_i32_37
  let c512_i32 : BitVec 32 := 512#32
  let v127 : BitVec 32 := Scalar.muli v126 c512_i32
  v127
def k0_off3 (i : grid0.Coords) (k0_t2 : Fin (k0_t2_loop i).trips) : Fin 2 → Nat :=
  let c0_i32_21 : BitVec 32 := 0#32
  let arg2 : BitVec 32 := BitVec.ofNat 32 (i 2).val
  let v63 : BitVec 32 := Scalar.subi arg2 c0_i32_21
  let c1_i32 : BitVec 32 := 1#32
  let v65 : BitVec 32 := Scalar.divsi v63 c1_i32
  let v66 : BitVec 32 := Scalar.muli v65 c1_i32
  let v67 : BitVec 32 := Scalar.addi c0_i32_21 v66
  let c1_i32_23 : BitVec 32 := 1#32
  let arg9 : BitVec 32 := Scf.iv v67 c1_i32_23 k0_t2
  let c1_i32_37 : BitVec 32 := 1#32
  let v126 : BitVec 32 := Scalar.addi arg9 c1_i32_37
  let c512_i32 : BitVec 32 := 512#32
  let v127 : BitVec 32 := Scalar.muli v126 c512_i32
  let v128 : BitVec 32 := v127
  let v129 : Index := Scalar.indexCast v128
  let c0_38 : Index := 0#32
  ![v129.toNat, 0]
def k0_off4 (i : grid0.Coords) (k0_t2 : Fin (k0_t2_loop i).trips) : Fin 3 → Nat :=
  let c0_i32_21 : BitVec 32 := 0#32
  let arg2 : BitVec 32 := BitVec.ofNat 32 (i 2).val
  let v63 : BitVec 32 := Scalar.subi arg2 c0_i32_21
  let c1_i32 : BitVec 32 := 1#32
  let v65 : BitVec 32 := Scalar.divsi v63 c1_i32
  let v66 : BitVec 32 := Scalar.muli v65 c1_i32
  let v67 : BitVec 32 := Scalar.addi c0_i32_21 v66
  let c1_i32_23 : BitVec 32 := 1#32
  let arg9 : BitVec 32 := Scf.iv v67 c1_i32_23 k0_t2
  let v135 : Index := Scalar.indexCast arg9
  let c0_41 : Index := 0#32
  let c0_42 : Index := 0#32
  ![v135.toNat, 0, 0]
def k0_off5 (i : grid0.Coords) : Fin 3 → Nat :=
  let arg2 : BitVec 32 := BitVec.ofNat 32 (i 2).val
  let v72 : Index := Scalar.indexCast arg2
  let c0_24 : Index := 0#32
  let c0_25 : Index := 0#32
  ![v72.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x2048 : Shape := ⟨2, ![16384, 2048]⟩
abbrev S16384x1024 : Shape := ⟨2, ![16384, 1024]⟩
abbrev S256x2048 : Shape := ⟨2, ![256, 2048]⟩
abbrev S256x1024 : Shape := ⟨2, ![256, 1024]⟩
abbrev S8x2048x8x256 : Shape := ⟨4, ![8, 2048, 8, 256]⟩
abbrev S16x2048 : Shape := ⟨2, ![16, 2048]⟩
abbrev S1x16x2048 : Shape := ⟨3, ![1, 16, 2048]⟩
abbrev S8x16x2048 : Shape := ⟨3, ![8, 16, 2048]⟩
abbrev S8x2048x2048 : Shape := ⟨3, ![8, 2048, 2048]⟩
abbrev S8x2064x2048 : Shape := ⟨3, ![8, 2064, 2048]⟩
abbrev S8x2064x8x256 : Shape := ⟨4, ![8, 2064, 8, 256]⟩
abbrev S16x1024 : Shape := ⟨2, ![16, 1024]⟩
abbrev S1x16x1024 : Shape := ⟨3, ![1, 16, 1024]⟩
abbrev S8x16x1024 : Shape := ⟨3, ![8, 16, 1024]⟩
abbrev S8x2048x1024 : Shape := ⟨3, ![8, 2048, 1024]⟩
abbrev S8x2064x1024 : Shape := ⟨3, ![8, 2064, 1024]⟩
abbrev S8x2064x8x128 : Shape := ⟨4, ![8, 2064, 8, 128]⟩
abbrev S8x8x2048x2064 : Shape := ⟨4, ![8, 8, 2048, 2064]⟩
abbrev S2064 : Shape := ⟨1, ![2064]⟩
abbrev S1x2064 : Shape := ⟨2, ![1, 2064]⟩
abbrev S2048 : Shape := ⟨1, ![2048]⟩
abbrev S2048x1 : Shape := ⟨2, ![2048, 1]⟩
abbrev S_ : Shape := ⟨0, ![]⟩
abbrev S2048x2064 : Shape := ⟨2, ![2048, 2064]⟩
abbrev S8x8x2048 : Shape := ⟨3, ![8, 8, 2048]⟩
abbrev S8x8x2048x1 : Shape := ⟨4, ![8, 8, 2048, 1]⟩
abbrev S8x8x128x2048 : Shape := ⟨4, ![8, 8, 128, 2048]⟩
abbrev S8x2048x8x128 : Shape := ⟨4, ![8, 2048, 8, 128]⟩

abbrev nBuf : Space → Nat
  | .hbm => 57
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x1024, .bf16⟩
  | .hbm, ⟨3, _⟩ => ⟨S256x2048, .bf16⟩
  | .hbm, ⟨4, _⟩ => ⟨S256x1024, .bf16⟩
  | .hbm, ⟨5, _⟩ => ⟨S16384x2048, .f32⟩
  | .hbm, ⟨6, _⟩ => ⟨S8x2048x8x256, .f32⟩
  | .hbm, ⟨7, _⟩ => ⟨S256x2048, .f32⟩
  | .hbm, ⟨8, _⟩ => ⟨S16x2048, .f32⟩
  | .hbm, ⟨9, _⟩ => ⟨S1x16x2048, .f32⟩
  | .hbm, ⟨10, _⟩ => ⟨S8x16x2048, .f32⟩
  | .hbm, ⟨11, _⟩ => ⟨S16384x2048, .f32⟩
  | .hbm, ⟨12, _⟩ => ⟨S8x2048x2048, .f32⟩
  | .hbm, ⟨13, _⟩ => ⟨S8x2064x2048, .f32⟩
  | .hbm, ⟨14, _⟩ => ⟨S8x2064x8x256, .f32⟩
  | .hbm, ⟨15, _⟩ => ⟨S256x1024, .f32⟩
  | .hbm, ⟨16, _⟩ => ⟨S16x1024, .f32⟩
  | .hbm, ⟨17, _⟩ => ⟨S1x16x1024, .f32⟩
  | .hbm, ⟨18, _⟩ => ⟨S8x16x1024, .f32⟩
  | .hbm, ⟨19, _⟩ => ⟨S16384x1024, .f32⟩
  | .hbm, ⟨20, _⟩ => ⟨S8x2048x1024, .f32⟩
  | .hbm, ⟨21, _⟩ => ⟨S8x2064x1024, .f32⟩
  | .hbm, ⟨22, _⟩ => ⟨S8x2064x8x128, .f32⟩
  | .hbm, ⟨23, _⟩ => ⟨S8x8x2048x2064, .f32⟩
  | .hbm, ⟨24, _⟩ => ⟨S2064, .i32⟩
  | .hbm, ⟨25, _⟩ => ⟨S1x2064, .i32⟩
  | .hbm, ⟨26, _⟩ => ⟨S2048, .i32⟩
  | .hbm, ⟨27, _⟩ => ⟨S2048x1, .i32⟩
  | .hbm, ⟨28, _⟩ => ⟨S_, .i32⟩
  | .hbm, ⟨29, _⟩ => ⟨S2048x1, .i32⟩
  | .hbm, ⟨30, _⟩ => ⟨S2048x1, .i32⟩
  | .hbm, ⟨31, _⟩ => ⟨S2048x2064, .i32⟩
  | .hbm, ⟨32, _⟩ => ⟨S2048x2064, .i32⟩
  | .hbm, ⟨33, _⟩ => ⟨S2048x2064, .i1⟩
  | .hbm, ⟨34, _⟩ => ⟨S_, .f32⟩
  | .hbm, ⟨35, _⟩ => ⟨S_, .f32⟩
  | .hbm, ⟨36, _⟩ => ⟨S8x8x2048x2064, .i1⟩
  | .hbm, ⟨37, _⟩ => ⟨S8x8x2048x2064, .f32⟩
  | .hbm, ⟨38, _⟩ => ⟨S8x8x2048x2064, .f32⟩
  | .hbm, ⟨39, _⟩ => ⟨S_, .f32⟩
  | .hbm, ⟨40, _⟩ => ⟨S8x8x2048, .f32⟩
  | .hbm, ⟨41, _⟩ => ⟨S_, .f32⟩
  | .hbm, ⟨42, _⟩ => ⟨S8x8x2048, .f32⟩
  | .hbm, ⟨43, _⟩ => ⟨S8x8x2048, .f32⟩
  | .hbm, ⟨44, _⟩ => ⟨S8x8x2048x1, .f32⟩
  | .hbm, ⟨45, _⟩ => ⟨S8x8x2048x2064, .f32⟩
  | .hbm, ⟨46, _⟩ => ⟨S8x8x2048x2064, .f32⟩
  | .hbm, ⟨47, _⟩ => ⟨S8x8x2048x2064, .f32⟩
  | .hbm, ⟨48, _⟩ => ⟨S_, .f32⟩
  | .hbm, ⟨49, _⟩ => ⟨S8x8x2048, .f32⟩
  | .hbm, ⟨50, _⟩ => ⟨S8x8x2048x1, .f32⟩
  | .hbm, ⟨51, _⟩ => ⟨S8x8x2048x2064, .f32⟩
  | .hbm, ⟨52, _⟩ => ⟨S8x8x2048x2064, .f32⟩
  | .hbm, ⟨53, _⟩ => ⟨S8x8x128x2048, .f32⟩
  | .hbm, ⟨54, _⟩ => ⟨S8x2048x8x128, .f32⟩
  | .hbm, ⟨55, _⟩ => ⟨S16384x1024, .f32⟩
  | .hbm, ⟨56, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v28 : Ref sig .tc := ⟨.hbm, 38, rfl⟩
abbrev main_cst_0 : Ref sig .tc := ⟨.hbm, 39, rfl⟩
abbrev main_v29 : Ref sig .tc := ⟨.hbm, 40, rfl⟩
abbrev main_cst_1 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_2 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S2048x5632 : Shape := ⟨2, ![2048, 5632]⟩
abbrev S5632x2048 : Shape := ⟨2, ![5632, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 16
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .bf16⟩
  | .hbm, ⟨12, _⟩ => ⟨S5632x2048, .f32⟩
  | .hbm, ⟨13, _⟩ => ⟨S5632x2048, .bf16⟩
  | .hbm, ⟨14, _⟩ => ⟨S1x2048, .f32⟩
  | .hbm, ⟨15, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v26 : BitVec 1 := Scalar.cmpi .eq arg1 c10_i32
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16384x2048 : Shape := ⟨2, ![16384, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S16384 : Shape := ⟨1, ![16384]⟩
abbrev S16384x1 : Shape := ⟨2, ![16384, 1]⟩
abbrev S2048x5632 : Shape := ⟨2, ![2048, 5632]⟩
abbrev S16384x5632 : Shape := ⟨2, ![16384, 5632]⟩
abbrev S5632x2048 : Shape := ⟨2, ![5632, 2048]⟩

abbrev nBuf : Space → Nat
  | .hbm => 56
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S2048x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S2048x5632, .f32⟩
  | .hbm, ⟨35, _⟩ => ⟨S16384x5632, .f32⟩
  | .hbm, ⟨36, _⟩ => ⟨S16384x5632, .f32⟩
  | .hbm, ⟨37, _⟩ => ⟨S5632x2048, .f32⟩
  | .hbm, ⟨38, _⟩ => ⟨S16384x2048, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x2048, .f32⟩
  | .hbm, ⟨52, _⟩ => ⟨S16384x2048, .f32⟩
  | .hbm, ⟨53, _⟩ => ⟨S1x2048, .f32⟩
  | .hbm, ⟨54, _⟩ => ⟨S16384x2048, .f32⟩
  | .hbm, ⟨55, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Kernel3.lean ====
abbrev S16384x2048 : Shape := ⟨2, ![16384, 2048]⟩
abbrev S1x2048 : Shape := ⟨2, ![1, 2048]⟩
abbrev S16384x1024 : Shape := ⟨2, ![16384, 1024]⟩
abbrev S1x2048x6728 : Shape := ⟨3, ![1, 2048, 6728]⟩
abbrev S1x1024x2048 : Shape := ⟨3, ![1, 1024, 2048]⟩
abbrev S1x2048x2048 : Shape := ⟨3, ![1, 2048, 2048]⟩
abbrev S2048 : Shape := ⟨1, ![2048]⟩
abbrev S2048x6728 : Shape := ⟨2, ![2048, 6728]⟩
abbrev S2048x4096 : Shape := ⟨2, ![2048, 4096]⟩
abbrev S1024x2048 : Shape := ⟨2, ![1024, 2048]⟩
abbrev S2048x2048 : Shape := ⟨2, ![2048, 2048]⟩
abbrev S512x2048 : Shape := ⟨2, ![512, 2048]⟩
abbrev S512x1024 : Shape := ⟨2, ![512, 1024]⟩
abbrev S2048x512 : Shape := ⟨2, ![2048, 512]⟩
abbrev S1024x512 : Shape := ⟨2, ![1024, 512]⟩
abbrev S512x512 : Shape := ⟨2, ![512, 512]⟩
abbrev S4x512x512 : Shape := ⟨3, ![4, 512, 512]⟩
abbrev S512 : Shape := ⟨1, ![512]⟩
abbrev S512x1 : Shape := ⟨2, ![512, 1]⟩
abbrev S1x512x512 : Shape := ⟨3, ![1, 512, 512]⟩

abbrev nBuf : Space → Nat
  | .hbm => 20
  | .vmem => 22
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S16384x1024, .bf16⟩
  | .hbm, ⟨3, _⟩ => ⟨S16384x1024, .bf16⟩
  | .hbm, ⟨4, _⟩ => ⟨S1x2048x6728, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S2048, .f32⟩
  | .hbm, ⟨9, _⟩ => ⟨S1x2048, .f32⟩
  | .hbm, ⟨10, _⟩ => ⟨S2048x6728, .f32⟩
  | .hbm, ⟨11, _⟩ => ⟨S2048x4096, .f32⟩
  | .hbm, ⟨12, _⟩ => ⟨S2048x4096, .bf16⟩
  | .hbm, ⟨13, _⟩ => ⟨S1024x2048, .f32⟩
  | .hbm, ⟨14, _⟩ => ⟨S1024x2048, .bf16⟩
  | .hbm, ⟨15, _⟩ => ⟨S1024x2048, .f32⟩
  | .hbm, ⟨16, _⟩ => ⟨S1024x2048, .bf16⟩
  | .hbm, ⟨17, _⟩ => ⟨S2048x2048, .f32⟩
  | .hbm, ⟨18, _⟩ => ⟨S2048x2048, .bf16⟩
  | .hbm, ⟨19, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S2048x512, .bf16⟩
  | .local _ .vmem, ⟨16, _⟩ => ⟨S2048x512, .bf16⟩
  | .local _ .vmem, ⟨17, _⟩ => ⟨S512x512, .f32⟩
  | .local _ .vmem, ⟨18, _⟩ => ⟨S512x512, .f32⟩
  | .local _ .vmem, ⟨19, _⟩ => ⟨S512x2048, .bf16⟩
  | .local _ .vmem, ⟨20, _⟩ => ⟨S4x512x512, .f32⟩
  | .local _ .vmem, ⟨21, _⟩ => ⟨S4x512x512, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg1 : BitVec 32 := BitVec.ofNat 32 (i 1).val
  let v42 : Index := Scalar.indexCast arg1
  let c0_26 : Index := 0#32
  let c0_27 : Index := 0#32
  ![v42.toNat, 0, 0]
def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let v7 : BitVec 32 := Scalar.extui v6
  let c0_i32_3 : BitVec 32 := 0#32
  let v8 : BitVec 1 := Scalar.cmpi .ne v7 c0_i32_3
  v8

def k0_off2 (i : grid0.Coords) : Fin 3 → Nat :=
  let arg1 : BitVec 32 := BitVec.ofNat 32 (i 1).val
  let c4_i32_4 : BitVec 32 := 4#32
  let v9 : BitVec 32 := Scalar.subi arg1 c4_i32_4
  let v10 : Index := Scalar.indexCast v9
  let c0 : Index := 0#32
  let c0_5 : Index := 0#32
  ![v10.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c0_i32 : BitVec 32 := 0#32
  let v1 : BitVec 32 := Scalar.select v0 arg1 c0_i32
  let c4_i32_0 : BitVec 32 := 4#32
  let v2 : BitVec 32 := Scalar.addi c4_i32_0 v1
  let c0_i32_1 : BitVec 32 := 0#32
  let c0_i32_2 : BitVec 32 := 0#32
  ![c0_i32_1.toNat, v2.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .slt arg1 c4_i32
  let c4_i32_0 : BitVec 32 := 4#32
  let v1 : BitVec 32 := Scalar.subi arg1 c4_i32_0
  let c3_i32 : BitVec 32 := 3#32
  let v2 : BitVec 32 := Scalar.select v0 c3_i32 v1
  let c0_i32 : BitVec 32 := 0#32
  let c0_i32_1 : BitVec 32 := 0#32
  ![c0_i32.toNat, v2.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  ![arg0.toNat, v1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S16384x2048 : Shape := ⟨2, ![16384, 2048]⟩
abbrev S1x2048 : Shape := ⟨2, ![1, 2048]⟩
abbrev S16384x1024 : Shape := ⟨2, ![16384, 1024]⟩
abbrev S1x2048x6728 : Shape := ⟨3, ![1, 2048, 6728]⟩
abbrev S1x1024x2048 : Shape := ⟨3, ![1, 1024, 2048]⟩
abbrev S1x2048x2048 : Shape := ⟨3, ![1, 2048, 2048]⟩
abbrev S_ : Shape := ⟨0, ![]⟩
abbrev S16384 : Shape := ⟨1, ![16384]⟩
abbrev S16384x1 : Shape := ⟨2, ![16384, 1]⟩
abbrev S2048 : Shape := ⟨1, ![2048]⟩
abbrev S2048x6728 : Shape := ⟨2, ![2048, 6728]⟩
abbrev S2048x4096 : Shape := ⟨2, ![2048, 4096]⟩
abbrev S16384x4096 : Shape := ⟨2, ![16384, 4096]⟩
abbrev S1024x2048 : Shape := ⟨2, ![1024, 2048]⟩
abbrev S2048x2048 : Shape := ⟨2, ![2048, 2048]⟩

abbrev nBuf : Space → Nat
  | .hbm => 58
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S16384x1024, .bf16⟩
  | .hbm, ⟨3, _⟩ => ⟨S16384x1024, .bf16⟩
  | .hbm, ⟨4, _⟩ => ⟨S1x2048x6728, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S2048x6728, .f32⟩
  | .hbm, ⟨26, _⟩ => ⟨S2048x4096, .f32⟩
  | .hbm, ⟨27, _⟩ => ⟨S16384x4096, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S_, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S16384x2048, .f32⟩
  | .hbm, ⟨37, _⟩ => ⟨S16384x2048, .f32⟩
  | .hbm, ⟨38, _⟩ => ⟨S16384x1024, .f32⟩
  | .hbm, ⟨39, _⟩ => ⟨S1024x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S_, .f32⟩
  | .hbm, ⟨45, _⟩ => ⟨S16384x2048, .f32⟩
  | .hbm, ⟨46, _⟩ => ⟨S16384x2048, .f32⟩
  | .hbm, ⟨47, _⟩ => ⟨S_, .f32⟩
  | .hbm, ⟨48, _⟩ => ⟨S16384x2048, .f32⟩
  | .hbm, ⟨49, _⟩ => ⟨S16384x2048, .f32⟩
  | .hbm, ⟨50, _⟩ => ⟨S16384x1024, .f32⟩
  | .hbm, ⟨51, _⟩ => ⟨S1024x2048, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S2048x2048, .f32⟩
  | .hbm, ⟨56, _⟩ => ⟨S16384x2048, .f32⟩
  | .hbm, ⟨57, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel4.lean ====
abbrev S16384x2048 : Shape := ⟨2, ![16384, 2048]⟩
abbrev S1x2048 : Shape := ⟨2, ![1, 2048]⟩
abbrev S1x2048x6728 : Shape := ⟨3, ![1, 2048, 6728]⟩
abbrev S2048 : Shape := ⟨1, ![2048]⟩
abbrev S2048x6728 : Shape := ⟨2, ![2048, 6728]⟩
abbrev S2048x1536 : Shape := ⟨2, ![2048, 1536]⟩
abbrev S16384x1024 : Shape := ⟨2, ![16384, 1024]⟩
abbrev S16384x256 : Shape := ⟨2, ![16384, 256]⟩
abbrev S512x2048 : Shape := ⟨2, ![512, 2048]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S512x1536 : Shape := ⟨2, ![512, 1536]⟩

abbrev nBuf : Space → Nat
  | .hbm => 12
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x6728, .f32⟩
  | .hbm, ⟨3, _⟩ => ⟨S2048, .f32⟩
  | .hbm, ⟨4, _⟩ => ⟨S1x2048, .f32⟩
  | .hbm, ⟨5, _⟩ => ⟨S2048x6728, .f32⟩
  | .hbm, ⟨6, _⟩ => ⟨S2048x1536, .f32⟩
  | .hbm, ⟨7, _⟩ => ⟨S2048x1536, .bf16⟩
  | .hbm, ⟨8, _⟩ => ⟨S16384x1024, .bf16⟩
  | .hbm, ⟨9, _⟩ => ⟨S16384x256, .f32⟩
  | .hbm, ⟨10, _⟩ => ⟨S16384x256, .f32⟩
  | .hbm, ⟨11, _⟩ => ⟨S16384x256, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1536, .bf16⟩
  | .local _ .vmem, ⟨4, _⟩ => ⟨S512x1024, .bf16⟩
  | .local _ .vmem, ⟨5, _⟩ => ⟨S512x1024, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .bf16⟩
  | .local _ .vmem, ⟨11, _⟩ => ⟨S512x256, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x2048 : Shape := ⟨2, ![16384, 2048]⟩
abbrev S1x2048 : Shape := ⟨2, ![1, 2048]⟩
abbrev S1x2048x6728 : Shape := ⟨3, ![1, 2048, 6728]⟩
abbrev S_ : Shape := ⟨0, ![]⟩
abbrev S16384 : Shape := ⟨1, ![16384]⟩
abbrev S16384x1 : Shape := ⟨2, ![16384, 1]⟩
abbrev S2048 : Shape := ⟨1, ![2048]⟩
abbrev S2048x6728 : Shape := ⟨2, ![2048, 6728]⟩
abbrev S2048x1536 : Shape := ⟨2, ![2048, 1536]⟩
abbrev S16384x1536 : Shape := ⟨2, ![16384, 1536]⟩
abbrev S16384x1024 : Shape := ⟨2, ![16384, 1024]⟩
abbrev S16384x256 : Shape := ⟨2, ![16384, 256]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x6728, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S2048x6728, .f32⟩
  | .hbm, ⟨21, _⟩ => ⟨S2048x1536, .f32⟩
  | .hbm, ⟨22, _⟩ => ⟨S16384x1536, .f32⟩
  | .hbm, ⟨23, _⟩ => ⟨S16384x1024, .f32⟩
  | .hbm, ⟨24, _⟩ => ⟨S16384x256, .f32⟩
  | .hbm, ⟨25, _⟩ => ⟨S16384x256, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S16384x1024, .bf16⟩
  | .hbm, ⟨30, _⟩ => ⟨S16384x256, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel5.lean ====
abbrev S16384x2048 : Shape := ⟨2, ![16384, 2048]⟩
abbrev S1x2048 : Shape := ⟨2, ![1, 2048]⟩
abbrev S1x2048x6728 : Shape := ⟨3, ![1, 2048, 6728]⟩
abbrev S1x8 : Shape := ⟨2, ![1, 8]⟩
abbrev S1x512 : Shape := ⟨2, ![1, 512]⟩
abbrev S2048x6728 : Shape := ⟨2, ![2048, 6728]⟩
abbrev S2048x64 : Shape := ⟨2, ![2048, 64]⟩
abbrev S2048x1024 : Shape := ⟨2, ![2048, 1024]⟩
abbrev S_ : Shape := ⟨0, ![]⟩
abbrev S2048x32 : Shape := ⟨2, ![2048, 32]⟩
abbrev S2048x8 : Shape := ⟨2, ![2048, 8]⟩
abbrev S2048x120 : Shape := ⟨2, ![2048, 120]⟩
abbrev S2048x1408 : Shape := ⟨2, ![2048, 1408]⟩
abbrev S8 : Shape := ⟨1, ![8]⟩
abbrev S120 : Shape := ⟨1, ![120]⟩
abbrev S128 : Shape := ⟨1, ![128]⟩
abbrev S1x128 : Shape := ⟨2, ![1, 128]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x128 : Shape := ⟨2, ![2048, 128]⟩
abbrev S512 : Shape := ⟨1, ![512]⟩
abbrev S16384x512 : Shape := ⟨2, ![16384, 512]⟩
abbrev S16384x64 : Shape := ⟨2, ![16384, 64]⟩
abbrev S16384x128 : Shape := ⟨2, ![16384, 128]⟩
abbrev S16384x8 : Shape := ⟨2, ![16384, 8]⟩
abbrev S512x2048 : Shape := ⟨2, ![512, 2048]⟩
abbrev S512x128 : Shape := ⟨2, ![512, 128]⟩
abbrev S512x512 : Shape := ⟨2, ![512, 512]⟩
abbrev S512x64 : Shape := ⟨2, ![512, 64]⟩
abbrev S512x8 : Shape := ⟨2, ![512, 8]⟩
abbrev S512x1 : Shape := ⟨2, ![512, 1]⟩
abbrev S512x1408 : Shape := ⟨2, ![512, 1408]⟩

abbrev nBuf : Space → Nat
  | .hbm => 70
  | .vmem => 25
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1x2048x6728, .f32⟩
  | .hbm, ⟨3, _⟩ => ⟨S1x8, .f32⟩
  | .hbm, ⟨4, _⟩ => ⟨S1x512, .f32⟩
  | .hbm, ⟨5, _⟩ => ⟨S1x512, .f32⟩
  | .hbm, ⟨6, _⟩ => ⟨S2048x6728, .f32⟩
  | .hbm, ⟨7, _⟩ => ⟨S2048x64, .f32⟩
  | .hbm, ⟨8, _⟩ => ⟨S2048x1024, .f32⟩
  | .hbm, ⟨9, _⟩ => ⟨S_, .f32⟩
  | .hbm, ⟨10, _⟩ => ⟨S2048x64, .f32⟩
  | .hbm, ⟨11, _⟩ => ⟨S2048x32, .f32⟩
  | .hbm, ⟨12, _⟩ => ⟨S2048x32, .f32⟩
  | .hbm, ⟨13, _⟩ => ⟨S2048x64, .f32⟩
  | .hbm, ⟨14, _⟩ => ⟨S_, .f32⟩
  | .hbm, ⟨15, _⟩ => ⟨S2048x64, .f32⟩
  | .hbm, ⟨16, _⟩ => ⟨S2048x8, .f32⟩
  | .hbm, ⟨17, _⟩ => ⟨S_, .f32⟩
  | .hbm, ⟨18, _⟩ => ⟨S2048x120, .f32⟩
  | .hbm, ⟨19, _⟩ => ⟨S2048x1408, .f32⟩
  | .hbm, ⟨20, _⟩ => ⟨S2048x1408, .bf16⟩
  | .hbm, ⟨21, _⟩ => ⟨S8, .f32⟩
  | .hbm, ⟨22, _⟩ => ⟨S_, .f32⟩
  | .hbm, ⟨23, _⟩ => ⟨S120, .f32⟩
  | .hbm, ⟨24, _⟩ => ⟨S128, .f32⟩
  | .hbm, ⟨25, _⟩ => ⟨S1x128, .f32⟩
  | .hbm, ⟨26, _⟩ => ⟨S2048, .i32⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S2048, .f32⟩
  | .hbm, ⟨45, _⟩ => ⟨S2048x1, .f32⟩
  | .hbm, ⟨46, _⟩ => ⟨S1x32, .f32⟩
  | .hbm, ⟨47, _⟩ => ⟨S2048x32, .f32⟩
  | .hbm, ⟨48, _⟩ => ⟨S2048x32, .f32⟩
  | .hbm, ⟨49, _⟩ => ⟨S2048x32, .f32⟩
  | .hbm, ⟨50, _⟩ => ⟨S2048x32, .f32⟩
  | .hbm, ⟨51, _⟩ => ⟨S2048x32, .f32⟩
  | .hbm, ⟨52, _⟩ => ⟨S_, .f32⟩
  | .hbm, ⟨53, _⟩ => ⟨S2048x64, .f32⟩
  | .hbm, ⟨54, _⟩ => ⟨S2048x128, .f32⟩
  | .hbm, ⟨55, _⟩ => ⟨S2048x32, .f32⟩
  | .hbm, ⟨56, _⟩ => ⟨S2048x128, .f32⟩
  | .hbm, ⟨57, _⟩ => ⟨S2048, .f32⟩
  | .hbm, ⟨58, _⟩ => ⟨S1x2048, .f32⟩
  | .hbm, ⟨59, _⟩ => ⟨S512, .f32⟩
  | .hbm, ⟨60, _⟩ => ⟨S1x512, .f32⟩
  | .hbm, ⟨61, _⟩ => ⟨S512, .f32⟩
  | .hbm, ⟨62, _⟩ => ⟨S1x512, .f32⟩
  | .hbm, ⟨63, _⟩ => ⟨S16384x512, .bf16⟩
  | .hbm, ⟨64, _⟩ => ⟨S16384x512, .f32⟩
  | .hbm, ⟨65, _⟩ => ⟨S16384x512, .bf16⟩
  | .hbm, ⟨66, _⟩ => ⟨S16384x64, .f32⟩
  | .hbm, ⟨67, _⟩ => ⟨S16384x128, .bf16⟩
  | .hbm, ⟨68, _⟩ => ⟨S16384x8, .f32⟩
  | .hbm, ⟨69, _⟩ => ⟨S16384x128, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x1408, .bf16⟩
  | .local _ .vmem, ⟨4, _⟩ => ⟨S1x512, .f32⟩
  | .local _ .vmem, ⟨5, _⟩ => ⟨S1x512, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x512, .bf16⟩
  | .local _ .vmem, ⟨12, _⟩ => ⟨S512x512, .bf16⟩
  | .local _ .vmem, ⟨13, _⟩ => ⟨S512x512, .f32⟩
  | .local _ .vmem, ⟨14, _⟩ => ⟨S512x512, .f32⟩
  | .local _ .vmem, ⟨15, _⟩ => ⟨S512x512, .bf16⟩
  | .local _ .vmem, ⟨16, _⟩ => ⟨S512x512, .bf16⟩
  | .local _ .vmem, ⟨17, _⟩ => ⟨S512x64, .f32⟩
  | .local _ .vmem, ⟨18, _⟩ => ⟨S512x64, .f32⟩
  | .local _ .vmem, ⟨19, _⟩ => ⟨S512x128, .bf16⟩
  | .local _ .vmem, ⟨20, _⟩ => ⟨S512x128, .bf16⟩
  | .local _ .vmem, ⟨21, _⟩ => ⟨S512x8, .f32⟩
  | .local _ .vmem, ⟨22, _⟩ => ⟨S512x8, .f32⟩
  | .local _ .vmem, ⟨23, _⟩ => ⟨S512x128, .f32⟩
  | .local _ .vmem, ⟨24, _⟩ => ⟨S512x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47_0 : Ref sig .tc := ⟨.hbm, 63, rfl⟩
abbrev main_v47_1 : Ref sig .tc := ⟨.hbm, 64, rfl⟩
abbrev main_v47_2 : Ref sig .tc := ⟨.hbm, 65, rfl⟩
abbrev main_v47_3 : Ref sig .tc := ⟨.hbm, 66, rfl⟩
abbrev main_v47_4 : Ref sig .tc := ⟨.hbm, 67, rfl⟩
abbrev main_v47_5 : Ref sig .tc := ⟨.hbm, 68, rfl⟩
abbrev main_v47_6 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x8 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference5Ideal.lean ====
abbrev S16384x2048 : Shape := ⟨2, ![16384, 2048]⟩
abbrev S1x2048 : Shape := ⟨2, ![1, 2048]⟩
abbrev S1x2048x6728 : Shape := ⟨3, ![1, 2048, 6728]⟩
abbrev S1x8 : Shape := ⟨2, ![1, 8]⟩
abbrev S1x512 : Shape := ⟨2, ![1, 512]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S16384 : Shape := ⟨1, ![16384]⟩
abbrev S16384x1 : Shape := ⟨2, ![16384, 1]⟩
abbrev S2048x6728 : Shape := ⟨2, ![2048, 6728]⟩
abbrev S2048x1096 : Shape := ⟨2, ![2048, 1096]⟩
abbrev S16384x1096 : Shape := ⟨2, ![16384, 1096]⟩
abbrev S16384x8 : Shape := ⟨2, ![16384, 8]⟩
abbrev S16384x512 : Shape := ⟨2, ![16384, 512]⟩
abbrev S16384x64 : Shape := ⟨2, ![16384, 64]⟩
abbrev S512 : Shape := ⟨1, ![512]⟩
abbrev S8 : Shape := ⟨1, ![8]⟩
abbrev S8x2048x64 : Shape := ⟨3, ![8, 2048, 64]⟩
abbrev S8x2048x32 : Shape := ⟨3, ![8, 2048, 32]⟩
abbrev S1x2048x32 : Shape := ⟨3, ![1, 2048, 32]⟩
abbrev S16384x128 : Shape := ⟨2, ![16384, 128]⟩
abbrev S16384x120 : Shape := ⟨2, ![16384, 120]⟩

abbrev nBuf : Space → Nat
  | .hbm => 138
  | .vmem => 0
  | .smem => 0
  | _ => 0

abbrev hbmTy0_0 (i : Nat) : BufTy := match i % 128 with
  | 0 => ⟨S16384x2048, .f32⟩
  | 1 => ⟨S1x2048, .f32⟩
  | 2 => ⟨S1x2048x6728, .f32⟩
  | 3 => ⟨S1x8, .f32⟩
  | 4 => ⟨S1x512, .f32⟩
  | 5 => ⟨S1x512, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S2048, .i32⟩
  | 21 => ⟨S_, .i32⟩
  | 22 => ⟨S2048, .i32⟩
  | 23 => ⟨S2048, .i32⟩
  | 24 => ⟨S2048, .f32⟩
  | 25 => ⟨S2048x1, .f32⟩
  | 26 => ⟨S1x32, .f32⟩
  | 27 => ⟨S2048x32, .f32⟩
  | 28 => ⟨S2048x32, .f32⟩
  | 29 => ⟨S2048x32, .f32⟩
  | 30 => ⟨S2048, .f32⟩
  | 31 => ⟨S16384x2048, .f32⟩
  | 32 => ⟨S_, .f32⟩
  | 33 => ⟨S16384, .f32⟩
  | 34 => ⟨S16384x1, .f32⟩
  | 35 => ⟨S_, .f32⟩
  | 36 => ⟨S16384x1, .f32⟩
  | 37 => ⟨S16384x1, .f32⟩
  | 38 => ⟨S_, .f32⟩
  | 39 => ⟨S16384x1, .f32⟩
  | 40 => ⟨S16384x1, .f32⟩
  | 41 => ⟨S16384x1, .f32⟩
  | 42 => ⟨S16384x2048, .f32⟩
  | 43 => ⟨S16384x2048, .f32⟩
  | 44 => ⟨S1x2048, .f32⟩
  | 45 => ⟨S16384x2048, .f32⟩
  | 46 => ⟨S16384x2048, .f32⟩
  | 47 => ⟨S2048x6728, .f32⟩
  | 48 => ⟨S2048x1096, .f32⟩
  | 49 => ⟨S16384x1096, .f32⟩
  | 50 => ⟨S16384x8, .f32⟩
  | 51 => ⟨S16384x512, .f32⟩
  | 52 => ⟨S16384x512, .f32⟩
  | 53 => ⟨S16384x64, .f32⟩
  | 54 => ⟨S512, .f32⟩
  | 55 => ⟨S16384x512, .f32⟩
  | 56 => ⟨S_, .f32⟩
  | 57 => ⟨S16384, .f32⟩
  | 58 => ⟨S16384x1, .f32⟩
  | 59 => ⟨S_, .f32⟩
  | 60 => ⟨S16384x1, .f32⟩
  | 61 => ⟨S16384x1, .f32⟩
  | 62 => ⟨S_, .f32⟩
  | 63 => ⟨S16384x1, .f32⟩
  | 64 => ⟨S16384x1, .f32⟩
  | 65 => ⟨S16384x1, .f32⟩
  | 66 => ⟨S16384x512, .f32⟩
  | 67 => ⟨S16384x512, .f32⟩
  | 68 => ⟨S1x512, .f32⟩
  | 69 => ⟨S16384x512, .f32⟩
  | 70 => ⟨S16384x512, .f32⟩
  | 71 => ⟨S512, .f32⟩
  | 72 => ⟨S16384x512, .f32⟩
  | 73 => ⟨S_, .f32⟩
  | 74 => ⟨S16384, .f32⟩
  | 75 => ⟨S16384x1, .f32⟩
  | 76 => ⟨S_, .f32⟩
  | 77 => ⟨S16384x1, .f32⟩
  | 78 => ⟨S16384x1, .f32⟩
  | 79 => ⟨S_, .f32⟩
  | 80 => ⟨S16384x1, .f32⟩
  | 81 => ⟨S16384x1, .f32⟩
  | 82 => ⟨S16384x1, .f32⟩
  | 83 => ⟨S16384x512, .f32⟩
  | 84 => ⟨S16384x512, .f32⟩
  | 85 => ⟨S1x512, .f32⟩
  | 86 => ⟨S16384x512, .f32⟩
  | 87 => ⟨S16384x512, .f32⟩
  | 88 => ⟨S8, .f32⟩
  | 89 => ⟨S1x8, .f32⟩
  | 90 => ⟨S16384x8, .f32⟩
  | 91 => ⟨S16384x8, .f32⟩
  | 92 => ⟨S16384x8, .f32⟩
  | 93 => ⟨S_, .f32⟩
  | 94 => ⟨S16384x8, .f32⟩
  | 95 => ⟨S16384x8, .f32⟩
  | 96 => ⟨S16384x8, .f32⟩
  | 97 => ⟨S16384x8, .f32⟩
  | 98 => ⟨S16384x8, .i1⟩
  | 99 => ⟨S16384x8, .f32⟩
  | 100 => ⟨S16384x8, .f32⟩
  | 101 => ⟨S16384x8, .f32⟩
  | 102 => ⟨S16384x8, .f32⟩
  | 103 => ⟨S16384x8, .f32⟩
  | 104 => ⟨S16384x8, .f32⟩
  | 105 => ⟨S16384x8, .f32⟩
  | 106 => ⟨S16384x8, .f32⟩
  | 107 => ⟨S16384x8, .f32⟩
  | 108 => ⟨S8x2048x64, .f32⟩
  | 109 => ⟨S8x2048x32, .f32⟩
  | 110 => ⟨S8x2048x32, .f32⟩
  | 111 => ⟨S2048x32, .f32⟩
  | 112 => ⟨S2048x32, .f32⟩
  | 113 => ⟨S1x2048x32, .f32⟩
  | 114 => ⟨S8x2048x32, .f32⟩
  | 115 => ⟨S8x2048x32, .f32⟩
  | 116 => ⟨S1x2048x32, .f32⟩
  | 117 => ⟨S8x2048x32, .f32⟩
  | 118 => ⟨S8x2048x32, .f32⟩
  | 119 => ⟨S8x2048x32, .f32⟩
  | 120 => ⟨S1x2048x32, .f32⟩
  | 121 => ⟨S8x2048x32, .f32⟩
  | 122 => ⟨S8x2048x32, .f32⟩
  | 123 => ⟨S1x2048x32, .f32⟩
  | 124 => ⟨S8x2048x32, .f32⟩
  | 125 => ⟨S8x2048x32, .f32⟩
  | 126 => ⟨S8x2048x32, .f32⟩
  | 127 => ⟨S8x2048x64, .f32⟩
  | _ => ⟨S16384x2048, .f32⟩

abbrev hbmTy0_1 (i : Nat) : BufTy := match i % 128 with
  | 0 => ⟨S16384x64, .f32⟩
  | 1 => ⟨S16384x512, .bf16⟩
  | 2 => ⟨S16384x512, .bf16⟩
  | 3 => ⟨S_, .f32⟩
  | 4 => ⟨S16384x64, .f32⟩
  | 5 => ⟨S16384x128, .f32⟩
  | 6 => ⟨S16384x128, .bf16⟩
  | 7 => ⟨S_, .f32⟩
  | 8 => ⟨S16384x120, .f32⟩
  | 9 => ⟨S16384x128, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩
abbrev main_cst_11 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_call0_v0 : Ref sig .tc := ⟨.hbm, 92, rfl⟩
abbrev main_call0_call0_cst : Ref sig .tc := ⟨.hbm, 93, rfl⟩
abbrev main_call0_call0_v0 : Ref sig .tc := ⟨.hbm, 94, rfl⟩
abbrev main_call0_call0_v1 : Ref sig .tc := ⟨.hbm, 95, rfl⟩
abbrev main_call0_call0_v2 : Ref sig .tc := ⟨.hbm, 96, rfl⟩
abbrev main_call0_call0_v3 : Ref sig .tc := ⟨.hbm, 97, rfl⟩
abbrev main_call0_call0_v4 : Ref sig .tc := ⟨.hbm, 98, rfl⟩
abbrev main_call0_call0_v5 : Ref sig .tc := ⟨.hbm, 99, rfl⟩
abbrev main_call0_call0_v6 : Ref sig .tc := ⟨.hbm, 100, rfl⟩
abbrev main_call0_call0_v7 : Ref sig .tc := ⟨.hbm, 101, rfl⟩
abbrev main_call0_call0_v8 : Ref sig .tc := ⟨.hbm, 102, rfl⟩
abbrev main_call0_call0_v9 : Ref sig .tc := ⟨.hbm, 103, rfl⟩
abbrev main_call0_call0_v10 : Ref sig .tc := ⟨.hbm, 104, rfl⟩
abbrev main_call0_call0_v11 : Ref sig .tc := ⟨.hbm, 105, rfl⟩
abbrev main_call0_v1 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_12 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_13 : Ref sig .tc := ⟨.hbm, 135, rfl⟩
abbrev main_v99 : Ref sig .tc := ⟨.hbm, 136, rfl⟩
abbrev main_v100 : Ref sig .tc := ⟨.hbm, 137, rfl⟩

abbrev nD : Nat := 1
abbrev τ : Topo := Topo.v7x

variable {F : FTy → Type} [FloatOps F]
-- ==== Kernel6.lean ====
abbrev S16384x2048 : Shape := ⟨2, ![16384, 2048]⟩
abbrev S16384x512 : Shape := ⟨2, ![16384, 512]⟩
abbrev S16384x256 : Shape := ⟨2, ![16384, 256]⟩
abbrev S256x512 : Shape := ⟨2, ![256, 512]⟩
abbrev S256x256 : Shape := ⟨2, ![256, 256]⟩
abbrev S128 : Shape := ⟨1, ![128]⟩
abbrev S_ : Shape := ⟨0, ![]⟩
abbrev S128x1 : Shape := ⟨2, ![128, 1]⟩
abbrev S32x512x256 : Shape := ⟨3, ![32, 512, 256]⟩
abbrev S32x256x512 : Shape := ⟨3, ![32, 256, 512]⟩
abbrev S128x512 : Shape := ⟨2, ![128, 512]⟩
abbrev S128x256 : Shape := ⟨2, ![128, 256]⟩
abbrev S256x128 : Shape := ⟨2, ![256, 128]⟩
abbrev S16384x1024 : Shape := ⟨2, ![16384, 1024]⟩
abbrev S512x512 : Shape := ⟨2, ![512, 512]⟩
abbrev S2048x256 : Shape := ⟨2, ![2048, 256]⟩
abbrev S4x128x512 : Shape := ⟨3, ![4, 128, 512]⟩
abbrev S128x128 : Shape := ⟨2, ![128, 128]⟩
abbrev S512x256 : Shape := ⟨2, ![512, 256]⟩
abbrev S1x512 : Shape := ⟨2, ![1, 512]⟩
abbrev S512 : Shape := ⟨1, ![512]⟩
abbrev S1x128x512 : Shape := ⟨3, ![1, 128, 512]⟩
abbrev S512x128 : Shape := ⟨2, ![512, 128]⟩

abbrev nBuf : Space → Nat
  | .hbm => 24
  | .vmem => 12
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S16384x256, .bf16⟩
  | .hbm, ⟨3, _⟩ => ⟨S256x512, .bf16⟩
  | .hbm, ⟨4, _⟩ => ⟨S256x256, .bf16⟩
  | .hbm, ⟨5, _⟩ => ⟨S128, .i32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S128x1, .i1⟩
  | .hbm, ⟨10, _⟩ => ⟨S32x512x256, .bf16⟩
  | .hbm, ⟨11, _⟩ => ⟨S32x256x512, .bf16⟩
  | .hbm, ⟨12, _⟩ => ⟨S128x512, .bf16⟩
  | .hbm, ⟨13, _⟩ => ⟨S_, .bf16⟩
  | .hbm, ⟨14, _⟩ => ⟨S128x512, .i1⟩
  | .hbm, ⟨15, _⟩ => ⟨S128x512, .bf16⟩
  | .hbm, ⟨16, _⟩ => ⟨S128x512, .bf16⟩
  | .hbm, ⟨17, _⟩ => ⟨S128x256, .bf16⟩
  | .hbm, ⟨18, _⟩ => ⟨S_, .bf16⟩
  | .hbm, ⟨19, _⟩ => ⟨S128x256, .i1⟩
  | .hbm, ⟨20, _⟩ => ⟨S128x256, .bf16⟩
  | .hbm, ⟨21, _⟩ => ⟨S128x256, .bf16⟩
  | .hbm, ⟨22, _⟩ => ⟨S256x128, .bf16⟩
  | .hbm, ⟨23, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S2048x256, .bf16⟩
  | .local _ .vmem, ⟨3, _⟩ => ⟨S2048x256, .bf16⟩
  | .local _ .vmem, ⟨4, _⟩ => ⟨S4x128x512, .bf16⟩
  | .local _ .vmem, ⟨5, _⟩ => ⟨S4x128x512, .bf16⟩
  | .local _ .vmem, ⟨6, _⟩ => ⟨S128x256, .bf16⟩
  | .local _ .vmem, ⟨7, _⟩ => ⟨S128x256, .bf16⟩
  | .local _ .vmem, ⟨8, _⟩ => ⟨S128x128, .bf16⟩
  | .local _ .vmem, ⟨9, _⟩ => ⟨S128x128, .bf16⟩
  | .local _ .vmem, ⟨10, _⟩ => ⟨S512x256, .bf16⟩
  | .local _ .vmem, ⟨11, _⟩ => ⟨S512x256, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_call1_v0 : Ref sig .tc := ⟨.hbm, 19, rfl⟩
abbrev main_call1_v1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_mult1 : BitVec 32 :=
  let c0_i32 : BitVec 32 := 0#32
  c0_i32
@[reducible] def k0_t1_loop (i : grid0.Coords) : Scf.Loop 32 :=
  let c0_i32_21 : BitVec 32 := 0#32
  let arg2 : BitVec 32 := BitVec.ofNat 32 (i 2).val
  let v57 : BitVec 32 := Scalar.subi arg2 c0_i32_21
  let c1_i32 : BitVec 32 := 1#32
  let v59 : BitVec 32 := Scalar.divsi v57 c1_i32
  let v60 : BitVec 32 := Scalar.muli v59 c1_i32
  let v61 : BitVec 32 := Scalar.addi c0_i32_21 v60
  let c1_i32_22 : BitVec 32 := 1#32
  ⟨c0_i32_21, v61, c1_i32_22⟩
def k0_mult2 (i : grid0.Coords) (k0_t1 : Fin (k0_t1_loop i).trips) : BitVec 32 :=
  let c0_i32_21 : BitVec 32 := 0#32
  let c1_i32_22 : BitVec 32 := 1#32
  let arg9 : BitVec 32 := Scf.iv c0_i32_21 c1_i32_22 k0_t1
  let c1_i32_37 : BitVec 32 := 1#32
  let v118 : BitVec 32 := Scalar.addi arg9 c1_i32_37
  let c512_i32 : BitVec 32 := 512#32
  let v119 : BitVec 32 := Scalar.muli v118 c512_i32
  v119
def k0_off1 (i : grid0.Coords) (k0_t1 : Fin (k0_t1_loop i).trips) : Fin 2 → Nat :=
  let c0_i32_21 : BitVec 32 := 0#32
  let c1_i32_22 : BitVec 32 := 1#32
  let arg9 : BitVec 32 := Scf.iv c0_i32_21 c1_i32_22 k0_t1
  let c1_i32_37 : BitVec 32 := 1#32
  let v118 : BitVec 32 := Scalar.addi arg9 c1_i32_37
  let c512_i32 : BitVec 32 := 512#32
  let v119 : BitVec 32 := Scalar.muli v118 c512_i32
  let v120 : BitVec 32 := v119
  let v121 : Index := Scalar.indexCast v120
  let c0_38 : Index := 0#32
  ![v121.toNat, 0]
def k0_off2 (i : grid0.Coords) (k0_t1 : Fin (k0_t1_loop i).trips) : Fin 3 → Nat :=
  let c0_i32_21 : BitVec 32 := 0#32
  let c1_i32_22 : BitVec 32 := 1#32
  let arg9 : BitVec 32 := Scf.iv c0_i32_21 c1_i32_22 k0_t1
  let v125 : Index := Scalar.indexCast arg9
  let c0_41 : Index := 0#32
  let c0_42 : Index := 0#32
  ![v125.toNat, 0, 0]
@[reducible] def k0_t2_loop (i : grid0.Coords) : Scf.Loop 32 :=
  let c0_i32_21 : BitVec 32 := 0#32
  let arg2 : BitVec 32 := BitVec.ofNat 32 (i 2).val
  let v57 : BitVec 32 := Scalar.subi arg2 c0_i32_21
  let c1_i32 : BitVec 32 := 1#32
  let v59 : BitVec 32 := Scalar.divsi v57 c1_i32
  let v60 : BitVec 32 := Scalar.muli v59 c1_i32
  let v61 : BitVec 32 := Scalar.addi c0_i32_21 v60
  let v58 : BitVec 32 := Scalar.addi c0_i32_21 v57
  let c1_i32_23 : BitVec 32 := 1#32
  ⟨v61, v58, c1_i32_23⟩
def k0_mult3 (i : grid0.Coords) (k0_t2 : Fin (k0_t2_loop i).trips) : BitVec 32 :=
  let c0_i32_21 : BitVec 32 := 0#32
  let arg2 : BitVec 32 := BitVec.ofNat 32 (i 2).val
  let v57 : BitVec 32 := Scalar.subi arg2 c0_i32_21
  let c1_i32 : BitVec 32 := 1#32
  let v59 : BitVec 32 := Scalar.divsi v57 c1_i32
  let v60 : BitVec 32 := Scalar.muli v59 c1_i32
  let v61 : BitVec 32 := Scalar.addi c0_i32_21 v60
  let c1_i32_23 : BitVec 32 := 1#32
  let arg9 : BitVec 32 := Scf.iv v61 c1_i32_23 k0_t2
  let c1_i32_37 : BitVec 32 := 1#32
  let v118 : BitVec 32 := Scalar.addi arg9 c1_i32_37
  let c512_i32 : BitVec 32 := 512#32
  let v119 : BitVec 32 := Scalar.muli v118 c512_i32
  v119
def k0_off3 (i : grid0.Coords) (k0_t2 : Fin (k0_t2_loop i).trips) : Fin 2 → Nat :=
  let c0_i32_21 : BitVec 32 := 0#32
  let arg2 : BitVec 32 := BitVec.ofNat 32 (i 2).val
  let v57 : BitVec 32 := Scalar.subi arg2 c0_i32_21
  let c1_i32 : BitVec 32 := 1#32
  let v59 : BitVec 32 := Scalar.divsi v57 c1_i32
  let v60 : BitVec 32 := Scalar.muli v59 c1_i32
  let v61 : BitVec 32 := Scalar.addi c0_i32_21 v60
  let c1_i32_23 : BitVec 32 := 1#32
  let arg9 : BitVec 32 := Scf.iv v61 c1_i32_23 k0_t2
  let c1_i32_37 : BitVec 32 := 1#32
  let v118 : BitVec 32 := Scalar.addi arg9 c1_i32_37
  let c512_i32 : BitVec 32 := 512#32
  let v119 : BitVec 32 := Scalar.muli v118 c512_i32
  let v120 : BitVec 32 := v119
  let v121 : Index := Scalar.indexCast v120
  let c0_38 : Index := 0#32
  ![v121.toNat, 0]
def k0_off4 (i : grid0.Coords) (k0_t2 : Fin (k0_t2_loop i).trips) : Fin 3 → Nat :=
  let c0_i32_21 : BitVec 32 := 0#32
  let arg2 : BitVec 32 := BitVec.ofNat 32 (i 2).val
  let v57 : BitVec 32 := Scalar.subi arg2 c0_i32_21
  let c1_i32 : BitVec 32 := 1#32
  let v59 : BitVec 32 := Scalar.divsi v57 c1_i32
  let v60 : BitVec 32 := Scalar.muli v59 c1_i32
  let v61 : BitVec 32 := Scalar.addi c0_i32_21 v60
  let c1_i32_23 : BitVec 32 := 1#32
  let arg9 : BitVec 32 := Scf.iv v61 c1_i32_23 k0_t2
  let v125 : Index := Scalar.indexCast arg9
  let c0_41 : Index := 0#32
  let c0_42 : Index := 0#32
  ![v125.toNat, 0, 0]
def k0_off5 (i : grid0.Coords) : Fin 3 → Nat :=
  let arg2 : BitVec 32 := BitVec.ofNat 32 (i 2).val
  let v66 : Index := Scalar.indexCast arg2
  let c0_24 : Index := 0#32
  let c0_25 : Index := 0#32
  ![v66.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  ![arg0.toNat, v17.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![arg0.toNat, v17.toNat, c0_i32_4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![c0_i32_4.toNat, v17.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel6Ideal.lean ====
variable {F : FTy → Type} [FloatOps F] [Named F]
def κ : String → Option EReal := fun
  | "mask" => some ⊥
  | _ => none
-- ==== Reference6Ideal.lean ====
abbrev S16384x2048 : Shape := ⟨2, ![16384, 2048]⟩
abbrev S16384x512 : Shape := ⟨2, ![16384, 512]⟩
abbrev S16384x256 : Shape := ⟨2, ![16384, 256]⟩
abbrev S256x512 : Shape := ⟨2, ![256, 512]⟩
abbrev S256x256 : Shape := ⟨2, ![256, 256]⟩
abbrev S8x2048x2x4x256 : Shape := ⟨5, ![8, 2048, 2, 4, 256]⟩
abbrev S16x512 : Shape := ⟨2, ![16, 512]⟩
abbrev S1x16x512 : Shape := ⟨3, ![1, 16, 512]⟩
abbrev S8x16x512 : Shape := ⟨3, ![8, 16, 512]⟩
abbrev S8x2048x512 : Shape := ⟨3, ![8, 2048, 512]⟩
abbrev S8x2064x512 : Shape := ⟨3, ![8, 2064, 512]⟩
abbrev S8x2064x2x256 : Shape := ⟨4, ![8, 2064, 2, 256]⟩
abbrev S16x256 : Shape := ⟨2, ![16, 256]⟩
abbrev S1x16x256 : Shape := ⟨3, ![1, 16, 256]⟩
abbrev S8x16x256 : Shape := ⟨3, ![8, 16, 256]⟩
abbrev S8x2048x256 : Shape := ⟨3, ![8, 2048, 256]⟩
abbrev S8x2064x256 : Shape := ⟨3, ![8, 2064, 256]⟩
abbrev S8x2064x2x128 : Shape := ⟨4, ![8, 2064, 2, 128]⟩
abbrev S8x2x2064x2048x4 : Shape := ⟨5, ![8, 2, 2064, 2048, 4]⟩
abbrev S8x2x4x2048x2064 : Shape := ⟨5, ![8, 2, 4, 2048, 2064]⟩
abbrev S2064 : Shape := ⟨1, ![2064]⟩
abbrev S1x2064 : Shape := ⟨2, ![1, 2064]⟩
abbrev S2048 : Shape := ⟨1, ![2048]⟩
abbrev S2048x1 : Shape := ⟨2, ![2048, 1]⟩
abbrev S_ : Shape := ⟨0, ![]⟩
abbrev S2048x2064 : Shape := ⟨2, ![2048, 2064]⟩
abbrev S8x2x4x2048 : Shape := ⟨4, ![8, 2, 4, 2048]⟩
abbrev S8x2x4x2048x1 : Shape := ⟨5, ![8, 2, 4, 2048, 1]⟩
abbrev S8x2x128x4x2048 : Shape := ⟨5, ![8, 2, 128, 4, 2048]⟩
abbrev S8x2048x2x4x128 : Shape := ⟨5, ![8, 2048, 2, 4, 128]⟩
abbrev S16384x1024 : Shape := ⟨2, ![16384, 1024]⟩

abbrev nBuf : Space → Nat
  | .hbm => 58
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S16384x256, .bf16⟩
  | .hbm, ⟨3, _⟩ => ⟨S256x512, .bf16⟩
  | .hbm, ⟨4, _⟩ => ⟨S256x256, .bf16⟩
  | .hbm, ⟨5, _⟩ => ⟨S16384x2048, .f32⟩
  | .hbm, ⟨6, _⟩ => ⟨S8x2048x2x4x256, .f32⟩
  | .hbm, ⟨7, _⟩ => ⟨S256x512, .f32⟩
  | .hbm, ⟨8, _⟩ => ⟨S16x512, .f32⟩
  | .hbm, ⟨9, _⟩ => ⟨S1x16x512, .f32⟩
  | .hbm, ⟨10, _⟩ => ⟨S8x16x512, .f32⟩
  | .hbm, ⟨11, _⟩ => ⟨S16384x512, .f32⟩
  | .hbm, ⟨12, _⟩ => ⟨S8x2048x512, .f32⟩
  | .hbm, ⟨13, _⟩ => ⟨S8x2064x512, .f32⟩
  | .hbm, ⟨14, _⟩ => ⟨S8x2064x2x256, .f32⟩
  | .hbm, ⟨15, _⟩ => ⟨S256x256, .f32⟩
  | .hbm, ⟨16, _⟩ => ⟨S16x256, .f32⟩
  | .hbm, ⟨17, _⟩ => ⟨S1x16x256, .f32⟩
  | .hbm, ⟨18, _⟩ => ⟨S8x16x256, .f32⟩
  | .hbm, ⟨19, _⟩ => ⟨S16384x256, .f32⟩
  | .hbm, ⟨20, _⟩ => ⟨S8x2048x256, .f32⟩
  | .hbm, ⟨21, _⟩ => ⟨S8x2064x256, .f32⟩
  | .hbm, ⟨22, _⟩ => ⟨S8x2064x2x128, .f32⟩
  | .hbm, ⟨23, _⟩ => ⟨S8x2x2064x2048x4, .f32⟩
  | .hbm, ⟨24, _⟩ => ⟨S8x2x4x2048x2064, .f32⟩
  | .hbm, ⟨25, _⟩ => ⟨S2064, .i32⟩
  | .hbm, ⟨26, _⟩ => ⟨S1x2064, .i32⟩
  | .hbm, ⟨27, _⟩ => ⟨S2048, .i32⟩
  | .hbm, ⟨28, _⟩ => ⟨S2048x1, .i32⟩
  | .hbm, ⟨29, _⟩ => ⟨S_, .i32⟩
  | .hbm, ⟨30, _⟩ => ⟨S2048x1, .i32⟩
  | .hbm, ⟨31, _⟩ => ⟨S2048x1, .i32⟩
  | .hbm, ⟨32, _⟩ => ⟨S2048x2064, .i32⟩
  | .hbm, ⟨33, _⟩ => ⟨S2048x2064, .i32⟩
  | .hbm, ⟨34, _⟩ => ⟨S2048x2064, .i1⟩
  | .hbm, ⟨35, _⟩ => ⟨S_, .f32⟩
  | .hbm, ⟨36, _⟩ => ⟨S_, .f32⟩
  | .hbm, ⟨37, _⟩ => ⟨S8x2x4x2048x2064, .i1⟩
  | .hbm, ⟨38, _⟩ => ⟨S8x2x4x2048x2064, .f32⟩
  | .hbm, ⟨39, _⟩ => ⟨S8x2x4x2048x2064, .f32⟩
  | .hbm, ⟨40, _⟩ => ⟨S_, .f32⟩
  | .hbm, ⟨41, _⟩ => ⟨S8x2x4x2048, .f32⟩
  | .hbm, ⟨42, _⟩ => ⟨S_, .f32⟩
  | .hbm, ⟨43, _⟩ => ⟨S8x2x4x2048, .f32⟩
  | .hbm, ⟨44, _⟩ => ⟨S8x2x4x2048, .f32⟩
  | .hbm, ⟨45, _⟩ => ⟨S8x2x4x2048x1, .f32⟩
  | .hbm, ⟨46, _⟩ => ⟨S8x2x4x2048x2064, .f32⟩
  | .hbm, ⟨47, _⟩ => ⟨S8x2x4x2048x2064, .f32⟩
  | .hbm, ⟨48, _⟩ => ⟨S8x2x4x2048x2064, .f32⟩
  | .hbm, ⟨49, _⟩ => ⟨S_, .f32⟩
  | .hbm, ⟨50, _⟩ => ⟨S8x2x4x2048, .f32⟩
  | .hbm, ⟨51, _⟩ => ⟨S8x2x4x2048x1, .f32⟩
  | .hbm, ⟨52, _⟩ => ⟨S8x2x4x2048x2064, .f32⟩
  | .hbm, ⟨53, _⟩ => ⟨S8x2x4x2048x2064, .f32⟩
  | .hbm, ⟨54, _⟩ => ⟨S8x2x128x4x2048, .f32⟩
  | .hbm, ⟨55, _⟩ => ⟨S8x2048x2x4x128, .f32⟩
  | .hbm, ⟨56, _⟩ => ⟨S16384x1024, .f32⟩
  | .hbm, ⟨57, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_c : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v29 : Ref sig .tc := ⟨.hbm, 39, rfl⟩
abbrev main_cst_0 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel7.lean ====
abbrev S16384x512 : Shape := ⟨2, ![16384, 512]⟩
abbrev S1x512x1536 : Shape := ⟨3, ![1, 512, 1536]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S2048x128 : Shape := ⟨2, ![2048, 128]⟩
abbrev S512x1536 : Shape := ⟨2, ![512, 1536]⟩
abbrev S512x8x192 : Shape := ⟨3, ![512, 8, 192]⟩
abbrev S512x8x64 : Shape := ⟨3, ![512, 8, 64]⟩
abbrev S512x8x128 : Shape := ⟨3, ![512, 8, 128]⟩
abbrev S512x8x32 : Shape := ⟨3, ![512, 8, 32]⟩
abbrev S512x8x384 : Shape := ⟨3, ![512, 8, 384]⟩
abbrev S512x3072 : Shape := ⟨2, ![512, 3072]⟩
abbrev S16384x2048 : Shape := ⟨2, ![16384, 2048]⟩
abbrev S512x512 : Shape := ⟨2, ![512, 512]⟩
abbrev S512x128 : Shape := ⟨2, ![512, 128]⟩
abbrev S512x2048 : Shape := ⟨2, ![512, 2048]⟩

abbrev nBuf : Space → Nat
  | .hbm => 47
  | .vmem => 9
  | .smem => 0
  | _ => 0

abbrev bufTy : (tb : Table) → Fin (tcTables nBuf tb) → BufTy
  | .hbm, ⟨0, _⟩ => ⟨S16384x512, .bf16⟩
  | .hbm, ⟨1, _⟩ => ⟨S1x512x1536, .f32⟩
  | .hbm, ⟨2, _⟩ => ⟨S2048, .i32⟩
  | .hbm, ⟨3, _⟩ => ⟨S_, .i32⟩
  | .hbm, ⟨4, _⟩ => ⟨S2048, .i32⟩
  | .hbm, ⟨5, _⟩ => ⟨S2048, .i32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S2048, .f32⟩
  | .hbm, ⟨21, _⟩ => ⟨S2048x1, .f32⟩
  | .hbm, ⟨22, _⟩ => ⟨S1x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S_, .f32⟩
  | .hbm, ⟨29, _⟩ => ⟨S2048x64, .f32⟩
  | .hbm, ⟨30, _⟩ => ⟨S2048x128, .f32⟩
  | .hbm, ⟨31, _⟩ => ⟨S2048x32, .f32⟩
  | .hbm, ⟨32, _⟩ => ⟨S2048x128, .f32⟩
  | .hbm, ⟨33, _⟩ => ⟨S512x1536, .f32⟩
  | .hbm, ⟨34, _⟩ => ⟨S512x8x192, .f32⟩
  | .hbm, ⟨35, _⟩ => ⟨S_, .f32⟩
  | .hbm, ⟨36, _⟩ => ⟨S512x8x64, .f32⟩
  | .hbm, ⟨37, _⟩ => ⟨S512x8x128, .f32⟩
  | .hbm, ⟨38, _⟩ => ⟨S512x8x64, .f32⟩
  | .hbm, ⟨39, _⟩ => ⟨S512x8x64, .f32⟩
  | .hbm, ⟨40, _⟩ => ⟨S512x8x32, .f32⟩
  | .hbm, ⟨41, _⟩ => ⟨S512x8x32, .f32⟩
  | .hbm, ⟨42, _⟩ => ⟨S512x8x64, .f32⟩
  | .hbm, ⟨43, _⟩ => ⟨S512x8x384, .f32⟩
  | .hbm, ⟨44, _⟩ => ⟨S512x3072, .f32⟩
  | .hbm, ⟨45, _⟩ => ⟨S512x3072, .bf16⟩
  | .hbm, ⟨46, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S512x3072, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x2048, .bf16⟩
  | .local _ .vmem, ⟨8, _⟩ => ⟨S512x2048, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S16384x512 : Shape := ⟨2, ![16384, 512]⟩
abbrev S1x512x1536 : Shape := ⟨3, ![1, 512, 1536]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S512x1536 : Shape := ⟨2, ![512, 1536]⟩
abbrev S16384x1536 : Shape := ⟨2, ![16384, 1536]⟩
abbrev S8x2048x8x192 : Shape := ⟨4, ![8, 2048, 8, 192]⟩
abbrev S8x2048x8x128 : Shape := ⟨4, ![8, 2048, 8, 128]⟩
abbrev S8x2048x8x64 : Shape := ⟨4, ![8, 2048, 8, 64]⟩
abbrev S8x2048x8x32 : Shape := ⟨4, ![8, 2048, 8, 32]⟩
abbrev S1x2048x1x32 : Shape := ⟨4, ![1, 2048, 1, 32]⟩
abbrev S8x2048x8x256 : Shape := ⟨4, ![8, 2048, 8, 256]⟩
abbrev S16384x2048 : Shape := ⟨2, ![16384, 2048]⟩

abbrev nBuf : Space → Nat
  | .hbm => 62
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S1x512x1536, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i32⟩
  | .hbm, ⟨20, _⟩ => ⟨S2048, .f32⟩
  | .hbm, ⟨21, _⟩ => ⟨S2048x1, .f32⟩
  | .hbm, ⟨22, _⟩ => ⟨S1x32, .f32⟩
  | .hbm, ⟨23, _⟩ => ⟨S2048x32, .f32⟩
  | .hbm, ⟨24, _⟩ => ⟨S2048x32, .f32⟩
  | .hbm, ⟨25, _⟩ => ⟨S2048x32, .f32⟩
  | .hbm, ⟨26, _⟩ => ⟨S2048x32, .f32⟩
  | .hbm, ⟨27, _⟩ => ⟨S2048x1x32, .f32⟩
  | .hbm, ⟨28, _⟩ => ⟨S2048x32, .f32⟩
  | .hbm, ⟨29, _⟩ => ⟨S2048x1x32, .f32⟩
  | .hbm, ⟨30, _⟩ => ⟨S16384x512, .f32⟩
  | .hbm, ⟨31, _⟩ => ⟨S512x1536, .f32⟩
  | .hbm, ⟨32, _⟩ => ⟨S16384x1536, .f32⟩
  | .hbm, ⟨33, _⟩ => ⟨S8x2048x8x192, .f32⟩
  | .hbm, ⟨34, _⟩ => ⟨S8x2048x8x128, .f32⟩
  | .hbm, ⟨35, _⟩ => ⟨S8x2048x8x64, .f32⟩
  | .hbm, ⟨36, _⟩ => ⟨S8x2048x8x32, .f32⟩
  | .hbm, ⟨37, _⟩ => ⟨S8x2048x8x32, .f32⟩
  | .hbm, ⟨38, _⟩ => ⟨S1x2048x1x32, .f32⟩
  | .hbm, ⟨39, _⟩ => ⟨S8x2048x8x32, .f32⟩
  | .hbm, ⟨40, _⟩ => ⟨S8x2048x8x32, .f32⟩
  | .hbm, ⟨41, _⟩ => ⟨S1x2048x1x32, .f32⟩
  | .hbm, ⟨42, _⟩ => ⟨S8x2048x8x32, .f32⟩
  | .hbm, ⟨43, _⟩ => ⟨S8x2048x8x32, .f32⟩
  | .hbm, ⟨44, _⟩ => ⟨S8x2048x8x32, .f32⟩
  | .hbm, ⟨45, _⟩ => ⟨S1x2048x1x32, .f32⟩
  | .hbm, ⟨46, _⟩ => ⟨S8x2048x8x32, .f32⟩
  | .hbm, ⟨47, _⟩ => ⟨S8x2048x8x32, .f32⟩
  | .hbm, ⟨48, _⟩ => ⟨S1x2048x1x32, .f32⟩
  | .hbm, ⟨49, _⟩ => ⟨S8x2048x8x32, .f32⟩
  | .hbm, ⟨50, _⟩ => ⟨S8x2048x8x32, .f32⟩
  | .hbm, ⟨51, _⟩ => ⟨S8x2048x8x32, .f32⟩
  | .hbm, ⟨52, _⟩ => ⟨S8x2048x8x64, .f32⟩
  | .hbm, ⟨53, _⟩ => ⟨S8x2048x8x192, .f32⟩
  | .hbm, ⟨54, _⟩ => ⟨S_, .f32⟩
  | .hbm, ⟨55, _⟩ => ⟨S8x2048x8x192, .f32⟩
  | .hbm, ⟨56, _⟩ => ⟨S8x2048x8x192, .f32⟩
  | .hbm, ⟨57, _⟩ => ⟨S_, .i32⟩
  | .hbm, ⟨58, _⟩ => ⟨S_, .f32⟩
  | .hbm, ⟨59, _⟩ => ⟨S8x2048x8x256, .f32⟩
  | .hbm, ⟨60, _⟩ => ⟨S16384x2048, .f32⟩
  | .hbm, ⟨61, _⟩ => ⟨S16384x2048, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst_3 : Ref sig .tc := ⟨.hbm, 54, rfl⟩
abbrev main_v47 : Ref sig .tc := ⟨.hbm, 55, rfl⟩
abbrev main_v48 : Ref sig .tc := ⟨.hbm, 56, rfl⟩
abbrev main_c_4 : Ref sig .tc := ⟨.hbm, 57, rfl⟩
abbrev main_call0_v0 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩

abbrev nD : Nat := 1
abbrev τ : Topo := Topo.v7x

variable {F : FTy → Type} [FloatOps F]
-- ==== Kernel8.lean ====
abbrev S16384x512 : Shape := ⟨2, ![16384, 512]⟩
abbrev S16384x128 : Shape := ⟨2, ![16384, 128]⟩
abbrev S1x512x8x128 : Shape := ⟨4, ![1, 512, 8, 128]⟩
abbrev S512x8x128 : Shape := ⟨3, ![512, 8, 128]⟩
abbrev S512x1024 : Shape := ⟨2, ![512, 1024]⟩
abbrev S16384x2048 : Shape := ⟨2, ![16384, 2048]⟩
abbrev S16384x1024 : Shape := ⟨2, ![16384, 1024]⟩
abbrev S512x512 : Shape := ⟨2, ![512, 512]⟩
abbrev S512x128 : Shape := ⟨2, ![512, 128]⟩
abbrev S512x2048 : Shape := ⟨2, ![512, 2048]⟩

abbrev nBuf : Space → Nat
  | .hbm => 12
  | .vmem => 10
  | .smem => 0
  | _ => 0

abbrev bufTy : (tb : Table) → Fin (tcTables nBuf tb) → BufTy
  | .hbm, ⟨0, _⟩ => ⟨S16384x512, .bf16⟩
  | .hbm, ⟨1, _⟩ => ⟨S16384x128, .bf16⟩
  | .hbm, ⟨2, _⟩ => ⟨S1x512x8x128, .f32⟩
  | .hbm, ⟨3, _⟩ => ⟨S1x512x8x128, .f32⟩
  | .hbm, ⟨4, _⟩ => ⟨S512x8x128, .f32⟩
  | .hbm, ⟨5, _⟩ => ⟨S512x1024, .f32⟩
  | .hbm, ⟨6, _⟩ => ⟨S512x1024, .bf16⟩
  | .hbm, ⟨7, _⟩ => ⟨S512x8x128, .f32⟩
  | .hbm, ⟨8, _⟩ => ⟨S512x1024, .f32⟩
  | .hbm, ⟨9, _⟩ => ⟨S512x1024, .bf16⟩
  | .hbm, ⟨10, _⟩ => ⟨S16384x2048, .bf16⟩
  | .hbm, ⟨11, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x1024, .bf16⟩
  | .local _ .vmem, ⟨9, _⟩ => ⟨S512x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S16384x512 : Shape := ⟨2, ![16384, 512]⟩
abbrev S16384x128 : Shape := ⟨2, ![16384, 128]⟩
abbrev S1x512x8x128 : Shape := ⟨4, ![1, 512, 8, 128]⟩
abbrev S512x8x128 : Shape := ⟨3, ![512, 8, 128]⟩
abbrev S16384x8x128 : Shape := ⟨3, ![16384, 8, 128]⟩
abbrev S16384x1x128 : Shape := ⟨3, ![16384, 1, 128]⟩
abbrev S16384x8x256 : Shape := ⟨3, ![16384, 8, 256]⟩
abbrev S16384x2048 : Shape := ⟨2, ![16384, 2048]⟩
abbrev S16384x1024 : Shape := ⟨2, ![16384, 1024]⟩

abbrev nBuf : Space → Nat
  | .hbm => 17
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x128, .bf16⟩
  | .hbm, ⟨2, _⟩ => ⟨S1x512x8x128, .f32⟩
  | .hbm, ⟨3, _⟩ => ⟨S1x512x8x128, .f32⟩
  | .hbm, ⟨4, _⟩ => ⟨S16384x512, .f32⟩
  | .hbm, ⟨5, _⟩ => ⟨S512x8x128, .f32⟩
  | .hbm, ⟨6, _⟩ => ⟨S16384x8x128, .f32⟩
  | .hbm, ⟨7, _⟩ => ⟨S16384x128, .f32⟩
  | .hbm, ⟨8, _⟩ => ⟨S16384x1x128, .f32⟩
  | .hbm, ⟨9, _⟩ => ⟨S16384x8x128, .f32⟩
  | .hbm, ⟨10, _⟩ => ⟨S512x8x128, .f32⟩
  | .hbm, ⟨11, _⟩ => ⟨S16384x8x128, .f32⟩
  | .hbm, ⟨12, _⟩ => ⟨S16384x8x256, .f32⟩
  | .hbm, ⟨13, _⟩ => ⟨S16384x2048, .f32⟩
  | .hbm, ⟨14, _⟩ => ⟨S16384x2048, .bf16⟩
  | .hbm, ⟨15, _⟩ => ⟨S16384x1024, .f32⟩
  | .hbm, ⟨16, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Proof.Opened.lean ====
/- What the run of the attention's body found, opened: one trip of its loop, and the block it leaves. -/
module

public import proofs.«01_k».proof.Proof.Gen.KernelIdeal.Value
public import Idealize.ShloMosaic.Lib.Pipeline.ValueKit

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]

/-- What the loop carries: the scores of the tile to come, and per head `m`, `l` and the weighted sum. -/
abbrev Carry (F : FTy → Type) [FloatOps F] := FVec F S512x512 .f32 × FVec F S512x512 .f32 × FVec F S1x512 .f32 × FVec F S1x512 .f32 × FVec F S128x512 .f32 × FVec F S1x512 .f32 × FVec F S1x512 .f32 × FVec F S128x512 .f32

/-- The second of the two loops the compiler splits the trips into makes none. -/
theorem trips2 : ∀ i : grid0.Coords, (k0_t2_loop i).trips = 0 := by
  decide +kernel

/-- The first makes as many as the point's query block has key tiles before its own. -/
theorem trips1 : ∀ i : grid0.Coords, (k0_t1_loop i).trips = (i 2).val := by
  decide +kernel

section trip

variable (𝒱 : Variants) (c : Dev nD) (bd : Option 𝒱.V) (i : grid0.Coords) (arg3 : Memref sig .tc .vmem S512x512 .bf16) (harg3 : arg3.IsWhole) (arg4 : Memref sig .tc .vmem S2048x512 .bf16) (harg4 : arg4.IsWhole) (arg5 : Memref sig .tc .vmem S4x256x512 .bf16) (harg5 : arg5.IsWhole) (arg6 : Memref sig .tc .vmem S128x512 .bf16) (harg6 : arg6.IsWhole) (arg7 : Memref sig .tc .vmem S256x128 .bf16) (harg7 : arg7.IsWhole) (arg8 : Memref sig .tc .vmem S512x256 .bf16) (harg8 : arg8.IsWhole) (arg2 : BitVec 32) (v0 : Vec F S512x256 .bf16) (v1 : Vec F S512x256 .bf16) (v2 : FVec F S1x512 .f32) (v3 : FVec F S1x512 .f32) (v4 : FVec F S128x512 .f32) (v16 : FVec F S512x512 .f32) (v18 : FVec F S512x512 .f32) (v20 : FVec F S256x128 .bf16) (v24 : FVec F S128x512 .f32) (v26 : FVec F S128x512 .f32) (v29 : FVec F S1x512 .f32) (v32 : FVec F S1x512 .f32) (v34 : FVec F S1x512 .f32)
  (x1 : Vec F S2048x512 .bf16) (x2 : Vec F S4x256x512 .bf16)

/-- One trip: the scores of the next tile, and the running softmax of both heads over the tile carried in. -/
def tripV (k : Fin (k0_t1_loop i).trips) (a : Carry F) : Carry F :=
  let kt : Vec F S512x512 .bf16 := View.ld x1 (Rect.unit (s := S2048x512) (k0_off1 i k) S512x512.size (k0_off1_inb i k))
  let vt : Vec F S1x256x512 .bf16 := View.ld x2 (Rect.unit (s := S4x256x512) (k0_off2 i k) S1x256x512.size (k0_off2_inb i k))
  (k0_pay3 v0 kt, k0_pay4 v1 kt,
    k0_pay6 a.1 a.2.2.1, k0_pay12 a.1 a.2.2.1 a.2.2.2.1, k0_pay15 a.1 a.2.2.1 a.2.2.2.2.1 vt,
    k0_pay7 a.2.1 a.2.2.2.2.2.1, k0_pay13 a.2.1 a.2.2.2.2.2.1 a.2.2.2.2.2.2.1,
    k0_pay51 a.2.2.2.2.2.2.2 (k0_pay14 a.2.1 a.2.2.2.2.2.1 vt) (k0_pay16 a.2.1 a.2.2.2.2.2.1))

/-- The carried state after `k` trips. -/
def runV (init : Carry F) : ℕ → Carry F
  | 0 => init
  | k + 1 => if h : k < (k0_t1_loop i).trips then tripV i v0 v1 x1 x2 ⟨k, h⟩ (runV init k) else runV init k

theorem trip_open (k : Fin (k0_t1_loop i).trips) (acc : Carry F) :
    tripR_k0_t1 (F := F) 𝒱 c bd i arg3 harg3 arg4 harg4 arg5 harg5 arg6 harg6 arg7 harg7 arg8 harg8 arg2 v0 v1 v2 v3 v4 v16 v18 v20 v24 v26 v29 v32 v34 (harg4.unread x1) (harg5.unread x2) k acc
      = tripV i v0 v1 x1 x2 k acc := by
  unfold tripR_k0_t1 trip_k0_t1
  dsimp only
  sl_unfold_words
  simp only [View.readAt_eq_ld, harg4.read_unread, harg5.read_unread]
  rfl

theorem st_open (init : Carry F) : ∀ k, k ≤ (k0_t1_loop i).trips →
    st_k0_t1 (F := F) 𝒱 c bd i arg3 harg3 arg4 harg4 arg5 harg5 arg6 harg6 arg7 harg7 arg8 harg8 arg2 v0 v1 v2 v3 v4 v16 v18 v20 v24 v26 v29 v32 v34 (harg4.unread x1) (harg5.unread x2) init k
      = runV i v0 v1 x1 x2 init k
  | 0, _ => rfl
  | k + 1, h => by
    rw [st_k0_t1_succ 𝒱 c bd i arg3 harg3 arg4 harg4 arg5 harg5 arg6 harg6 arg7 harg7 arg8 harg8 arg2 v0 v1 v2 v3 v4 v16 v18 v20 v24 v26 v29 v32 v34 (harg4.unread x1) (harg5.unread x2) init ⟨k, h⟩,
      trip_open, runV, dif_pos (show k < _ from h), st_open init k (Nat.le_of_succ_le h)]

/-- No trip of the second loop: what it starts from is what it ends with. -/
theorem st2_open (X4 : BufTy.Contents (Elt F) arg4.view.ty) (X5 : BufTy.Contents (Elt F) arg5.view.ty) (a5 a6 a7 a8 a9 a10 a11 a12 a13) (init : Carry F) :
    st_k0_t2 (F := F) 𝒱 c bd i arg3 harg3 arg4 harg4 arg5 harg5 arg6 harg6 arg7 harg7 arg8 harg8 arg2 v0 v1 v2 v3 v4 a5 a6 a7 a8 a9 a10 a11 a12 a13 X4 X5 init
        (Scf.trips (Scalar.addi (0#32) (Scalar.muli (Scalar.divsi (Scalar.subi (BitVec.ofNat 32 (i 2).val) 0#32) 1#32) 1#32))
          (Scalar.addi (0#32) (Scalar.subi (BitVec.ofNat 32 (i 2).val) 0#32)) 1#32) = init := by
  have h : Scf.trips (Scalar.addi (0#32) (Scalar.muli (Scalar.divsi (Scalar.subi (BitVec.ofNat 32 (i 2).val) 0#32) 1#32) 1#32))
      (Scalar.addi (0#32) (Scalar.subi (BitVec.ofNat 32 (i 2).val) 0#32)) 1#32 = 0 := trips2 i
  rw [h]; rfl

end trip

/-- The state the loop starts from: the scores of tile 0 and the running softmax over the meta keys. -/
def entryV (q0 q1 : Vec F S512x256 .bf16) (k0 : Vec F S512x512 .bf16) (km : Vec F S128x512 .bf16) (vm : Vec F S256x128 .bf16) : Carry F :=
  (k0_pay35 q0 k0, k0_pay36 q1 k0,
    k0_pay41 q0 km, k0_pay47 (k0_pay32 (F := F)) (k0_pay39 q0 km) (k0_pay41 q0 km) (k0_pay43 q0 km),
    k0_pay49 (k0_pay33 (F := F)) (k0_pay37 vm) (k0_pay39 q0 km) (k0_pay41 q0 km) (k0_pay43 q0 km),
    k0_pay42 q1 km, k0_pay48 (k0_pay31 (F := F)) (k0_pay32 (F := F)) (k0_pay40 q1 km) (k0_pay42 q1 km),
    k0_pay50 (k0_pay31 (F := F)) (k0_pay33 (F := F)) (k0_pay37 vm) (k0_pay40 q1 km) (k0_pay42 q1 km))

/-- The carried state when the loop ends, from the windows' blocks. -/
def stateV (i : grid0.Coords) (x0 : Vec F S512x512 .bf16) (x1 : Vec F S2048x512 .bf16) (x2 : Vec F S4x256x512 .bf16) (x3 : Vec F S128x512 .bf16) (x4 : Vec F S256x128 .bf16) : Carry F :=
  let q0 : Vec F S512x256 .bf16 := View.ld x0 (Rect.unit (s := S512x512) ![0, 0] S512x256.size inb_S512x512_S512x256_0_0)
  let q1 : Vec F S512x256 .bf16 := View.ld x0 (Rect.unit (s := S512x512) ![0, 256] S512x256.size inb_S512x512_S512x256_0_256)
  let k0 : Vec F S512x512 .bf16 := View.ld x1 (Rect.unit (s := S2048x512) ![0, 0] S512x512.size inb_S2048x512_S512x512_0_0)
  runV i q0 q1 x1 x2 (entryV q0 q1 k0 x3 x4) (k0_t1_loop i).trips

theorem origin : (![0, 0] : Fin 2 → Nat) = fun _ => 0 := by funext a; fin_cases a <;> rfl

/-- Two pieces are equal when what they hold is. -/
theorem canon_pair {S : Shape} {e : EltTy} (r r' : Rect S) {P P' : r.shape.Idx → Elt F e} {Q Q' : r'.shape.Idx → Elt F e} (hP : P = P') (hQ : Q = Q') :
    View.canon (Val := Elt F) [⟨r, P⟩, ⟨r', Q⟩] = View.canon (Val := Elt F) [⟨r, P'⟩, ⟨r', Q'⟩] := by rw [hP, hQ]

set_option maxHeartbeats 2000000 in
theorem out_open  (c : Dev nD) (i : grid0.Coords) (arg3 : Memref sig .tc .vmem S512x512 .bf16) (harg3 : arg3.IsWhole) (arg4 : Memref sig .tc .vmem S2048x512 .bf16) (harg4 : arg4.IsWhole) (arg5 : Memref sig .tc .vmem S4x256x512 .bf16) (harg5 : arg5.IsWhole) (arg6 : Memref sig .tc .vmem S128x512 .bf16) (harg6 : arg6.IsWhole) (arg7 : Memref sig .tc .vmem S256x128 .bf16) (harg7 : arg7.IsWhole) (arg8 : Memref sig .tc .vmem S512x256 .bf16) (harg8 : arg8.IsWhole)
    (x0 : Vec F S512x512 .bf16) (x1 : Vec F S2048x512 .bf16) (x2 : Vec F S4x256x512 .bf16) (x3 : Vec F S128x512 .bf16) (x4 : Vec F S256x128 .bf16) :
    let a := stateV i x0 x1 x2 x3 x4
    let vt : Vec F S1x256x512 .bf16 := View.ld x2 (Rect.unit (s := S4x256x512) (k0_off5 i) S1x256x512.size (k0_off5_inb i))
    out0_A_5 c i arg3 harg3 arg4 harg4 arg5 harg5 arg6 harg6 arg7 harg7 arg8 harg8 x0 x1 x2 x3 x4
      = View.canon [⟨Rect.unit (s := S512x256) ![0, 128] S512x128.size inb_S512x256_S512x128_0_128,
            k0_pay2 a.2.2.2.2.2.1 a.2.2.2.2.2.2.1 a.2.2.2.2.2.2.2 (k0_pay53 vt) (k0_pay56 a.2.1)⟩,
          ⟨Rect.unit (s := S512x256) ![0, 0] S512x128.size inb_S512x256_S512x128_0_0,
            k0_pay1 a.2.2.1 a.2.2.2.1 a.2.2.2.2.1 (k0_pay53 vt) (k0_pay55 a.1) (k0_pay57 a.1)⟩] := by
  intro a vt
  unfold out0_A_5
  rw [View.read_writes_eq_canon _ _ _ (cover0_A_5 c i arg3 harg3 arg4 harg4 arg5 harg5 arg6 harg6 arg7 harg7 arg8 harg8 x0 x1 x2 x3 x4)]
  unfold kernelRun0_A
  dsimp only
  refine canon_pair _ _ ?_ ?_ <;> sl_unfold_words <;> simp only [st2_open, View.readAt_eq_ld, harg3.read_unread, harg4.read_unread, harg5.read_unread, harg6.read_unread, harg7.read_unread, st_open _ _ _ _ _ _ _ _ _ _ _ _ _ _ _ _ _ _ _ _ _ _ _ _ _ _ _ _ _ _ _ _ _ _ le_rfl,
    View.ld_unit_zero (S := S128x512) origin, View.ld_unit_zero (S := S256x128) origin] <;> rfl

end Cert.KernelIdeal.Value
end
-- ==== Proof.Soft.lean ====
/- The mathematics of the running softmax, over the extended reals and free of any program. -/
module

public import Idealize.ShloMosaic.PureOps.Ideal
public import Mathlib.Data.EReal.Inv

@[expose] public section

noncomputable section

namespace Cert.Soft

open Idealize.ShloMosaic Finset

/-- What the running softmax holds after the first `N` keys of a query: `m` their greatest score, `l` the sum of
    the weights relative to `m`, `a` the weighted sum of one component of the values. -/
structure Held (s v : ℕ → EReal) (N : ℕ) (m l a : EReal) : Prop where
  max : m = (range N).sup s
  sum : l = ∑ n ∈ range N, Ideal.exp (s n - m)
  acc : a = ∑ n ∈ range N, v n * Ideal.exp (s n - m)

/-- Before the first key: no score, no weight. -/
theorem Held.start (s v : ℕ → EReal) : Held s v 0 ⊥ 0 0 := ⟨by simp, by simp, by simp⟩

theorem exp_bot : Ideal.exp ⊥ = 0 := rfl

theorem exp_coe (r : ℝ) : Ideal.exp (r : EReal) = ((Real.exp r : ℝ) : EReal) := rfl

theorem bot_sub (x : EReal) : (⊥ : EReal) - x = ⊥ := by rw [sub_eq_add_neg, EReal.bot_add]

/-- Moving the reference point of a weight from `m` up to `m'` multiplies it by `exp (m - m')`. -/
theorem exp_shift {s m m' : EReal} (h : s ≤ m) (h' : m ≤ m') (ht : m' ≠ ⊤) :
    Ideal.exp (m - m') * Ideal.exp (s - m) = Ideal.exp (s - m') := by
  induction s using EReal.rec with
  | bot => rw [bot_sub, bot_sub, exp_bot, mul_zero]
  | top => exact absurd (top_le_iff.mp (h.trans h')) ht
  | coe s =>
    induction m using EReal.rec with
    | bot => exact absurd h (by simp)
    | top => exact absurd (top_le_iff.mp h') ht
    | coe m =>
      induction m' using EReal.rec with
      | bot => exact absurd h' (by simp)
      | top => exact absurd rfl ht
      | coe m' =>
        rw [← EReal.coe_sub, ← EReal.coe_sub, ← EReal.coe_sub, exp_coe, exp_coe, exp_coe, ← EReal.coe_mul, ← Real.exp_add]
        congr 2; ring

/-- The factor `exp (m - m')` is a nonnegative number. -/
theorem exp_shift_fin {m m' : EReal} (h' : m ≤ m') (ht : m' ≠ ⊤) :
    ∃ r : ℝ, 0 ≤ r ∧ Ideal.exp (m - m') = (r : EReal) := by
  induction m using EReal.rec with
  | bot => exact ⟨0, le_rfl, by rw [bot_sub, exp_bot]; rfl⟩
  | top => exact absurd (top_le_iff.mp h') ht
  | coe m =>
    induction m' using EReal.rec with
    | bot => exact absurd h' (by simp)
    | top => exact absurd rfl ht
    | coe m' => exact ⟨_, (Real.exp_pos _).le, by rw [← EReal.coe_sub, exp_coe]⟩

/-- A nonnegative number passes into a sum of extended reals, whatever they are. -/
theorem mul_sum_nonneg {r : ℝ} (hr : 0 ≤ r) (S : Finset ℕ) (f : ℕ → EReal) :
    (r : EReal) * ∑ n ∈ S, f n = ∑ n ∈ S, (r : EReal) * f n := by
  induction S using Finset.induction_on with
  | empty => simp
  | insert x S hx ih =>
    rw [sum_insert hx, sum_insert hx, ← ih,
      EReal.left_distrib_of_nonneg_of_ne_top (by exact_mod_cast hr) (EReal.coe_ne_top r)]

/-- ONE STEP of the running softmax: the next `K` keys, their scores and values read at `N, …, N + K - 1`. -/
theorem Held.step {s v : ℕ → EReal} {N : ℕ} {m l a : EReal} (h : Held s v N m l a) (hs : ∀ n, s n ≠ ⊤) (K : ℕ) {m' : EReal}
    (hm : m' = m ⊔ (range K).sup fun j => s (N + j)) :
    Held s v (N + K) m' (Ideal.exp (m - m') * l + ∑ j ∈ range K, Ideal.exp (s (N + j) - m'))
      (Ideal.exp (m - m') * a + ∑ j ∈ range K, v (N + j) * Ideal.exp (s (N + j) - m')) := by
  have hm' : m' = (range (N + K)).sup s := by
    rw [hm, h.max]
    apply le_antisymm
    · refine sup_le (Finset.sup_mono (range_mono (by omega))) (Finset.sup_le fun j hj => ?_)
      exact Finset.le_sup (f := s) (mem_range.mpr (by have := mem_range.mp hj; omega))
    · refine Finset.sup_le fun n hn => ?_
      by_cases hN : n < N
      · exact le_sup_of_le_left (Finset.le_sup (f := s) (mem_range.mpr hN))
      · refine le_sup_of_le_right ?_
        have := mem_range.mp hn
        have e : s n = (fun j => s (N + j)) (n - N) := by show s n = s (N + (n - N)); congr 1; omega
        rw [e]
        exact Finset.le_sup (f := fun j => s (N + j)) (mem_range.mpr (by omega))
  have ht : m' ≠ ⊤ := by
    rw [hm']
    refine ne_of_lt ((Finset.sup_lt_iff (by simp)).mpr fun n _ => lt_top_iff_ne_top.mpr (hs n))
  have hle : m ≤ m' := hm ▸ le_sup_left
  have hsm : ∀ n ∈ range N, s n ≤ m := fun n hn => h.max ▸ Finset.le_sup (f := s) hn
  obtain ⟨r, hr, er⟩ := exp_shift_fin hle ht
  have key : ∀ n ∈ range N, (r : EReal) * Ideal.exp (s n - m) = Ideal.exp (s n - m') := fun n hn => by
    rw [← er]; exact exp_shift (hsm n hn) hle ht
  refine ⟨hm', ?_, ?_⟩
  · rw [sum_range_add, h.sum, er, mul_sum_nonneg hr]
    congr 1
    exact sum_congr rfl key
  · rw [sum_range_add, h.acc, er, mul_sum_nonneg hr]
    congr 1
    exact sum_congr rfl fun n hn => by rw [mul_left_comm, key n hn]

/-- The reading of a softmax written over all the keys at once: the weights divided by their sum, then the values
    weighted. -/
def soft (s v : ℕ → EReal) (N : ℕ) : EReal :=
  ∑ n ∈ range N, v n * Ideal.div (Ideal.exp (s n - (range N).sup s)) (∑ k ∈ range N, Ideal.exp (s k - (range N).sup s))

/-- The sum of the weights is a positive number when no score is `⊤` and some score is a number. -/
theorem weight_sum {s : ℕ → EReal} {N : ℕ} (hs : ∀ n, s n ≠ ⊤) {n₀ : ℕ} (h₀ : n₀ < N) (hb : s n₀ ≠ ⊥) :
    ∃ r : ℝ, 0 < r ∧ ∑ k ∈ range N, Ideal.exp (s k - (range N).sup s) = (r : EReal) := by
  have ht : (range N).sup s ≠ ⊤ :=
    ne_of_lt ((Finset.sup_lt_iff (by simp)).mpr fun n _ => lt_top_iff_ne_top.mpr (hs n))
  have hbm : (range N).sup s ≠ ⊥ := fun e =>
    hb (le_bot_iff.mp (e ▸ Finset.le_sup (f := s) (mem_range.mpr h₀)))
  generalize hM : (range N).sup s = M at *
  have each : ∀ k, k ∈ range N → ∃ r : ℝ, 0 ≤ r ∧ Ideal.exp (s k - M) = (r : EReal) := fun k hk =>
    exp_shift_fin (hM ▸ Finset.le_sup (f := s) hk) ht
  have pos : ∃ r : ℝ, 0 < r ∧ Ideal.exp (s n₀ - M) = (r : EReal) := by
    have a1 := hs n₀
    induction M using EReal.rec with
    | bot => exact absurd rfl hbm
    | top => exact absurd rfl ht
    | coe M =>
      generalize s n₀ = z at *
      induction z using EReal.rec with
      | bot => exact absurd rfl hb
      | top => exact absurd rfl a1
      | coe z => exact ⟨_, Real.exp_pos _, by rw [← EReal.coe_sub, exp_coe]⟩
  have tot : ∀ S : Finset ℕ, S ⊆ range N → ∃ r : ℝ, 0 ≤ r ∧ ∑ k ∈ S, Ideal.exp (s k - M) = (r : EReal) := by
    intro S
    induction S using Finset.induction_on with
    | empty => exact fun _ => ⟨0, le_rfl, by simp⟩
    | insert x S hx ih =>
      intro hS
      obtain ⟨r, hr, e⟩ := ih ((subset_insert x S).trans hS)
      obtain ⟨q, hq, e'⟩ := each x (hS (mem_insert_self x S))
      exact ⟨q + r, add_nonneg hq hr, by rw [sum_insert hx, e, e', EReal.coe_add]⟩
  obtain ⟨p, hp, e⟩ := pos
  obtain ⟨r, hr, e'⟩ := tot ((range N).erase n₀) (erase_subset _ _)
  exact ⟨p + r, add_pos_of_pos_of_nonneg hp hr, by
    rw [← add_sum_erase _ _ (mem_range.mpr h₀), e, e', EReal.coe_add]⟩

theorem div_pos_real {r : ℝ} (hr : 0 < r) (x : EReal) : Ideal.div x (r : EReal) = x * ((r⁻¹ : ℝ) : EReal) := by
  rw [Ideal.div_coe hr.ne', one_div]

/-- Dividing after the weighted sum is dividing the weights. -/
theorem Held.out {s v : ℕ → EReal} {N : ℕ} {m l a : EReal} (h : Held s v N m l a) (hs : ∀ n, s n ≠ ⊤) {n₀ : ℕ} (h₀ : n₀ < N)
    (hb : s n₀ ≠ ⊥) : Ideal.div a l = soft s v N := by
  obtain ⟨r, hr, e⟩ := weight_sum hs h₀ hb
  have el : l = (r : EReal) := by rw [h.sum, h.max, e]
  rw [el, div_pos_real hr, h.acc, h.max, soft, e, mul_comm, mul_sum_nonneg (inv_nonneg.mpr hr.le)]
  refine sum_congr rfl fun n _ => ?_
  rw [div_pos_real hr, mul_comm, mul_assoc]

/-- Keys whose score is `⊥` change nothing: a softmax over `N` keys whose last ones are `⊥`. -/
theorem soft_extend {s v : ℕ → EReal} {N M : ℕ} (hNM : N ≤ M) (hs : ∀ n, s n ≠ ⊤) {n₀ : ℕ} (h₀ : n₀ < N) (hb : s n₀ ≠ ⊥)
    (hz : ∀ n, N ≤ n → s n = ⊥) : soft s v M = soft s v N := by
  have hsup : (range M).sup s = (range N).sup s := by
    apply le_antisymm
    · refine Finset.sup_le fun n _ => ?_
      by_cases hn : n < N
      · exact Finset.le_sup (f := s) (mem_range.mpr hn)
      · rw [hz n (by omega)]; exact bot_le
    · exact Finset.sup_mono (range_mono hNM)
  obtain ⟨r, hr, e⟩ := weight_sum hs h₀ hb
  have hsum : ∑ k ∈ range M, Ideal.exp (s k - (range N).sup s) = ∑ k ∈ range N, Ideal.exp (s k - (range N).sup s) := by
    symm
    refine sum_subset (range_mono hNM) fun n _ hn => ?_
    rw [hz n (by simpa using hn), bot_sub, exp_bot]
  unfold soft
  rw [hsup, hsum, e]
  symm
  refine sum_subset (range_mono hNM) fun n _ hn => ?_
  rw [hz n (by simpa using hn), bot_sub, exp_bot, div_pos_real hr, zero_mul, mul_zero]

/-- Where the `k`-th key of the plain order (16 first keys, then the others) sits among keys held with a gap after
    the first 16: the others begin at 128. -/
def place (k : ℕ) : ℕ := if k < 16 then k else k + 112

theorem sum_gap (g : ℕ → EReal) (L : ℕ) (hz : ∀ n, 16 ≤ n → n < 128 → g n = 0) :
    ∑ n ∈ range (128 + L), g n = ∑ k ∈ range (16 + L), g (place k) := by
  rw [sum_range_add, sum_range_add, show 128 = 16 + 112 from rfl, sum_range_add]
  have e : ∑ x ∈ range 112, g (16 + x) = 0 :=
    sum_eq_zero fun x hx => hz _ (by omega) (by have := mem_range.mp hx; omega)
  rw [e, add_zero]
  refine congrArg₂ (· + ·) ?_ ?_
  · exact sum_congr rfl fun x hx => by rw [place, if_pos (mem_range.mp hx)]
  · exact sum_congr rfl fun x _ => by rw [place, if_neg (show ¬ 16 + x < 16 by omega)]; congr 1; omega

theorem sup_gap (s : ℕ → EReal) (L : ℕ) (hz : ∀ n, 16 ≤ n → n < 128 → s n = ⊥) :
    (range (128 + L)).sup s = (range (16 + L)).sup fun k => s (place k) := by
  apply le_antisymm
  · refine Finset.sup_le fun n hn => ?_
    have hn := mem_range.mp hn
    by_cases h1 : n < 16
    · have e : s n = (fun k => s (place k)) n := by show s n = s (place n); rw [place, if_pos h1]
      rw [e]; exact Finset.le_sup (f := fun k => s (place k)) (mem_range.mpr (by omega))
    · by_cases h2 : n < 128
      · rw [hz n (by omega) h2]; exact bot_le
      · have e : s n = (fun k => s (place k)) (n - 112) := by
          show s n = s (place (n - 112)); rw [place, if_neg (by omega)]; congr 1; omega
        rw [e]; exact Finset.le_sup (f := fun k => s (place k)) (mem_range.mpr (by omega))
  · refine Finset.sup_le fun k hk => ?_
    have hk := mem_range.mp hk
    refine Finset.le_sup (f := s) (mem_range.mpr ?_)
    unfold place; split <;> omega

/-- Closing the gap: its keys score `⊥`. -/
theorem soft_gap {s v : ℕ → EReal} (L : ℕ) (hs : ∀ n, s n ≠ ⊤) (hb : s 0 ≠ ⊥)
    (hz : ∀ n, 16 ≤ n → n < 128 → s n = ⊥) :
    soft s v (128 + L) = soft (fun k => s (place k)) (fun k => v (place k)) (16 + L) := by
  obtain ⟨r, hr, e⟩ := weight_sum (N := 128 + L) hs (by omega) hb
  have hsum := sum_gap (fun n => Ideal.exp (s n - (range (128 + L)).sup s)) L fun n h1 h2 => by
    rw [hz n h1 h2, bot_sub, exp_bot]
  have hsum' := sum_gap (fun n => v n * Ideal.div (Ideal.exp (s n - (range (128 + L)).sup s)) (r : EReal)) L fun n h1 h2 => by
    rw [hz n h1 h2, bot_sub, exp_bot, div_pos_real hr, zero_mul, mul_zero]
  unfold soft
  rw [e, hsum', ← e, hsum, sup_gap s L hz]

end Cert.Soft

end
-- ==== Proof.Tile.lean ====
/- One tile of a running softmax, in the words the kernel's payloads read as. -/
module

public import proofs.«01_k».proof.Proof.Soft
public import Idealize.ShloMosaic.Lib.Pipeline.ValueKit

@[expose] public section

set_option maxRecDepth 16384

noncomputable section

namespace Cert.Soft

open Idealize.ShloMosaic Finset

/-- The pattern of minus infinity is the least value. -/
theorem ofBits_neg_inf : Ideal.ofBits FTy.f32 0xFF800000#32 = ⊥ := by
  simp [Ideal.ofBits, Ideal.ieee]

/-- A maximum taken from the least value up is the supremum. -/
theorem fold_max_eq_sup {n : ℕ} (f : Fin n → EReal) (S : ℕ → EReal) (h : ∀ k, f k = S k) :
    Finset.univ.fold Max.max (Ideal.ofBits FTy.f32 0xFF800000#32) f = (range n).sup S := by
  have e : f = fun k : Fin n => S k := funext h
  rw [ofBits_neg_inf, e]
  show (Finset.univ : Finset (Fin n)).sup (fun k : Fin n => S k) = _
  apply le_antisymm
  · exact Finset.sup_le fun k _ => Finset.le_sup (f := S) (mem_range.mpr k.2)
  · exact Finset.sup_le fun k hk => Finset.le_sup (f := fun k : Fin n => S k) (Finset.mem_univ ⟨k, mem_range.mp hk⟩)

/-- The sum over a tile's rows is the sum over the numbers below their count. -/
theorem sum_rows {n : ℕ} (f : Fin n → EReal) (S : ℕ → EReal) (h : ∀ k, f k = S k) : ∑ k, f k = ∑ k ∈ range n, S k := by
  rw [Finset.sum_range]; exact sum_congr rfl fun k _ => h k

/-- The step over one tile of `n` keys, whose scores are `f` and whose values are `g`. -/
theorem Held.tile {S V : ℕ → EReal} {N : ℕ} {m l a : EReal} (h : Held S V N m l a) (hs : ∀ n, S n ≠ ⊤) {n : ℕ}
    (f g : Fin n → EReal) (hf : ∀ k, f k = S (N + k)) (hg : ∀ k, g k = V (N + k)) {m' : EReal}
    (hm : m' = Max.max m (Finset.univ.fold Max.max (Ideal.ofBits FTy.f32 0xFF800000#32) f)) :
    Held S V (N + n) m' (Ideal.exp (m - m') * l + ∑ x, Ideal.exp (f x - m'))
      (Ideal.exp (m - m') * a + ∑ x, g x * Ideal.exp (f x - m')) := by
  rw [sum_rows (fun x => Ideal.exp (f x - m')) (fun j => Ideal.exp (S (N + j) - m')) fun k => by rw [hf],
    sum_rows (fun x => g x * Ideal.exp (f x - m')) (fun j => V (N + j) * Ideal.exp (S (N + j) - m')) fun k => by rw [hf, hg]]
  exact h.step hs n (by rw [hm, fold_max_eq_sup f (fun j => S (N + j)) hf])

end Cert.Soft
end
-- ==== Proof.Block.lean ====
/- What one grid point of the attention stores, per query and value column: the softmax-weighted sum over the keys it visits. -/
module

public import proofs.«01_k».proof.Proof.Opened
public import proofs.«01_k».proof.Proof.Tile

@[expose] public section

set_option maxRecDepth 16384

noncomputable section

namespace Cert.KernelIdeal.Value

open Cert.KernelIdeal Cert.KernelIdeal.Gen Cert.Soft Idealize.ShloMosaic Idealize.ShloMosaic.TcCoe Idealize.SL.Sem

/-- Trip `k` loads the next key tile, -/
theorem off1_at : ∀ (i : grid0.Coords) (k : Fin (k0_t1_loop i).trips), k0_off1 i k = ![512 * (k.val + 1), 0] := by
  decide +kernel
/-- its own value tile, -/
theorem off2_at : ∀ (i : grid0.Coords) (k : Fin (k0_t1_loop i).trips), k0_off2 i k = ![k.val, 0, 0] := by
  decide +kernel
/-- and after the loop the query block's own value tile is loaded. -/
theorem off5_at : ∀ (i : grid0.Coords), k0_off5 i = ![(i 2).val, 0, 0] := by
  decide +kernel

theorem qi_lt (i : grid0.Coords) : (i 2).val < 4 := (i 2).isLt

theorem mask_eq : (Named.named κ "mask" 0xF149F2CA#32 : Ideal .f32) = ⊥ := IdealRules.named_const.ideal_named_scalar _ _ _ _ rfl

theorem below16 (n : Fin 128) (x y : EReal) :
    Scalar.select (IntOp.cmpi CmpIPredicate.slt (BitVec.ofNat 32 ↑n) 16#32) x y = if (n : ℕ) < 16 then x else y := by
  word_cmp
theorem upto (n r : Fin 512) (x y : EReal) :
    Scalar.select (IntOp.cmpi CmpIPredicate.sle (BitVec.ofNat 32 ↑n) (BitVec.ofNat 32 ↑r)) x y = if (n : ℕ) ≤ r then x else y := by
  word_cmp

/-- A head's columns of the score operands, and its rows of the values. -/
def col0 (x : Fin 256) : Fin 512 := ⟨x, by omega⟩
def col1 (x : Fin 256) : Fin 512 := ⟨256 + x, by omega⟩
def row0 (d : Fin 128) : Fin 256 := ⟨d, by omega⟩
def row1 (d : Fin 128) : Fin 256 := ⟨128 + d, by omega⟩

/-- The scores `S` and values `V` of one query and one value column, over the positions a grid point visits,
    as the blocks hold them: 128 meta positions of which 16 are keys, then the prompt keys up to the query. -/
structure Reads (qi : ℕ) (x0 : Vec Ideal S512x512 .bf16) (x1 : Vec Ideal S2048x512 .bf16) (x2 : Vec Ideal S4x256x512 .bf16)
    (x3 : Vec Ideal S128x512 .bf16) (x4 : Vec Ideal S256x128 .bf16) (col : Fin 256 → Fin 512) (row : Fin 256) (r : Fin 512)
    (S V T : ℕ → EReal) : Prop where
  top : ∀ n, S n ≠ ⊤
  bot : S 0 ≠ ⊥
  first : ∀ n : Fin 128, S n = if (n : ℕ) < 16 then ∑ x, x3 (ix2 n (col x)) * x0 (ix2 r (col x)) else ⊥
  raw : ∀ p (h : p < 2048), T p = ∑ x, x1 (ix2 ⟨p, h⟩ (col x)) * x0 (ix2 r (col x))
  past : ∀ k < qi, ∀ j < 512, S (128 + 512 * k + j) = T (512 * k + j)
  own : ∀ j < 512, S (128 + 512 * qi + j) = if j ≤ (r : ℕ) then T (512 * qi + j) else ⊥
  firstV : ∀ n : Fin 128, V n = x4 (ix2 row n)
  tileV : ∀ k (h : k < 4), ∀ j : Fin 512, V (128 + 512 * k + j) = x2 (ix3 ⟨k, h⟩ row j)

section
variable {i : grid0.Coords} {x0 : Vec Ideal S512x512 .bf16} {x1 : Vec Ideal S2048x512 .bf16} {x2 : Vec Ideal S4x256x512 .bf16}
  {x3 : Vec Ideal S128x512 .bf16} {x4 : Vec Ideal S256x128 .bf16} {r : Fin 512} {d : Fin 128} {S V T : ℕ → EReal}

/-- The loop's invariant for one head: the carried scores are the next tile's, and the rest is the running softmax. -/
def Inv (r : Fin 512) (d : Fin 128) (S V T : ℕ → EReal) (k : ℕ) (s : FVec Ideal S512x512 .f32) (m l : FVec Ideal S1x512 .f32)
    (a : FVec Ideal S128x512 .f32) : Prop :=
  (∀ j : Fin 512, s (ix2 j r) = T (512 * k + j)) ∧ Held S V (128 + 512 * k) (m (ix2 0 r)) (l (ix2 0 r)) (a (ix2 d r))

abbrev Q0 (x0 : Vec Ideal S512x512 .bf16) : Vec Ideal S512x256 .bf16 :=
  View.ld x0 (Rect.unit (s := S512x512) ![0, 0] S512x256.size inb_S512x512_S512x256_0_0)
abbrev Q1 (x0 : Vec Ideal S512x512 .bf16) : Vec Ideal S512x256 .bf16 :=
  View.ld x0 (Rect.unit (s := S512x512) ![0, 256] S512x256.size inb_S512x512_S512x256_0_256)
abbrev K0 (x1 : Vec Ideal S2048x512 .bf16) : Vec Ideal S512x512 .bf16 :=
  View.ld x1 (Rect.unit (s := S2048x512) ![0, 0] S512x512.size inb_S2048x512_S512x512_0_0)

/-- Head 0 at the loop's entry. -/
theorem entry_0 (H : Reads (i 2).val x0 x1 x2 x3 x4 col0 (row0 d) r S V T) :
    let a := entryV (F := Ideal) (Q0 x0) (Q1 x0) (K0 x1) x3 x4
    Inv r d S V T 0 a.1 a.2.2.1 a.2.2.2.1 a.2.2.2.2.1 := by
  have hf : ∀ n : Fin 128, k0_pay39 (F := Ideal) (Q0 x0) x3 (ix2 n r) = S (0 + (n : ℕ)) := fun n => by
    rw [Nat.zero_add, H.first n]
    pointwise [Q0, k0_pay39, k0_pay38, k0_pay34, below16, mask_eq]
    rfl
  refine ⟨fun j => ?_, ?_⟩
  · rw [Nat.mul_zero, Nat.zero_add, H.raw j (by omega)]
    dsimp only [entryV]
    pointwise [Q0, K0, k0_pay35]
    rfl
  · have h := (Held.start S V).tile H.top (fun n => k0_pay39 (F := Ideal) (Q0 x0) x3 (ix2 n r)) (fun n => x4 (ix2 (row0 d) n)) hf
      (fun n => by rw [Nat.zero_add]; exact (H.firstV n).symm) (m' := k0_pay41 (F := Ideal) (Q0 x0) x3 (ix2 0 r))
      (by pointwise [k0_pay41, k0_pay31, mask_eq])
    rw [Nat.zero_add] at h
    dsimp only [entryV]
    convert h using 1
    · pointwise [k0_pay47, k0_pay43, k0_pay32, k0_pay45, k0_pay31, mask_eq]
    · pointwise [k0_pay49, k0_pay43, k0_pay33, k0_pay37, k0_pay45, k0_pay31, mask_eq]
      rfl

/-- Head 1 at the loop's entry. -/
theorem entry_1 (H : Reads (i 2).val x0 x1 x2 x3 x4 col1 (row1 d) r S V T) :
    let a := entryV (F := Ideal) (Q0 x0) (Q1 x0) (K0 x1) x3 x4
    Inv r d S V T 0 a.2.1 a.2.2.2.2.2.1 a.2.2.2.2.2.2.1 a.2.2.2.2.2.2.2 := by
  have hf : ∀ n : Fin 128, k0_pay40 (F := Ideal) (Q1 x0) x3 (ix2 n r) = S (0 + (n : ℕ)) := fun n => by
    rw [Nat.zero_add, H.first n]
    pointwise [Q1, k0_pay40, k0_pay38, k0_pay34, below16, mask_eq]
    rfl
  refine ⟨fun j => ?_, ?_⟩
  · rw [Nat.mul_zero, Nat.zero_add, H.raw j (by omega)]
    dsimp only [entryV]
    pointwise [Q1, K0, k0_pay36]
    rfl
  · have h := (Held.start S V).tile H.top (fun n => k0_pay40 (F := Ideal) (Q1 x0) x3 (ix2 n r)) (fun n => x4 (ix2 (row1 d) n)) hf
      (fun n => by rw [Nat.zero_add]; exact (H.firstV n).symm) (m' := k0_pay42 (F := Ideal) (Q1 x0) x3 (ix2 0 r))
      (by pointwise [k0_pay42, k0_pay31, mask_eq])
    rw [Nat.zero_add] at h
    dsimp only [entryV]
    convert h using 1
    · pointwise [k0_pay48, k0_pay44, k0_pay32, k0_pay46, k0_pay31, mask_eq]
    · pointwise [k0_pay50, k0_pay44, k0_pay33, k0_pay37, k0_pay46, k0_pay31, mask_eq]
      rfl

/-- Head 0 over one trip. -/
theorem trip_0 (H : Reads (i 2).val x0 x1 x2 x3 x4 col0 (row0 d) r S V T) (k : Fin (k0_t1_loop i).trips) (a : Carry Ideal)
    (hI : Inv r d S V T k a.1 a.2.2.1 a.2.2.2.1 a.2.2.2.2.1) :
    let b := tripV (F := Ideal) i (Q0 x0) (Q1 x0) x1 x2 k a
    Inv r d S V T (k + 1) b.1 b.2.2.1 b.2.2.2.1 b.2.2.2.2.1 := by
  have hk : k.val < (i 2).val := lt_of_lt_of_eq k.2 (trips1 i)
  have hq := qi_lt i
  refine ⟨fun j => ?_, ?_⟩
  · rw [H.raw (512 * (k.val + 1) + j) (by omega)]
    dsimp only [tripV]
    pointwise [Q0, k0_pay3, off1_at]
    rfl
  · have h := hI.2.tile H.top (fun n => a.1 (ix2 n r)) (fun n => x2 (ix3 ⟨k, by omega⟩ (row0 d) n))
      (fun n => by rw [hI.1 n]; exact (H.past k hk n n.2).symm) (fun n => (H.tileV k (by omega) n).symm)
      (m' := k0_pay6 (F := Ideal) a.1 a.2.2.1 (ix2 0 r)) (by pointwise [k0_pay6])
    rw [show 128 + 512 * k.val + 512 = 128 + 512 * (k.val + 1) by omega] at h
    dsimp only [tripV]
    convert h using 1
    · pointwise [k0_pay12, k0_pay8, k0_pay10]
    · pointwise [k0_pay15, k0_pay8, k0_pay10, k0_pay5, off2_at]
      rfl

/-- Head 1 over one trip. -/
theorem trip_1 (H : Reads (i 2).val x0 x1 x2 x3 x4 col1 (row1 d) r S V T) (k : Fin (k0_t1_loop i).trips) (a : Carry Ideal)
    (hI : Inv r d S V T k a.2.1 a.2.2.2.2.2.1 a.2.2.2.2.2.2.1 a.2.2.2.2.2.2.2) :
    let b := tripV (F := Ideal) i (Q0 x0) (Q1 x0) x1 x2 k a
    Inv r d S V T (k + 1) b.2.1 b.2.2.2.2.2.1 b.2.2.2.2.2.2.1 b.2.2.2.2.2.2.2 := by
  have hk : k.val < (i 2).val := lt_of_lt_of_eq k.2 (trips1 i)
  have hq := qi_lt i
  refine ⟨fun j => ?_, ?_⟩
  · rw [H.raw (512 * (k.val + 1) + j) (by omega)]
    dsimp only [tripV]
    pointwise [Q1, k0_pay4, off1_at]
    rfl
  · have h := hI.2.tile H.top (fun n => a.2.1 (ix2 n r)) (fun n => x2 (ix3 ⟨k, by omega⟩ (row1 d) n))
      (fun n => by rw [hI.1 n]; exact (H.past k hk n n.2).symm) (fun n => (H.tileV k (by omega) n).symm)
      (m' := k0_pay7 (F := Ideal) a.2.1 a.2.2.2.2.2.1 (ix2 0 r)) (by pointwise [k0_pay7])
    rw [show 128 + 512 * k.val + 512 = 128 + 512 * (k.val + 1) by omega] at h
    dsimp only [tripV]
    convert h using 1
    · pointwise [k0_pay13, k0_pay9, k0_pay11]
    · pointwise [k0_pay51, k0_pay14, k0_pay16, k0_pay9, k0_pay11, k0_pay5, off2_at]
      rfl

/-- Head 0 when the loop ends. -/
theorem state_0 (H : Reads (i 2).val x0 x1 x2 x3 x4 col0 (row0 d) r S V T) :
    let a := stateV (F := Ideal) i x0 x1 x2 x3 x4
    Inv r d S V T (i 2).val a.1 a.2.2.1 a.2.2.2.1 a.2.2.2.2.1 := by
  have step : ∀ k, k ≤ (k0_t1_loop i).trips →
      let a := runV (F := Ideal) i (Q0 x0) (Q1 x0) x1 x2 (entryV (Q0 x0) (Q1 x0) (K0 x1) x3 x4) k
      Inv r d S V T k a.1 a.2.2.1 a.2.2.2.1 a.2.2.2.2.1 := by
    intro k
    induction k with
    | zero => exact fun _ => entry_0 H
    | succ k ih =>
      intro h
      rw [runV, dif_pos (show k < _ from h)]
      exact trip_0 H ⟨k, h⟩ _ (ih (Nat.le_of_succ_le h))
  have out : ∀ n, n = (k0_t1_loop i).trips → let a := stateV (F := Ideal) i x0 x1 x2 x3 x4; Inv r d S V T n a.1 a.2.2.1 a.2.2.2.1 a.2.2.2.2.1 := by
    rintro n rfl
    exact step _ le_rfl
  exact out _ (trips1 i).symm

/-- Head 1 when the loop ends. -/
theorem state_1 (H : Reads (i 2).val x0 x1 x2 x3 x4 col1 (row1 d) r S V T) :
    let a := stateV (F := Ideal) i x0 x1 x2 x3 x4
    Inv r d S V T (i 2).val a.2.1 a.2.2.2.2.2.1 a.2.2.2.2.2.2.1 a.2.2.2.2.2.2.2 := by
  have step : ∀ k, k ≤ (k0_t1_loop i).trips →
      let a := runV (F := Ideal) i (Q0 x0) (Q1 x0) x1 x2 (entryV (Q0 x0) (Q1 x0) (K0 x1) x3 x4) k
      Inv r d S V T k a.2.1 a.2.2.2.2.2.1 a.2.2.2.2.2.2.1 a.2.2.2.2.2.2.2 := by
    intro k
    induction k with
    | zero => exact fun _ => entry_1 H
    | succ k ih =>
      intro h
      rw [runV, dif_pos (show k < _ from h)]
      exact trip_1 H ⟨k, h⟩ _ (ih (Nat.le_of_succ_le h))
  have out : ∀ n, n = (k0_t1_loop i).trips → let a := stateV (F := Ideal) i x0 x1 x2 x3 x4; Inv r d S V T n a.2.1 a.2.2.2.2.2.1 a.2.2.2.2.2.2.1 a.2.2.2.2.2.2.2 := by
    rintro n rfl
    exact step _ le_rfl
  exact out _ (trips1 i).symm

abbrev VT (i : grid0.Coords) (x2 : Vec Ideal S4x256x512 .bf16) : Vec Ideal S1x256x512 .bf16 :=
  View.ld x2 (Rect.unit (s := S4x256x512) (k0_off5 i) S1x256x512.size (k0_off5_inb i))

/-- Head 0's stored value. -/
theorem out_0 (H : Reads (i 2).val x0 x1 x2 x3 x4 col0 (row0 d) r S V T) :
    let a := stateV (F := Ideal) i x0 x1 x2 x3 x4
    k0_pay1 (F := Ideal) a.2.2.1 a.2.2.2.1 a.2.2.2.2.1 (k0_pay53 (VT i x2)) (k0_pay55 a.1) (k0_pay57 a.1) (ix2 r d)
      = soft S V (128 + 512 * ((i 2).val + 1)) := by
  intro a
  have hI : Inv r d S V T (i 2).val a.1 a.2.2.1 a.2.2.2.1 a.2.2.2.2.1 := state_0 H
  clear_value a
  have h := hI.2.tile H.top (fun n => k0_pay55 (F := Ideal) a.1 (ix2 n r)) (fun n => x2 (ix3 ⟨(i 2).val, qi_lt i⟩ (row0 d) n))
    (fun n => by
      rw [H.own n n.2, ← hI.1 n]
      pointwise [k0_pay55, k0_pay54, upto, mask_eq]) (fun n => (H.tileV _ (qi_lt i) n).symm) rfl
  rw [show 128 + 512 * (i 2).val + 512 = 128 + 512 * ((i 2).val + 1) by omega] at h
  refine Eq.trans ?_ (h.out H.top (by omega) H.bot)
  pointwise [k0_pay1, k0_pay53, k0_pay57, VT, off5_at]
  rfl

/-- Head 1's stored value. -/
theorem out_1 (H : Reads (i 2).val x0 x1 x2 x3 x4 col1 (row1 d) r S V T) :
    let a := stateV (F := Ideal) i x0 x1 x2 x3 x4
    k0_pay2 (F := Ideal) a.2.2.2.2.2.1 a.2.2.2.2.2.2.1 a.2.2.2.2.2.2.2 (k0_pay53 (VT i x2)) (k0_pay56 a.2.1) (ix2 r d)
      = soft S V (128 + 512 * ((i 2).val + 1)) := by
  intro a
  have hI : Inv r d S V T (i 2).val a.2.1 a.2.2.2.2.2.1 a.2.2.2.2.2.2.1 a.2.2.2.2.2.2.2 := state_1 H
  clear_value a
  have h := hI.2.tile H.top (fun n => k0_pay56 (F := Ideal) a.2.1 (ix2 n r)) (fun n => x2 (ix3 ⟨(i 2).val, qi_lt i⟩ (row1 d) n))
    (fun n => by
      rw [H.own n n.2, ← hI.1 n]
      pointwise [k0_pay56, k0_pay54, upto, mask_eq]) (fun n => (H.tileV _ (qi_lt i) n).symm) rfl
  rw [show 128 + 512 * (i 2).val + 512 = 128 + 512 * ((i 2).val + 1) by omega] at h
  refine Eq.trans ?_ (h.out H.top (by omega) H.bot)
  pointwise [k0_pay2, k0_pay53, VT, off5_at]
  rfl

end

end Cert.KernelIdeal.Value
end
-- ==== Proof.Attn.lean ====
/- The prompt attention in plain terms: the scores and values one query sees, position by position. -/
module

public import proofs.«01_k».proof.Proof.Tile

@[expose] public section

set_option maxRecDepth 16384

noncomputable section

namespace Cert.Attn

open Cert.Soft Idealize.ShloMosaic Finset

abbrev Rows := FVec Ideal ⟨2, ![16384, 2048]⟩ .bf16
abbrev Vals := FVec Ideal ⟨2, ![16384, 1024]⟩ .bf16
abbrev MetaRows := FVec Ideal ⟨2, ![256, 2048]⟩ .bf16
abbrev MetaVals := FVec Ideal ⟨2, ![256, 1024]⟩ .bf16

/-- The score of query `s` of sequence `b` with meta key `n`, in head `h`. -/
def dotM (q : Rows) (km : MetaRows) (b : Fin 8) (s : Fin 2048) (h : Fin 8) (n : Fin 16) : EReal :=
  ∑ x : Fin 256, q (ix2 ⟨b * 2048 + s, by omega⟩ ⟨h * 256 + x, by omega⟩) * km (ix2 ⟨128 + n, by omega⟩ ⟨h * 256 + x, by omega⟩)

/-- Its score with prompt key `p`. -/
def dotP (q k : Rows) (b : Fin 8) (s : Fin 2048) (h : Fin 8) (p : Fin 2048) : EReal :=
  ∑ x : Fin 256, q (ix2 ⟨b * 2048 + s, by omega⟩ ⟨h * 256 + x, by omega⟩) * k (ix2 ⟨b * 2048 + p, by omega⟩ ⟨h * 256 + x, by omega⟩)

/-- The prompt scores by number. -/
def T (q k : Rows) (b : Fin 8) (s : Fin 2048) (h : Fin 8) (p : ℕ) : EReal := if e : p < 2048 then dotP q k b s h ⟨p, e⟩ else 0

/-- The scores as the kernel lays them out: 16 meta keys, nothing up to 128, then the prompt keys a query sees. -/
def S (q k : Rows) (km : MetaRows) (b : Fin 8) (s : Fin 2048) (h : Fin 8) (n : ℕ) : EReal :=
  if e : n < 16 then dotM q km b s h ⟨n, e⟩ else if n < 128 then ⊥ else if n - 128 ≤ s then T q k b s h (n - 128) else ⊥

/-- The values in the same places. -/
def V (v : Vals) (vm : MetaVals) (b : Fin 8) (col : Fin 1024) (n : ℕ) : EReal :=
  if e : n < 16 then vm (ix2 ⟨128 + n, by omega⟩ col) else if n < 128 then 0
  else if e : n - 128 < 2048 then v (ix2 ⟨b * 2048 + (n - 128), by omega⟩ col) else 0

theorem real_mul {x y : EReal} (hx : ∃ a : ℝ, x = a) (hy : ∃ a : ℝ, y = a) : ∃ a : ℝ, x * y = a := by
  obtain ⟨a, rfl⟩ := hx; obtain ⟨b, rfl⟩ := hy; exact ⟨a * b, (EReal.coe_mul a b).symm⟩

theorem real_sum {ι : Type} (F : Finset ι) (f : ι → EReal) (hf : ∀ i, ∃ a : ℝ, f i = a) : ∃ a : ℝ, ∑ i ∈ F, f i = a := by
  refine Finset.sum_induction f (fun x => ∃ a : ℝ, x = a) ?_ ⟨0, rfl⟩ fun i _ => hf i
  rintro _ _ ⟨a, rfl⟩ ⟨b, rfl⟩
  exact ⟨a + b, (EReal.coe_add a b).symm⟩

section
variable {q k : Rows} {km : MetaRows} (hq : ∀ j, ∃ a : ℝ, q j = a) (hk : ∀ j, ∃ a : ℝ, k j = a)
  (hm : ∀ (n : Fin 16) (x : Fin 2048), ∃ a : ℝ, km (ix2 ⟨128 + n, by omega⟩ x) = a) (b : Fin 8) (s : Fin 2048) (h : Fin 8)
include hq hk hm

theorem dotM_real (n : Fin 16) : ∃ a : ℝ, dotM q km b s h n = a := real_sum _ _ fun _ => real_mul (hq _) (hm _ _)

theorem dotP_real (p : Fin 2048) : ∃ a : ℝ, dotP q k b s h p = a := real_sum _ _ fun _ => real_mul (hq _) (hk _)

/-- No score is `⊤`, -/
theorem S_top (n : ℕ) : S q k km b s h n ≠ ⊤ := by
  unfold S T
  split
  · obtain ⟨a, e⟩ := dotM_real hq hk hm b s h ⟨n, ‹_›⟩; rw [e]; exact EReal.coe_ne_top a
  split
  · exact bot_ne_top
  split
  · split
    · obtain ⟨a, e⟩ := dotP_real hq hk hm b s h ⟨n - 128, ‹_›⟩; rw [e]; exact EReal.coe_ne_top a
    · exact EReal.zero_ne_top
  · exact bot_ne_top

/-- and the first meta key's is a number. -/
theorem S_bot : S q k km b s h 0 ≠ ⊥ := by
  obtain ⟨a, e⟩ := dotM_real hq hk hm b s h ⟨0, by omega⟩
  rw [S, dif_pos (by omega), e]; exact EReal.coe_ne_bot a

/-- The tiles a grid point visits hold every key its queries see: the rest of the sequence adds nothing. -/
theorem soft_all (v : Vals) (vm : MetaVals) (col : Fin 1024) (i : ℕ) (hi : i < 4) (hs : (s : ℕ) < 512 * (i + 1)) :
    soft (S q k km b s h) (V v vm b col) (128 + 512 * (i + 1))
      = soft (fun n => S q k km b s h (place n)) (fun n => V v vm b col (place n)) 2064 := by
  rw [← soft_extend (M := 128 + 2048) (by omega) (S_top hq hk hm b s h) (n₀ := 0) (by omega) (S_bot hq hk hm b s h) fun n hn => by
    rw [S, dif_neg (by omega), if_neg (by omega), if_neg (by omega)]]
  exact soft_gap 2048 (S_top hq hk hm b s h) (S_bot hq hk hm b s h) fun n h1 h2 => by
    rw [S, dif_neg (by omega), if_pos h2]

end

/-- A softmax-weighted sum read at the rows of a finite tile. -/
theorem soft_fin {n : ℕ} (f g : Fin n → EReal) (S V : ℕ → EReal) (hf : ∀ k, f k = S k) (hg : ∀ k, g k = V k) (M : EReal)
    (hM : M = Finset.univ.fold Max.max (Ideal.ofBits FTy.f32 0xFF800000#32) f) :
    ∑ k, g k * Ideal.div (Ideal.exp (f k - M)) (∑ x, Ideal.exp (f x - M)) = soft S V n := by
  rw [fold_max_eq_sup f S hf] at hM
  subst hM
  rw [sum_rows (fun x => Ideal.exp (f x - (range n).sup S)) (fun j => Ideal.exp (S j - (range n).sup S)) fun k => by rw [hf]]
  exact sum_rows _ _ fun k => by rw [hf, hg]

end Cert.Attn
end
-- ==== Proof.Blocks.lean ====
/- What the input blocks of one grid point hold: rows and columns of the arguments. -/
module

public import proofs.«01_k».proof.Proof.Block
public import proofs.«01_k».proof.Proof.Attn
public import proofs.«01_k».proof.Proof.Gen.KernelIdeal.Value
public import Idealize.ShloMosaic.Lib.Pipeline.ValueKit
public import Idealize.ShloMosaic.Lib.WordCmp

@[expose] public section

set_option maxRecDepth 16384

noncomputable section

namespace Cert.KernelIdeal.Value

open Cert.KernelIdeal Cert.KernelIdeal.Gen Cert.Soft Idealize.ShloMosaic Idealize.ShloMosaic.TcCoe Idealize.SL.Sem

variable (m : (ℓ : Loc nD τ sig) → Buf (Elt Ideal) ℓ)

/-- The arguments: queries, keys, values, and the two meta arrays. -/
abbrev A0 (c : Dev nD) : Attn.Rows := m ((c : Thread nD τ).loc main_arg0)
abbrev A1 (c : Dev nD) : Attn.Rows := m ((c : Thread nD τ).loc main_arg1)
abbrev A2 (c : Dev nD) : Attn.Vals := m ((c : Thread nD τ).loc main_arg2)
abbrev A3 (c : Dev nD) : Attn.MetaRows := m ((c : Thread nD τ).loc main_arg3)
abbrev A4 (c : Dev nD) : Attn.MetaVals := m ((c : Thread nD τ).loc main_arg4)

/-- The input blocks at their literal shapes. -/
abbrev X0 (c : Dev nD) (t : Fin cfg0.N) : Vec Ideal S512x512 .bf16 := iblk m c 0 t
abbrev X1 (c : Dev nD) (t : Fin cfg0.N) : Vec Ideal S2048x512 .bf16 := iblk m c 1 t
abbrev X2 (c : Dev nD) (t : Fin cfg0.N) : Vec Ideal S4x256x512 .bf16 := iblk m c 2 t
abbrev X3 (c : Dev nD) (t : Fin cfg0.N) : Vec Ideal S128x512 .bf16 := iblk m c 3 t
abbrev X4 (c : Dev nD) (t : Fin cfg0.N) : Vec Ideal S256x128 .bf16 := iblk m c 4 t

/-- Sequence, head pair and query block of a point. -/
abbrev pb (t : Fin cfg0.N) : ℕ := (grid0.coords t 0).val
abbrev pg (t : Fin cfg0.N) : ℕ := (grid0.coords t 1).val
abbrev pq (t : Fin cfg0.N) : ℕ := (grid0.coords t 2).val

theorem pb_lt (t : Fin cfg0.N) : pb t < 8 := (grid0.coords t 0).isLt
theorem pg_lt (t : Fin cfg0.N) : pg t < 4 := (grid0.coords t 1).isLt
theorem pq_lt (t : Fin cfg0.N) : pq t < 4 := (grid0.coords t 2).isLt

theorem idx : ∀ t : Fin cfg0.N, win0_0.index t = ![pb t * 4 + pq t, pg t] ∧ win0_1.index t = ![pb t, pg t]
    ∧ win0_2.index t = ![pb t, pg t, 0] ∧ win0_3.index t = ![0, pg t] ∧ win0_4.index t = ![pg t, 0]
    ∧ win0_5.index t = ![pb t * 4 + pq t, pg t] :=
  (by decide +kernel : ∀ t : Fin grid0.N, win0_0.index t = ![pb t * 4 + pq t, pg t] ∧ win0_1.index t = ![pb t, pg t]
    ∧ win0_2.index t = ![pb t, pg t, 0] ∧ win0_3.index t = ![0, pg t] ∧ win0_4.index t = ![pg t, 0]
    ∧ win0_5.index t = ![pb t * 4 + pq t, pg t])

variable (c : Dev nD) (t : Fin cfg0.N)

theorem x0_at (r : Fin 512) (x : Fin 512) (R : Fin 16384) (C : Fin 2048)
    (hR : (R : ℕ) = (pb t * 4 + pq t) * 512 + r) (hC : (C : ℕ) = pg t * 512 + x) : X0 m c t (ix2 r x) = A0 m c (ix2 R C) := by
  blk_ext [iblk, V, idx t]

theorem x1_at (r : Fin 2048) (x : Fin 512) (R : Fin 16384) (C : Fin 2048)
    (hR : (R : ℕ) = pb t * 2048 + r) (hC : (C : ℕ) = pg t * 512 + x) : X1 m c t (ix2 r x) = A1 m c (ix2 R C) := by
  blk_ext [iblk, V, idx t]

/-- The values, each 512 rows transposed. -/
theorem V_5 : V m c main_v5 = (transpose S32x1024x512 [0, 2, 1] (shapeCast S32x512x1024 (A2 m c) shapeCasts_S16384x1024_S32x512x1024 : FVec Ideal S32x512x1024 .bf16) transposes_S32x512x1024_S32x1024x512_0_2_1 : FVec Ideal S32x1024x512 .bf16) := by
  simp only [V, hostOps0, hostOps0_1, hostOps0_2, hostOps0_3, hostOps0_4, List.flatten_cons, List.flatten_nil, List.append_nil, List.cons_append, List.nil_append]
  after_results
  try rfl

/-- Which rows of a meta block hold keys: the first 16. -/
abbrev held : IVec S128x1 1 :=
  broadcastInDim S128x1 ![0] bcast_S128_S128x1_0 (cmpi .slt (iotaInDim S128 32 0) (broadcastInDim S128 ![] bcast_S_S128 (constantI S_ 32 16#32)))

/-- The meta keys, zeros below them. -/
theorem V_7 : V m c main_v7 = (select (broadcastInDim S128x2048 ![0, 1] bcast_S128x1_S128x2048_0_1 held)
    (extractStridedSlice S128x2048 ![128, 0] (A3 m c) slices_S256x2048_S128x2048_128_0)
    (broadcastInDim S128x2048 ![] bcast_S_S128x2048 (constant S_ FTy.bf16 0#16)) : FVec Ideal S128x2048 .bf16) := by
  simp only [V, hostOps0, hostOps0_1, hostOps0_2, hostOps0_3, hostOps0_4, List.flatten_cons, List.flatten_nil, List.append_nil, List.cons_append, List.nil_append]
  after_results
  rfl

/-- The meta values likewise, transposed. -/
theorem V_10 : V m c main_v10 = (transpose S1024x128 [1, 0] (select (broadcastInDim S128x1024 ![0, 1] bcast_S128x1_S128x1024_0_1 held)
    (extractStridedSlice S128x1024 ![128, 0] (A4 m c) slices_S256x1024_S128x1024_128_0)
    (broadcastInDim S128x1024 ![] bcast_S_S128x1024 (constant S_ FTy.bf16 0#16)) : FVec Ideal S128x1024 .bf16) transposes_S128x1024_S1024x128_1_0 : FVec Ideal S1024x128 .bf16) := by
  simp only [V, hostOps0, hostOps0_1, hostOps0_2, hostOps0_3, hostOps0_4, List.flatten_cons, List.flatten_nil, List.append_nil, List.cons_append, List.nil_append]
  after_results
  rfl

theorem v5_at (K : Fin 32) (D : Fin 1024) (j : Fin 512) (R : Fin 16384) (hR : (R : ℕ) = K * 512 + j) :
    (V m c main_v5 : FVec Ideal S32x1024x512 .bf16) (ix3 K D j) = A2 m c (ix2 R D) := by
  rw [V_5]
  pointwise
  blk_ext

theorem v7_at (n : Fin 128) (C : Fin 2048) (hn : (n : ℕ) < 16) (R : Fin 256) (hR : (R : ℕ) = 128 + n) :
    (V m c main_v7 : FVec Ideal S128x2048 .bf16) (ix2 n C) = A3 m c (ix2 R C) := by
  rw [V_7]
  pointwise [held]
  rw [below16, if_pos hn]
  blk_ext

theorem v10_at (D : Fin 1024) (n : Fin 128) (R : Fin 256) (hR : (R : ℕ) = 128 + n) :
    (V m c main_v10 : FVec Ideal S1024x128 .bf16) (ix2 D n) = if (n : ℕ) < 16 then A4 m c (ix2 R D) else 0 := by
  rw [V_10]
  pointwise [held]
  rw [below16]
  congr 1
  blk_ext

theorem x2_at (k : Fin 4) (d : Fin 256) (j : Fin 512) (R : Fin 16384) (C : Fin 1024)
    (hR : (R : ℕ) = pb t * 2048 + k * 512 + j) (hC : (C : ℕ) = pg t * 256 + d) : X2 m c t (ix3 k d j) = A2 m c (ix2 R C) := by
  have := pb_lt t; have := pg_lt t
  refine Eq.trans ?_ (v5_at m c ⟨pb t * 4 + k, by omega⟩ C j R (by simp only; omega))
  blk_ext [iblk, idx t]

theorem x3_at (n : Fin 128) (x : Fin 512) (hn : (n : ℕ) < 16) (R : Fin 256) (C : Fin 2048)
    (hR : (R : ℕ) = 128 + n) (hC : (C : ℕ) = pg t * 512 + x) : X3 m c t (ix2 n x) = A3 m c (ix2 R C) := by
  refine Eq.trans ?_ (v7_at m c n C hn R hR)
  blk_ext [iblk, idx t]

theorem x4_at (d : Fin 256) (n : Fin 128) (R : Fin 256) (C : Fin 1024)
    (hR : (R : ℕ) = 128 + n) (hC : (C : ℕ) = pg t * 256 + d) :
    X4 m c t (ix2 d n) = if (n : ℕ) < 16 then A4 m c (ix2 R C) else 0 := by
  refine Eq.trans ?_ (v10_at m c C n R hR)
  blk_ext [iblk, idx t]

end Cert.KernelIdeal.Value
-- ==== Proof.Reference.lean ====
/- The reference's attention, read at one query and one value column. -/
module

public import proofs.«01_k».proof.Proof.Gen.ReferenceIdeal.Run
public import Idealize.ShloMosaic.Lib.Pipeline.ValueKit
public import Idealize.ShloMosaic.Lib.WordCmp
public import proofs.«01_k».proof.Proof.Attn

@[expose] public section
set_option maxRecDepth 16384
noncomputable section
namespace Cert.ReferenceIdeal.Value

open Cert.Soft Cert.ReferenceIdeal Cert.ReferenceIdeal.Gen Idealize.ShloMosaic Idealize.ShloMosaic.TcCoe Idealize.SL.Sem

variable (q k : FVec Ideal S16384x2048 .bf16) (v : FVec Ideal S16384x1024 .bf16) (km : FVec Ideal S256x2048 .bf16) (vm : FVec Ideal S256x1024 .bf16)

/-- The scores before the mask. -/
def raws : FVec Ideal S8x8x2048x2064 .f32 :=
  Host.dotGeneral dot_S8x2048x8x256_S8x2064x8x256_S8x8x2048x2064_3_3_1_1_02_02 none (shapeCast _ (extf .f32 q bitsLt_bf16_f32) shapeCasts_S16384x2048_S8x2048x8x256) (shapeCast _ (concatenate S8x2064x2048 1 [⟨S8x16x2048, (broadcastInDim S8x16x2048 ![0, 1, 2] bcast_S1x16x2048_S8x16x2048_0_1_2 (broadcastInDim S1x16x2048 ![1, 2] bcast_S16x2048_S1x16x2048_1_2 (extractStridedSlice S16x2048 ![128, 0] (extf .f32 km bitsLt_bf16_f32) slices_S256x2048_S16x2048_128_0)))⟩, ⟨S8x2048x2048, (shapeCast _ (extf .f32 k bitsLt_bf16_f32) shapeCasts_S16384x2048_S8x2048x2048)⟩] concatenates_S8x16x2048_S8x2048x2048_S8x2064x2048_d1) shapeCasts_S8x2064x2048_S8x2064x8x256)

/-- A query's own position and all before it, the meta keys among them, are seen. -/
def seen : IVec S8x8x2048x2064 1 :=
  broadcastInDim S8x8x2048x2064 ![2, 3] bcast_S2048x2064_S8x8x2048x2064_2_3 (cmpi .sle (broadcastInDim S2048x2064 ![0, 1] bcast_S1x2064_S2048x2064_0_1 (broadcastInDim S1x2064 ![1] bcast_S2064_S1x2064_1 (iotaInDim S2064 32 0))) (broadcastInDim S2048x2064 ![0, 1] bcast_S2048x1_S2048x2064_0_1 (addi (broadcastInDim S2048x1 ![] bcast_S_S2048x1 (constantI S_ 32 16#32)) (broadcastInDim S2048x1 ![0] bcast_S2048_S2048x1_0 (iotaInDim S2048 32 0)))))

def scores : FVec Ideal S8x8x2048x2064 .f32 :=
  select seen (raws q k km) (broadcastInDim S8x8x2048x2064 ![] bcast_S_S8x8x2048x2064 (id (constant S_ .f32 0xFF800000#32)))

def tops : FVec Ideal S8x8x2048 .f32 :=
  maximumf (broadcastInDim S8x8x2048 ![] bcast_S_S8x8x2048 (constant S_ .f32 0xFF800000#32)) (Host.reduce FloatOps.maximumf (scores q k km) (constant S_ .f32 0xFF800000#32) reducesTo_S8x8x2048x2064_S8x8x2048_d3 h_S_)

def weights : FVec Ideal S8x8x2048x2064 .f32 :=
  Host.exp (subf (scores q k km) (broadcastInDim S8x8x2048x2064 ![0, 1, 2, 3] bcast_S8x8x2048x1_S8x8x2048x2064_0_1_2_3 (broadcastInDim S8x8x2048x1 ![0, 1, 2] bcast_S8x8x2048_S8x8x2048x1_0_1_2 (tops q k km))))

def probs : FVec Ideal S8x8x2048x2064 .f32 :=
  Host.divf (weights q k km) (broadcastInDim S8x8x2048x2064 ![0, 1, 2, 3] bcast_S8x8x2048x1_S8x8x2048x2064_0_1_2_3 (broadcastInDim S8x8x2048x1 ![0, 1, 2] bcast_S8x8x2048_S8x8x2048x1_0_1_2 (Host.reduceAdd (weights q k km) (constant S_ .f32 0x00000000#32) reducesTo_S8x8x2048x2064_S8x8x2048_d3 h_S_)))

def vals : FVec Ideal S8x2064x8x128 .f32 :=
  shapeCast _ (concatenate S8x2064x1024 1 [⟨S8x16x1024, (broadcastInDim S8x16x1024 ![0, 1, 2] bcast_S1x16x1024_S8x16x1024_0_1_2 (broadcastInDim S1x16x1024 ![1, 2] bcast_S16x1024_S1x16x1024_1_2 (extractStridedSlice S16x1024 ![128, 0] (extf .f32 vm bitsLt_bf16_f32) slices_S256x1024_S16x1024_128_0)))⟩, ⟨S8x2048x1024, (shapeCast _ (extf .f32 v bitsLt_bf16_f32) shapeCasts_S16384x1024_S8x2048x1024)⟩] concatenates_S8x16x1024_S8x2048x1024_S8x2064x1024_d1) shapeCasts_S8x2064x1024_S8x2064x8x128

def heads : FVec Ideal S8x8x128x2048 .f32 :=
  Host.dotGeneral dot_S8x2064x8x128_S8x8x2048x2064_S8x8x128x2048_1_3_3_2_02_01 none (vals v vm) (probs q k km)

/-- The reference's result. -/
def REF : FVec Ideal S16384x1024 .bf16 :=
  truncf .bf16 (shapeCast _ (transpose S8x2048x8x128 [0, 3, 1, 2] (heads q k v km vm) transposes_S8x8x128x2048_S8x2048x8x128_0_3_1_2) shapeCasts_S8x2048x8x128_S16384x1024) bitsLt_bf16_f32

theorem res_eq (m : (ℓ : Loc nD τ sig) → Buf (Elt Ideal) ℓ) (c : Dev nD) :
    res_main_v43 (F := Ideal) m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem upto (n : Fin 2064) (s : Fin 2048) (x y : EReal) :
    Scalar.select (IntOp.cmpi CmpIPredicate.sle (BitVec.ofNat 32 ↑n) (IntOp.addi (16#32) (BitVec.ofNat 32 ↑s))) x y = if (n : ℕ) ≤ 16 + s then x else y := by
  have e : IntOp.addi (16#32) (BitVec.ofNat 32 ↑s) = BitVec.ofNat 32 (16 + ↑s) := (BitVec.ofNat_add 16 ↑s).symm
  rw [e]
  word_cmp

theorem place_lo {n : ℕ} (h : n < 16) : place n = n := if_pos h
theorem place_hi {n : ℕ} (h : ¬n < 16) : place n = n + 112 := if_neg h

theorem score_at (b h : Fin 8) (s : Fin 2048) (n : Fin 2064) : scores q k km (ix4 b h s n) = Attn.S q k km b s h (place n) := by
  have e : scores q k km (ix4 b h s n) = if (n : ℕ) ≤ 16 + s then raws q k km (ix4 b h s n) else ⊥ := by
    pointwise [scores, seen, upto]
    congr 1
  rw [e]
  by_cases hn : (n : ℕ) < 16
  · rw [if_pos (by omega), place_lo hn, Attn.S, dif_pos hn]
    pointwise [raws]
    simp only [dif_pos hn]
    rfl
  · rw [place_hi hn, Attn.S, dif_neg (show ¬(n : ℕ) + 112 < 16 by omega), if_neg (show ¬(n : ℕ) + 112 < 128 by omega)]
    by_cases hs : (n : ℕ) ≤ 16 + s
    · rw [if_pos hs, if_pos (by omega), Attn.T, dif_pos (by omega)]
      pointwise [raws]
      simp only [dif_neg hn]
      unfold Attn.dotP
      have e : (n : ℕ) + 112 - 128 = n - 16 := by omega
      simp only [e]
    · rw [if_neg hs, if_neg (by omega)]

theorem val_at (b h : Fin 8) (d : Fin 128) (n : Fin 2064) :
    vals v vm (ix4 b n h d) = Attn.V v vm b ⟨h * 128 + d, by omega⟩ (place n) := by
  trans (if hn : (n : ℕ) < 16 then vm (ix2 ⟨128 + n, by omega⟩ ⟨h * 128 + d, by omega⟩)
    else v (ix2 ⟨b * 2048 + (n - 16), by omega⟩ ⟨h * 128 + d, by omega⟩))
  · pointwise [vals]
  unfold Attn.V
  by_cases hn : (n : ℕ) < 16
  · simp only [place_lo hn, dif_pos hn]
  · have e1 : ¬(n : ℕ) + 112 < 16 := by omega
    have e2 : ¬(n : ℕ) + 112 < 128 := by omega
    have e3 : (n : ℕ) + 112 - 128 = n - 16 := by omega
    have e4 : (n : ℕ) - 16 < 2048 := by omega
    simp only [place_hi hn, dif_neg hn, dif_neg e1, if_neg e2, e3, dif_pos e4]

theorem reduces_keys : S8x8x2048x2064.Reduces [3] S8x8x2048 := by decide

theorem fold_at (x : FVec Ideal S8x8x2048x2064 .f32) (b h : Fin 8) (s : Fin 2048) :
    Host.reduce FloatOps.maximumf x (constant S_ .f32 0xFF800000#32) reducesTo_S8x8x2048x2064_S8x8x2048_d3 h_S_ (ix3 b h s)
      = Finset.univ.fold max (Ideal.ofBits FTy.f32 0xFF800000#32) fun n : Fin 2064 => x (ix4 b h s n) := by
  rw [Host.reduce_eq_fold_single FloatOps.maximumf x _ _ reduces_keys h_S_]
  have e : (x ∘ reduces_keys.lift (ix3 b h s)) = fun n : Fin 2064 => x (ix4 b h s n) := funext fun n => congrArg x (by
    funext c; apply Fin.ext; fin_cases c <;> rfl)
  exact congrArg (fun f => Finset.fold max (Ideal.ofBits .f32 0xFF800000#32) f (Finset.univ : Finset (Fin 2064))) e

theorem top_at (b h : Fin 8) (s : Fin 2048) :
    tops q k km (ix3 b h s) = Finset.univ.fold max (Ideal.ofBits FTy.f32 0xFF800000#32) fun n : Fin 2064 => scores q k km (ix4 b h s n) := by
  have e : ∀ (x y : FVec Ideal S8x8x2048 .f32) (j : S8x8x2048.Idx), maximumf x y j = max (x j) (y j) := fun _ _ _ => rfl
  have e' : (broadcastInDim S8x8x2048 ![] bcast_S_S8x8x2048 (constant S_ .f32 0xFF800000#32) : FVec Ideal S8x8x2048 .f32) (ix3 b h s) = ⊥ :=
    Soft.ofBits_neg_inf
  rw [tops, e, fold_at, e']
  exact bot_sup_eq _

theorem prob_at (b h : Fin 8) (s : Fin 2048) (n : Fin 2064) : probs q k km (ix4 b h s n)
    = Ideal.div (Ideal.exp (scores q k km (ix4 b h s n) - tops q k km (ix3 b h s)))
      (∑ x, Ideal.exp (scores q k km (ix4 b h s x) - tops q k km (ix3 b h s))) := by
  pointwise [probs, weights]

theorem head_at (b h : Fin 8) (d : Fin 128) (s : Fin 2048) : heads q k v km vm (ix4 b h d s)
    = soft (fun n => Attn.S q k km b s h (place n)) (fun n => Attn.V v vm b ⟨h * 128 + d, by omega⟩ (place n)) 2064 := by
  pointwise [heads]
  simp only [prob_at]
  exact Attn.soft_fin _ _ _ _ (fun n => score_at q k km b h s n) (fun n => val_at v vm b h d n) _ (top_at q k km b h s)

/-- The reference at query `s` of sequence `b`, head `h`, value column `d`. -/
theorem ref_at (b h : Fin 8) (d : Fin 128) (s : Fin 2048) :
    REF q k v km vm (ix2 ⟨b * 2048 + s, by omega⟩ ⟨h * 128 + d, by omega⟩)
      = soft (fun n => Attn.S q k km b s h (place n)) (fun n => Attn.V v vm b ⟨h * 128 + d, by omega⟩ (place n)) 2064 := by
  rw [← head_at]
  pointwise [REF]

end Cert.ReferenceIdeal.Value
end
-- ==== Proof.Final.lean ====
/- The array the attention writes: at every query and value column, the softmax over the keys it sees. -/
module

public import proofs.«01_k».proof.Proof.Blocks
public import proofs.«01_k».proof.Proof.Reference

@[expose] public section

set_option maxRecDepth 16384

noncomputable section

namespace Cert.KernelIdeal.Value

open Cert.KernelIdeal Cert.KernelIdeal.Gen Cert.Soft Idealize.ShloMosaic Idealize.ShloMosaic.TcCoe Idealize.SL.Sem

variable (m : (ℓ : Loc nD τ sig) → Buf (Elt Ideal) ℓ) (c : Dev nD)

/-- Queries and keys are numbers, and so are the meta keys the attention uses. -/
structure Finite : Prop where
  q : ∀ j, ∃ a : ℝ, A0 m c j = a
  k : ∀ j, ∃ a : ℝ, A1 m c j = a
  km : ∀ (n : Fin 16) (x : Fin 2048), ∃ a : ℝ, A3 m c (ix2 ⟨128 + n, by omega⟩ x) = a

variable {m c}

/-- The blocks of a point hold the scores and values of its queries, in head `2g + e`. -/
theorem reads (fin : Finite m c) (t : Fin cfg0.N) (e : ℕ) (he : e < 2) (col : Fin 256 → Fin 512) (hcol : ∀ x, (col x : ℕ) = 256 * e + x)
    (row : Fin 256) (d : Fin 128) (hrow : (row : ℕ) = 128 * e + d) (r : Fin 512) (b h : Fin 8) (hb : (b : ℕ) = pb t) (hh : (h : ℕ) = 2 * pg t + e)
    (s : Fin 2048) (hs : (s : ℕ) = 512 * pq t + r) (C : Fin 1024) (hC : (C : ℕ) = h * 128 + d) :
    Reads (pq t) (X0 m c t) (X1 m c t) (X2 m c t) (X3 m c t) (X4 m c t) col row r
      (Attn.S (A0 m c) (A1 m c) (A3 m c) b s h) (Attn.V (A2 m c) (A4 m c) b C) (Attn.T (A0 m c) (A1 m c) b s h) := by
  have := pb_lt t; have := pg_lt t; have := pq_lt t
  refine ⟨Attn.S_top fin.q fin.k fin.km b s h, Attn.S_bot fin.q fin.k fin.km b s h, fun n => ?_, fun p hp => ?_, fun k hk j hj => ?_,
    fun j hj => ?_, fun n => ?_, fun k hk j => ?_⟩
  · unfold Attn.S
    split
    · refine Finset.sum_congr rfl fun x _ => (mul_comm _ _).trans (congrArg₂ (· * ·) ?_ ?_)
      · exact (x3_at m c t n (col x) ‹_› _ _ rfl (by simp only [hcol]; omega)).symm
      · exact (x0_at m c t r (col x) _ _ (by simp only; omega) (by simp only [hcol]; omega)).symm
    · rw [if_pos n.isLt]
  · unfold Attn.T
    rw [dif_pos hp]
    refine Finset.sum_congr rfl fun x _ => (mul_comm _ _).trans (congrArg₂ (· * ·) ?_ ?_)
    · exact (x1_at m c t _ (col x) _ _ (by simp only; omega) (by simp only [hcol]; omega)).symm
    · exact (x0_at m c t r (col x) _ _ (by simp only; omega) (by simp only [hcol]; omega)).symm
  · have e1 : 128 + 512 * k + j - 128 = 512 * k + j := by omega
    unfold Attn.S
    rw [dif_neg (by omega), if_neg (by omega), e1, if_pos (by omega)]
  · have e1 : 128 + 512 * pq t + j - 128 = 512 * pq t + j := by omega
    unfold Attn.S
    rw [dif_neg (by omega), if_neg (by omega), e1]
    exact if_congr (by omega) rfl rfl
  · have hx := x4_at m c t row n ⟨128 + n, by omega⟩ C rfl (by omega)
    rw [hx]
    unfold Attn.V
    by_cases hn : (n : ℕ) < 16
    · rw [dif_pos hn, if_pos hn]
    · rw [dif_neg hn, if_neg hn, if_pos n.isLt]
  · have hx := x2_at m c t ⟨k, hk⟩ row j ⟨b * 2048 + (128 + 512 * k + j - 128), by omega⟩ C (by simp only; omega) (by omega)
    rw [hx]
    unfold Attn.V
    rw [dif_neg (by omega), if_neg (by omega), dif_pos (show 128 + 512 * k + j - 128 < 2048 by omega)]

/-- The reference at row `R` and column `C` is head `C / 128`'s. -/
theorem ref_row (R : Fin 16384) (C : Fin 1024) (b h : Fin 8) (s : Fin 2048) (d : Fin 128) (hR : (R : ℕ) = b * 2048 + s) (hC : (C : ℕ) = h * 128 + d) :
    Cert.ReferenceIdeal.Value.REF (A0 m c) (A1 m c) (A2 m c) (A3 m c) (A4 m c) (ix2 R C)
      = soft (fun n => Attn.S (A0 m c) (A1 m c) (A3 m c) b s h (place n)) (fun n => Attn.V (A2 m c) (A4 m c) b C (place n)) 2064 := by
  rw [show R = ⟨b * 2048 + s, by omega⟩ from Fin.ext hR, show C = ⟨h * 128 + d, by omega⟩ from Fin.ext hC]
  exact Cert.ReferenceIdeal.Value.ref_at _ _ _ _ _ b h d s

/-- What a point leaves at an index of its block. -/
theorem point (fin : Finite m c) (t : Fin cfg0.N) (y : S512x256.Idx) (R : Fin 16384) (C : Fin 1024)
    (hR : (R : ℕ) = (pb t * 4 + pq t) * 512 + (y 0 : ℕ)) (hC : (C : ℕ) = pg t * 256 + (y 1 : ℕ)) :
    outsAt0 m c t y = Cert.ReferenceIdeal.Value.REF (A0 m c) (A1 m c) (A2 m c) (A3 m c) (A4 m c) (ix2 R C) := by
  have p0 := pb_lt t; have p1 := pg_lt t; have p2 := pq_lt t
  unfold outsAt0
  rw [out_open]
  canon_tiles y h
  · have hC' : pg t * 256 + (128 + (y 1 : ℕ)) = (2 * pg t + 1) * 128 + (y 1 : ℕ) := by omega
    have hb : (pb t * 4 + pq t) * 512 + (y 0 : ℕ) = pb t * 2048 + (512 * pq t + (y 0 : ℕ)) := by omega
    rw [show y = ix2 (⟨y 0, y0_lt⟩ : Fin 512) (⟨y 1, y1_lt⟩ : Fin 128) from by funext a; fin_cases a <;> rfl]
    refine (out_1 (reads fin t 1 (by omega) col1 (fun x => by simp [col1]) (row1 ⟨y 1, y1_lt⟩) ⟨y 1, y1_lt⟩ (by simp [row1]) ⟨y 0, y0_lt⟩
      ⟨pb t, p0⟩ ⟨2 * pg t + 1, by omega⟩ rfl rfl ⟨512 * pq t + (y 0 : ℕ), by omega⟩ rfl C (by simp only; omega))).trans ?_
    rw [ref_row R C ⟨pb t, p0⟩ ⟨2 * pg t + 1, by omega⟩ ⟨512 * pq t + (y 0 : ℕ), by omega⟩ ⟨y 1, y1_lt⟩ (by simp only; omega) (by simp only; omega)]
    exact Attn.soft_all fin.q fin.k fin.km _ _ _ _ _ _ (pq t) p2 (by simp only; omega)
  · have hC' : pg t * 256 + (y 1 : ℕ) = (2 * pg t + 0) * 128 + (y 1 : ℕ) := by omega
    have hb : (pb t * 4 + pq t) * 512 + (y 0 : ℕ) = pb t * 2048 + (512 * pq t + (y 0 : ℕ)) := by omega
    rw [show y = ix2 (⟨y 0, y0_lt⟩ : Fin 512) (⟨y 1, y1_lt⟩ : Fin 128) from by funext a; fin_cases a <;> rfl]
    refine (out_0 (reads fin t 0 (by omega) col0 (fun x => by simp [col0]) (row0 ⟨y 1, y1_lt⟩) ⟨y 1, y1_lt⟩ (by simp [row0]) ⟨y 0, y0_lt⟩
      ⟨pb t, p0⟩ ⟨2 * pg t + 0, by omega⟩ rfl rfl ⟨512 * pq t + (y 0 : ℕ), by omega⟩ rfl C (by simp only; omega))).trans ?_
    rw [ref_row R C ⟨pb t, p0⟩ ⟨2 * pg t + 0, by omega⟩ ⟨512 * pq t + (y 0 : ℕ), by omega⟩ ⟨y 1, y1_lt⟩ (by simp only; omega) (by simp only; omega)]
    exact Attn.soft_all fin.q fin.k fin.km _ _ _ _ _ _ (pq t) p2 (by simp only; omega)

/-- The whole result. -/
theorem final (fin : Finite m c) : (dats m 0 c).arrAt 5 cfg0.N = Cert.ReferenceIdeal.Value.REF (A0 m c) (A1 m c) (A2 m c) (A3 m c) (A4 m c) := by
  refine (dats m 0 c).arrAt_eq_of_covers 5 _ (by decide +kernel) fun t _ y => ?_
  blk_simp
  rw [after0_5]
  refine (point fin t y (((win0_5.blk t).view.emb y) 0) (((win0_5.blk t).view.emb y) 1) ?_ ?_).trans (congrArg _ ?_)
  · blk_simp [idx t]
  · blk_simp [idx t]
  · funext a; fin_cases a <;> rfl

end Cert.KernelIdeal.Value
-- ==== Proof.Given.lean ====
/- What the precondition says: the queries, the keys and the meta keys in use are numbers. -/
module

public import proofs.«01_k».proof.Defs
public import proofs.«01_k».proof.Proof.Final

@[expose] public section

set_option maxRecDepth 16384

noncomputable section

namespace Cert.Given

open Idealize.ShloMosaic Idealize.ShloMosaic.TcCoe Idealize.SL.Sem Cert.Pre_finite_scores

instance facts : Facts where
  bitsLt_bf16_f32 := by decide
  bcast_S_S16384x2048 := by decide
  slices_S256x2048_S16x2048_128_0 := by decide
  bcast_S_S16x2048 := by decide

/-- Below `+∞` in absolute value: a number. -/
theorem real_of_lt (x : EReal) (h : BitVec.ofBool (decide (max x (-x) < Ideal.ofBits FTy.f32 0x7F800000#32)) = 1#1) : ∃ a : ℝ, x = a := by
  have e : Ideal.ofBits FTy.f32 0x7F800000#32 = ⊤ := by simp [Ideal.ofBits, Ideal.ieee]
  rw [e] at h
  have h' : max x (-x) < ⊤ := by
    by_contra hn
    rw [decide_eq_false hn] at h
    exact absurd h (by decide)
  rw [max_lt_iff] at h'
  induction x with
  | bot => exact absurd h'.2 (by simp)
  | top => exact absurd h'.1 (by simp)
  | coe a => exact ⟨a, rfl⟩

variable (m : (ℓ : Loc Cert.KernelIdeal.nD Cert.KernelIdeal.τ Cert.KernelIdeal.sig) → Buf (Elt Ideal) ℓ)

theorem finite (h : Cert.Pre_KernelIdeal_finite_scores m) (c : Dev Cert.KernelIdeal.nD) : Cert.KernelIdeal.Value.Finite m c := by
  obtain ⟨h1, h2, h3⟩ := h c
  refine ⟨fun j => real_of_lt _ ?_, fun j => real_of_lt _ ?_, fun n x => real_of_lt _ ?_⟩
  · exact congrFun h1 j
  · exact congrFun h2 j
  · refine Eq.trans ?_ (congrFun h3 (ix2 n x))
    pointwise [Cert.Pre_finite_scores.fn]
    rfl

end Cert.Given
-- ==== Proof.Mlp.lean ====
/- The feed-forward part at one row: the root-mean-square norm, one hidden unit, and the stream after some hidden units. -/
module

public import Idealize.ShloMosaic.Lib.Pipeline.ValueKit
public import Idealize.ShloMosaic.Lib.WordCmp

@[expose] public section

noncomputable section

namespace Cert.Mlp

open Idealize.ShloMosaic

/-- A row divided by its root mean square, times the gain. -/
def nrm (x g : Fin 2048 → EReal) (k : Fin 2048) : EReal :=
  x k * Ideal.rsqrt (Ideal.div (∑ l, x l * x l) (Ideal.ofBits FTy.f32 1157627904#32) + Ideal.ofBits FTy.f32 897988541#32) * g k

/-- A gated hidden unit: `a / (1 + exp (-a)) * u`, with `a` and `u` the products of the row with the unit's two columns. -/
def unit (x wg wu : Fin 2048 → EReal) : EReal :=
  Ideal.div (∑ k, x k * wg k) (1 + Ideal.exp (0 - ∑ k, x k * wg k)) * ∑ k, x k * wu k

/-- `1 + exp b` is never zero. -/
theorem one_add_exp_ne (b : EReal) : 1 + Ideal.exp b ≠ 0 := by
  have h : (0 : EReal) ≤ Ideal.exp b := by
    cases b using EReal.rec with
    | bot => simp
    | top => simp
    | coe r => simpa using Real.exp_nonneg r
  have h1 : (1 : EReal) ≤ 1 + Ideal.exp b := by simpa using add_le_add_right h 1
  exact ne_of_gt (lt_of_lt_of_le zero_lt_one h1)

/-- The two spellings of `a` times its sigmoid. -/
theorem silu (a : EReal) : a * Ideal.div 1 (1 + Ideal.exp (-a)) = Ideal.div a (1 + Ideal.exp (0 - a)) := by
  rw [zero_sub, Ideal.div, Ideal.div, if_neg (one_add_exp_ne _), if_neg (one_add_exp_ne _), one_mul]

/-- A sum over the first `n` of `N` numbers, then `L` more. -/
theorem more (N L n : ℕ) (p : Fin N → EReal) (h : n + L ≤ N) :
    (∑ F ∈ Finset.range n, (if hF : F < N then p ⟨F, hF⟩ else 0)) + ∑ f : Fin L, p ⟨n + f, by omega⟩
      = ∑ F ∈ Finset.range (n + L), (if hF : F < N then p ⟨F, hF⟩ else 0) := by
  rw [Finset.sum_range_add, Finset.sum_range (n := L)]
  refine congrArg _ (Finset.sum_congr rfl fun f _ => ?_)
  rw [dif_pos (show n + (f : ℕ) < N by omega)]

/-- All of them. -/
theorem all (N : ℕ) (p : Fin N → EReal) : (∑ F ∈ Finset.range N, (if hF : F < N then p ⟨F, hF⟩ else 0)) = ∑ F, p F := by
  rw [Finset.sum_range]
  exact Finset.sum_congr rfl fun f _ => dif_pos f.isLt

end Cert.Mlp

end
-- ==== Proof.MlpPay.lean ====
/- The feed-forward kernel's payloads at one index, and what its input blocks hold. -/
module

public import proofs.«01_k».proof.Proof.Mlp
public import proofs.«01_k».proof.Proof.Gen.Kernel2Ideal.Value

@[expose] public section

set_option maxRecDepth 16384

noncomputable section

namespace Cert.Kernel2Ideal.Value

open Cert.Kernel2Ideal Cert.Kernel2Ideal.Gen Cert.Mlp Idealize.ShloMosaic Idealize.ShloMosaic.TcCoe Idealize.SL.Sem

/-- The norm that is kept between the points. -/
theorem pay1_at (x : Vec Ideal S512x2048 .f32) (g : Vec Ideal S1x2048 .f32) (r : Fin 512) (k : Fin 2048) :
    k0_pay1 (F := Ideal) x g (ix2 r k) = nrm (fun l => x (ix2 r l)) (fun l => g (ix2 0 l)) k := by
  unfold nrm
  pointwise [k0_pay1]

/-- The norm that is written. -/
theorem pay4_at (x : Vec Ideal S512x2048 .f32) (g : Vec Ideal S1x2048 .f32) (r : Fin 512) (k : Fin 2048) :
    k0_pay4 (F := Ideal) x g (ix2 r k) = nrm (fun l => x (ix2 r l)) (fun l => g (ix2 0 l)) k := by
  unfold nrm
  pointwise [k0_pay4]

theorem pay2_at (x : Vec Ideal S512x2048 .f32) (y : S512x2048.Idx) : k0_pay2 (F := Ideal) x y = x y := by
  pointwise [k0_pay2]

/-- One point's 512 hidden units, added to the stream. -/
theorem pay3_at (hn : Vec Ideal S512x2048 .bf16) (wg wu : Vec Ideal S2048x512 .bf16) (acc : Vec Ideal S512x2048 .f32)
    (wd : Vec Ideal S512x2048 .bf16) (r : Fin 512) (k : Fin 2048) :
    k0_pay3 (F := Ideal) hn wg wu acc wd (ix2 r k)
      = acc (ix2 r k) + ∑ f : Fin 512, unit (fun l => hn (ix2 r l)) (fun l => wg (ix2 l f)) (fun l => wu (ix2 l f)) * wd (ix2 f k) := by
  unfold unit
  pointwise [k0_pay3]

variable (m : (ℓ : Loc nD τ sig) → Buf (Elt Ideal) ℓ)

/-- The arguments: the stream, the norm's gain, the three weights, the last norm's gain. -/
abbrev A0 (c : Dev nD) : Vec Ideal S16384x2048 .f32 := m ((c : Thread nD τ).loc main_arg0)
abbrev A1 (c : Dev nD) : Vec Ideal S1x2048 .f32 := m ((c : Thread nD τ).loc main_arg1)
abbrev A2 (c : Dev nD) : Vec Ideal S1x2048x5632 .f32 := m ((c : Thread nD τ).loc main_arg2)
abbrev A3 (c : Dev nD) : Vec Ideal S1x2048x5632 .f32 := m ((c : Thread nD τ).loc main_arg3)
abbrev A4 (c : Dev nD) : Vec Ideal S1x5632x2048 .f32 := m ((c : Thread nD τ).loc main_arg4)
abbrev A5 (c : Dev nD) : Vec Ideal S2048 .f32 := m ((c : Thread nD τ).loc main_arg5)

/-- The input blocks of point `t`. -/
abbrev X0 (c : Dev nD) (t : Fin cfg0.N) : Vec Ideal S512x2048 .f32 := iblk m c 0 t
abbrev X1 (c : Dev nD) (t : Fin cfg0.N) : Vec Ideal S1x2048 .f32 := iblk m c 1 t
abbrev X2 (c : Dev nD) (t : Fin cfg0.N) : Vec Ideal S2048x512 .bf16 := iblk m c 2 t
abbrev X3 (c : Dev nD) (t : Fin cfg0.N) : Vec Ideal S2048x512 .bf16 := iblk m c 3 t
abbrev X4 (c : Dev nD) (t : Fin cfg0.N) : Vec Ideal S512x2048 .bf16 := iblk m c 4 t
abbrev X5 (c : Dev nD) (t : Fin cfg0.N) : Vec Ideal S1x2048 .f32 := iblk m c 5 t

/-- The windows' block indices at point `t`. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0] ∧ win0_6.index t = ![t.val / 11, 0] :=
  (by decide +kernel : ∀ t : Fin grid0.N, _)

variable (c : Dev nD) (t : Fin cfg0.N)

theorem x0_at (r : Fin 512) (k : Fin 2048) (R : Fin 16384) (hR : (R : ℕ) = 512 * (t.val / 11) + r) :
    X0 m c t (ix2 r k) = A0 m c (ix2 R k) := by
  unfold X0 A0
  blk_ext [iblk, V, idx t]

theorem V_1 : V m c main_v1 = (broadcastInDim S1x2048 ![1] bcast_S2048_S1x2048_1 (shapeCast S2048 (A1 m c) shapeCasts_S1x2048_S2048 : FVec Ideal S2048 .f32) : FVec Ideal S1x2048 .f32) := by
  simp only [V]
  after_results
  try rfl
theorem V_3 : V m c main_v3 = (truncf .bf16 (shapeCast S2048x5632 (A2 m c) shapeCasts_S1x2048x5632_S2048x5632 : FVec Ideal S2048x5632 .f32) bitsLt_bf16_f32 : FVec Ideal S2048x5632 .bf16) := by
  simp only [V]
  after_results
  try rfl
theorem V_5 : V m c main_v5 = (truncf .bf16 (shapeCast S2048x5632 (A3 m c) shapeCasts_S1x2048x5632_S2048x5632 : FVec Ideal S2048x5632 .f32) bitsLt_bf16_f32 : FVec Ideal S2048x5632 .bf16) := by
  simp only [V]
  after_results
  try rfl
theorem V_7 : V m c main_v7 = (truncf .bf16 (shapeCast S5632x2048 (A4 m c) shapeCasts_S1x5632x2048_S5632x2048 : FVec Ideal S5632x2048 .f32) bitsLt_bf16_f32 : FVec Ideal S5632x2048 .bf16) := by
  simp only [V]
  after_results
  try rfl
theorem V_8 : V m c main_v8 = (broadcastInDim S1x2048 ![1] bcast_S2048_S1x2048_1 (A5 m c) : FVec Ideal S1x2048 .f32) := by
  simp only [V]
  after_results
  try rfl

/-- The prepared operands, read at an index: the gains and the weights themselves. -/
theorem v1_at (k : Fin 2048) : (V m c main_v1 : FVec Ideal S1x2048 .f32) (ix2 0 k) = A1 m c (ix2 0 k) := by
  rw [V_1]
  pointwise
theorem v3_at (k : Fin 2048) (F : Fin 5632) : (V m c main_v3 : FVec Ideal S2048x5632 .bf16) (ix2 k F) = A2 m c (ix3 0 k F) := by
  rw [V_3]
  pointwise
theorem v5_at (k : Fin 2048) (F : Fin 5632) : (V m c main_v5 : FVec Ideal S2048x5632 .bf16) (ix2 k F) = A3 m c (ix3 0 k F) := by
  rw [V_5]
  pointwise
theorem v7_at (k : Fin 2048) (F : Fin 5632) : (V m c main_v7 : FVec Ideal S5632x2048 .bf16) (ix2 F k) = A4 m c (ix3 0 F k) := by
  rw [V_7]
  pointwise
theorem v8_at (k : Fin 2048) : (V m c main_v8 : FVec Ideal S1x2048 .f32) (ix2 0 k) = A5 m c (ix1 k) := by
  rw [V_8]
  pointwise

theorem x1_at (k : Fin 2048) : X1 m c t (ix2 0 k) = A1 m c (ix2 0 k) := by
  refine Eq.trans ?_ (v1_at m c k)
  blk_ext [iblk, idx t]

theorem x2_at (k : Fin 2048) (f : Fin 512) (F : Fin 5632) (hF : (F : ℕ) = 512 * (t.val % 11) + f) :
    X2 m c t (ix2 k f) = A2 m c (ix3 0 k F) := by
  refine Eq.trans ?_ (v3_at m c k F)
  blk_ext [iblk, idx t]

theorem x3_at (k : Fin 2048) (f : Fin 512) (F : Fin 5632) (hF : (F : ℕ) = 512 * (t.val % 11) + f) :
    X3 m c t (ix2 k f) = A3 m c (ix3 0 k F) := by
  refine Eq.trans ?_ (v5_at m c k F)
  blk_ext [iblk, idx t]

theorem x4_at (f : Fin 512) (k : Fin 2048) (F : Fin 5632) (hF : (F : ℕ) = 512 * (t.val % 11) + f) :
    X4 m c t (ix2 f k) = A4 m c (ix3 0 F k) := by
  refine Eq.trans ?_ (v7_at m c k F)
  blk_ext [iblk, idx t]

theorem x5_at (k : Fin 2048) : X5 m c t (ix2 0 k) = A5 m c (ix1 k) := by
  refine Eq.trans ?_ (v8_at m c k)
  blk_ext [iblk, idx t]

end Cert.Kernel2Ideal.Value

end
-- ==== Proof.MlpFinal.lean ====
/- The feed-forward kernel over its grid: what the scratch holds after each point, and the whole result. -/
module

public import proofs.«01_k».proof.Proof.MlpPay
public import Idealize.ShloMosaic.Lib.Pipeline.ReadBack

@[expose] public section

set_option maxRecDepth 16384

noncomputable section

namespace Cert.Kernel2Ideal.Value

open Cert.Kernel2Ideal Cert.Kernel2Ideal.Gen Cert.Mlp Idealize.ShloMosaic Idealize.ShloMosaic.TcCoe Idealize.SL.Sem

variable (h : Vec Ideal S16384x2048 .f32) (g : Vec Ideal S1x2048 .f32) (wg wu : Vec Ideal S1x2048x5632 .f32) (wd : Vec Ideal S1x5632x2048 .f32) (gf : Vec Ideal S2048 .f32)

/-- The normed row `R`. -/
def hn (R : Fin 16384) : Fin 2048 → EReal := nrm (fun l => h (ix2 R l)) (fun l => g (ix2 0 l))

/-- What hidden unit `F` adds to the stream at row `R` and column `C`. -/
def part (R : Fin 16384) (C : Fin 2048) (F : Fin 5632) : EReal :=
  unit (hn h g R) (fun l => wg (ix3 0 l F)) (fun l => wu (ix3 0 l F)) * wd (ix3 0 F C)

/-- The stream after the first `n` hidden units. -/
def upto (R : Fin 16384) (C : Fin 2048) (n : ℕ) : EReal :=
  h (ix2 R C) + ∑ F ∈ Finset.range n, (if hF : F < 5632 then part h g wg wu wd R C ⟨F, hF⟩ else 0)

/-- The whole feed-forward part, normed. -/
def out (R : Fin 16384) (C : Fin 2048) : EReal :=
  nrm (fun l => h (ix2 R l) + ∑ F, part h g wg wu wd R l F) (fun l => gf (ix1 l)) C

variable (m : (ℓ : Loc nD τ sig) → Buf (Elt Ideal) ℓ) (c : Dev nD)

/-- One point's step: 512 units more. -/
theorem step (t : Fin cfg0.N) (r : Fin 512) (R : Fin 16384) (C : Fin 2048)
    (x : Vec Ideal S512x2048 .bf16) (acc : Vec Ideal S512x2048 .f32)
    (hx : ∀ k, x (ix2 r k) = hn (A0 m c) (A1 m c) R k)
    (ha : acc (ix2 r C) = upto (A0 m c) (A1 m c) (A2 m c) (A3 m c) (A4 m c) R C (512 * (t.val % 11))) :
    k0_pay3 (F := Ideal) x (X2 m c t) (X3 m c t) acc (X4 m c t) (ix2 r C)
      = upto (A0 m c) (A1 m c) (A2 m c) (A3 m c) (A4 m c) R C (512 * (t.val % 11) + 512) := by
  have ht : 512 * (t.val % 11) + 512 ≤ 5632 := by omega
  rw [pay3_at, ha, upto, upto, add_assoc, ← more 5632 512 _ _ ht]
  refine congrArg _ (congrArg _ (Finset.sum_congr rfl fun f _ => ?_))
  rw [part, x4_at m c t f C ⟨512 * (t.val % 11) + f, by omega⟩ rfl]
  refine congrArg (· * _) ?_
  congr 1
  · funext l; exact hx l
  · funext l; exact x2_at m c t l f _ rfl
  · funext l; exact x3_at m c t l f _ rfl

/-- The scratch after point `n`: the normed rows, and the stream after the units of the points so far. -/
theorem left (n : ℕ) : ∀ (hb : n < cfg0.N) (r : Fin 512) (R : Fin 16384), (R : ℕ) = 512 * (n / 11) + r →
    (∀ k, (outsAt0 m c n hb).2.1 (ix2 r k) = hn (A0 m c) (A1 m c) R k)
    ∧ ∀ C, (outsAt0 m c n hb).2.2 (ix2 r C) = upto (A0 m c) (A1 m c) (A2 m c) (A3 m c) (A4 m c) R C (512 * (n % 11) + 512) := by
  induction n using Nat.strong_induction_on with
  | _ n ih =>
    intro hb r R hR
    by_cases h0 : n % 11 = 0
    · have h1 : ¬ n % 11 = 10 := by omega
      have hhn : ∀ k, k0_pay1 (F := Ideal) (X0 m c ⟨n, hb⟩) (X1 m c ⟨n, hb⟩) (ix2 r k) = hn (A0 m c) (A1 m c) R k := fun k => by
        rw [pay1_at, hn]
        congr 1
        · funext l; exact x0_at m c ⟨n, hb⟩ r l R hR
        · funext l; exact x1_at m c ⟨n, hb⟩ l
      refine ⟨fun k => ?_, fun C => ?_⟩
      · rw [outsAt0_A m c ⟨n, hb⟩ h0 h1]
        frame_out
        exact hhn k
      · rw [outsAt0_A m c ⟨n, hb⟩ h0 h1]
        frame_out
        refine step m c ⟨n, hb⟩ r R C _ _ hhn ?_
        rw [pay2_at, upto]
        refine (x0_at m c ⟨n, hb⟩ r C R hR).trans ?_
        simp [h0]
    · obtain ⟨i1, i2⟩ := ih (n - 1) (by omega) (by omega) r R (by omega)
      have e : 512 * ((n - 1) % 11) + 512 = 512 * (n % 11) := by omega
      by_cases h1 : n % 11 = 10
      · refine ⟨fun k => ?_, fun C => ?_⟩
        · rw [outsAt0_C m c ⟨n, hb⟩ h0 h1]
          exact i1 k
        · rw [outsAt0_C m c ⟨n, hb⟩ h0 h1]
          frame_out
          refine step m c ⟨n, hb⟩ r R C _ _ (fun k => ?_) ?_
          · rw [read_unread_whole]
            exact i1 k
          · rw [read_unread_whole]
            simp only [← e]
            exact i2 C
      · refine ⟨fun k => ?_, fun C => ?_⟩
        · rw [outsAt0_B m c ⟨n, hb⟩ h0 h1]
          exact i1 k
        · rw [outsAt0_B m c ⟨n, hb⟩ h0 h1]
          frame_out
          refine step m c ⟨n, hb⟩ r R C _ _ (fun k => ?_) ?_
          · rw [read_unread_whole]
            exact i1 k
          · rw [read_unread_whole]
            simp only [← e]
            exact i2 C

/-- What the last point of a row block writes: the norm of what it leaves in the stream's scratch. -/
theorem normed (t : Fin cfg0.N) (h1 : t.val % 11 = 10) (y : S512x2048.Idx) :
    (outsAt0 m c t.val t.isLt).1 y = k0_pay4 (F := Ideal) ((outsAt0 m c t.val t.isLt).2.2) (X5 m c t) y := by
  have h0 : ¬ t.val % 11 = 0 := by omega
  have e : (outsAt0 m c t.val t.isLt).2.2 = k0_pay3 (F := Ideal) (outsAt0 m c (t.val - 1) (by omega)).2.1 (X2 m c t) (X3 m c t)
      (outsAt0 m c (t.val - 1) (by omega)).2.2 (X4 m c t) := by
    funext z
    rw [outsAt0_C m c t h0 h1]
    frame_out
    rw [read_unread_whole, read_unread_whole]
  rw [e, outsAt0_C m c t h0 h1]
  frame_out
  rw [read_unread_whole, read_unread_whole]

theorem written (t : Fin cfg0.N) (h1 : t.val % 11 = 10) (r : Fin 512) (C : Fin 2048) (R : Fin 16384) (hR : (R : ℕ) = 512 * (t.val / 11) + r) :
    (outsAt0 m c t.val t.isLt).1 (ix2 r C) = out (A0 m c) (A1 m c) (A2 m c) (A3 m c) (A4 m c) (A5 m c) R C := by
  have key := (left m c t.val t.isLt r R hR).2
  have e : 512 * (t.val % 11) + 512 = 5632 := by omega
  rw [normed m c t h1, pay4_at, out]
  congr 1
  · funext l
    refine (key l).trans ?_
    rw [upto, e, all]
  · funext l; exact x5_at m c t l

/-- The whole result. -/
theorem final : (dats m 0 c).arrAt 6 cfg0.N = fun i => out (A0 m c) (A1 m c) (A2 m c) (A3 m c) (A4 m c) (A5 m c) (i 0) (i 1) := by
  refine (dats m 0 c).arrAt_eq_of_covers 6 _ (by decide +kernel) fun t hf y => ?_
  blk_simp
  rw [after0_6]
  have hy : y = ix2 (y 0) (y 1) := by funext a; fin_cases a <;> rfl
  rw [hy]
  refine (written m c t ((flush0_6 t).mp hf) (y 0) (y 1) (((win0_6.blk t).view.emb y) 0) ?_).trans ?_
  · blk_simp [idx t]
    omega
  · refine congrArg _ ?_
    refine Fin.ext ?_
    blk_simp [idx t]

end Cert.Kernel2Ideal.Value

end
-- ==== Proof.MlpRef.lean ====
/- The reference's feed-forward part, read at one row and one column. -/
module

public import proofs.«01_k».proof.Proof.Mlp
public import proofs.«01_k».proof.Proof.MlpFinal
public import proofs.«01_k».proof.Proof.Gen.Reference2Ideal.Run

@[expose] public section

set_option maxRecDepth 16384

noncomputable section

namespace Cert.Reference2Ideal.Value

open Cert.Reference2Ideal Cert.Reference2Ideal.Gen Cert.Mlp Idealize.ShloMosaic Idealize.ShloMosaic.TcCoe Idealize.SL.Sem

variable (h : FVec Ideal S16384x2048 .f32) (g : FVec Ideal S1x2048 .f32) (wg wu : FVec Ideal S1x2048x5632 .f32) (wd : FVec Ideal S1x5632x2048 .f32) (gf : FVec Ideal S2048 .f32)

/-- The norm, with its gain, of every row. -/
def norms (x : FVec Ideal S16384x2048 .f32) (gain : FVec Ideal S2048 .f32) : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 gain))

/-- A product with an up weight. -/
def ups (w : FVec Ideal S1x2048x5632 .f32) : FVec Ideal S16384x5632 .f32 :=
  Host.dotGeneral dot_S16384x2048_S2048x5632_S16384x5632_1_0_0_1_n_n none (norms h (shapeCast S2048 g shapeCasts_S1x2048_S2048)) (shapeCast S2048x5632 w shapeCasts_S1x2048x5632_S2048x5632)

/-- The gated hidden units. -/
def units : FVec Ideal S16384x5632 .f32 :=
  mulf (mulf (ups h g wg) (Host.divf (broadcastInDim S16384x5632 ![] bcast_S_S16384x5632 (constant S_ .f32 0x3F800000#32)) (addf (broadcastInDim S16384x5632 ![] bcast_S_S16384x5632 (constant S_ .f32 0x3F800000#32)) (Host.exp (Host.negf (ups h g wg)))))) (ups h g wu)

def stream : FVec Ideal S16384x2048 .f32 :=
  addf h (Host.dotGeneral dot_S16384x5632_S5632x2048_S16384x2048_1_0_0_1_n_n none (units h g wg wu) (shapeCast S5632x2048 wd shapeCasts_S1x5632x2048_S5632x2048))

/-- The reference's result. -/
def REF : FVec Ideal S16384x2048 .f32 := norms (stream h g wg wu wd) gf

theorem res_eq (m : (ℓ : Loc nD τ sig) → Buf (Elt Ideal) ℓ) (c : Dev nD) :
    res_main_v35 (F := Ideal) m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

theorem norms_at (x : FVec Ideal S16384x2048 .f32) (gain : FVec Ideal S2048 .f32) (R : Fin 16384) (k : Fin 2048) :
    norms x gain (ix2 R k) = nrm (fun l => x (ix2 R l)) (fun l => gain (ix1 l)) k := by
  unfold nrm
  pointwise [norms]

theorem ups_at (w : FVec Ideal S1x2048x5632 .f32) (R : Fin 16384) (F : Fin 5632) :
    ups h g w (ix2 R F) = ∑ k, Cert.Kernel2Ideal.Value.hn h g R k * w (ix3 0 k F) := by
  unfold ups
  pointwise
  refine Finset.sum_congr rfl fun k _ => congrArg₂ (· * ·) ?_ ?_
  · refine (norms_at h _ R k).trans ?_
    unfold Cert.Kernel2Ideal.Value.hn
    congr 1
    funext l
    pointwise
  · pointwise

theorem units_at (R : Fin 16384) (F : Fin 5632) :
    units h g wg wu (ix2 R F) = unit (Cert.Kernel2Ideal.Value.hn h g R) (fun l => wg (ix3 0 l F)) (fun l => wu (ix3 0 l F)) := by
  unfold unit
  rw [← silu, ← ups_at, ← ups_at]
  pointwise [units]

theorem stream_at (R : Fin 16384) (C : Fin 2048) :
    stream h g wg wu wd (ix2 R C) = h (ix2 R C) + ∑ F, Cert.Kernel2Ideal.Value.part h g wg wu wd R C F := by
  unfold stream Cert.Kernel2Ideal.Value.part
  pointwise
  refine congrArg _ (Finset.sum_congr rfl fun F _ => congrArg₂ (· * ·) (units_at h g wg wu R F) ?_)
  pointwise

theorem ref_at (i : S16384x2048.Idx) : REF h g wg wu wd gf i = Cert.Kernel2Ideal.Value.out h g wg wu wd gf (i 0) (i 1) := by
  have hi : i = ix2 (i 0) (i 1) := by funext a; fin_cases a <;> rfl
  refine (congrArg (REF h g wg wu wd gf) hi).trans ((norms_at _ gf (i 0) (i 1)).trans ?_)
  unfold Cert.Kernel2Ideal.Value.out
  refine congrArg (fun x => nrm x _ _) ?_
  funext l
  exact stream_at h g wg wu wd (i 0) l

end Cert.Reference2Ideal.Value

end
-- ==== Proof.TailSet.lean ====
/- The merge kernel's launch: what the region finds, its blocks, where each branch is taken and the buffers it is called with. -/
module

public import proofs.«01_k».proof.Proof.Gen.Kernel3Ideal.Launch
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Claim

@[expose] public section

set_option maxRecDepth 16384

noncomputable section

namespace Cert.Kernel3Ideal.Tail

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the region finds in a buffer: what the host lines before it left. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

/-- The program up to its region. -/
theorem upTo (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub host_fresh main_chain

/-- A buffer no host line writes is found as it was launched. -/
theorem V_of (c : Dev nD) (b : Ref sig .tc)
    (h : (hostOps0 : List (HloOp τ sig (Elt F))).Forall fun op => Proc.devRef .tc b ∉ op.writes) : V m c b = m ((c : Thread nD τ).loc b) :=
  StableHlo.after_of_forall_not_mem (b := Proc.devRef .tc b) _ _ (List.forall_iff_forall_mem.mp h)

theorem V_arg0 (c : Dev nD) : V m c main_arg0 = m ((c : Thread nD τ).loc main_arg0) :=
  V_of m c main_arg0 (by
    simp only [hostOps0, List.Forall, StableHlo.unary_writes, StableHlo.reshape_writes, Finset.mem_singleton]
    repeat' apply And.intro
    all_goals exact StableHlo.devRef_ne_of_ne (by decide))

theorem V_arg1 (c : Dev nD) : V m c main_arg1 = m ((c : Thread nD τ).loc main_arg1) :=
  V_of m c main_arg1 (by
    simp only [hostOps0, List.Forall, StableHlo.unary_writes, StableHlo.reshape_writes, Finset.mem_singleton]
    repeat' apply And.intro
    all_goals exact StableHlo.devRef_ne_of_ne (by decide))

theorem V_arg2 (c : Dev nD) : V m c main_arg2 = m ((c : Thread nD τ).loc main_arg2) :=
  V_of m c main_arg2 (by
    simp only [hostOps0, List.Forall, StableHlo.unary_writes, StableHlo.reshape_writes, Finset.mem_singleton]
    repeat' apply And.intro
    all_goals exact StableHlo.devRef_ne_of_ne (by decide))

theorem V_arg3 (c : Dev nD) : V m c main_arg3 = m ((c : Thread nD τ).loc main_arg3) :=
  V_of m c main_arg3 (by
    simp only [hostOps0, List.Forall, StableHlo.unary_writes, StableHlo.reshape_writes, Finset.mem_singleton]
    repeat' apply And.intro
    all_goals exact StableHlo.devRef_ne_of_ne (by decide))

theorem V_arg4 (c : Dev nD) : V m c main_arg4 = m ((c : Thread nD τ).loc main_arg4) :=
  V_of m c main_arg4 (by
    simp only [hostOps0, List.Forall, StableHlo.unary_writes, StableHlo.reshape_writes, Finset.mem_singleton]
    repeat' apply And.intro
    all_goals exact StableHlo.devRef_ne_of_ne (by decide))

theorem V_arg5 (c : Dev nD) : V m c main_arg5 = m ((c : Thread nD τ).loc main_arg5) :=
  V_of m c main_arg5 (by
    simp only [hostOps0, List.Forall, StableHlo.unary_writes, StableHlo.reshape_writes, Finset.mem_singleton]
    repeat' apply And.intro
    all_goals exact StableHlo.devRef_ne_of_ne (by decide))

theorem V_arg6 (c : Dev nD) : V m c main_arg6 = m ((c : Thread nD τ).loc main_arg6) :=
  V_of m c main_arg6 (by
    simp only [hostOps0, List.Forall, StableHlo.unary_writes, StableHlo.reshape_writes, Finset.mem_singleton]
    repeat' apply And.intro
    all_goals exact StableHlo.devRef_ne_of_ne (by decide))

theorem V_arg7 (c : Dev nD) : V m c main_arg7 = m ((c : Thread nD τ).loc main_arg7) :=
  V_of m c main_arg7 (by
    simp only [hostOps0, List.Forall, StableHlo.unary_writes, StableHlo.reshape_writes, Finset.mem_singleton]
    repeat' apply And.intro
    all_goals exact StableHlo.devRef_ne_of_ne (by decide))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- The first branch: the row block's first point. -/
abbrev first (i : grid0.Coords) : Prop := (Scalar.cmpi .ne (Scalar.extui (Scalar.cmpi .eq (BitVec.ofNat 32 (i 1).val) 0#32)) 0#32) = 1#1
/-- The second branch: a point that fills one column block of the merged rows. -/
abbrev fills (i : grid0.Coords) : Prop := k0_cond2 i = 1#1
/-- The third branch: a point that writes one column block of the result. -/
abbrev writes (i : grid0.Coords) : Prop := k0_cond3 i = 1#1

theorem coord0 (t : Fin grid0.N) : (grid0.coords t 0).val = t.val / 8 := by
  have ht : t.val < 256 := Nat.lt_of_lt_of_eq t.isLt N_0
  have e : (grid0.coords t 0).val = t.val / 8 % 32 := Pipeline.Grid.coords_val t 0 (by decide) rfl
  omega

theorem coord1 (t : Fin grid0.N) : (grid0.coords t 1).val = t.val % 8 := by
  have e : (grid0.coords t 1).val = t.val / 1 % 8 := Pipeline.Grid.coords_val t 1 (by decide) rfl
  omega

theorem first_iff (t : Fin cfg0.N) : first (grid0.coords t) ↔ t.val % 8 = 0 :=
  (fun t => by
    have ht : t.val < 256 := Nat.lt_of_lt_of_eq t.isLt N_0
    have e1 : (grid0.coords t 1).val = t.val / 1 % 8 := Pipeline.Grid.coords_val t 1 (by decide) rfl
    simp only [first, e1]
    word_cmp
   : ∀ t : Fin grid0.N, first (grid0.coords t) ↔ t.val % 8 = 0) t

theorem fills_iff (t : Fin cfg0.N) : fills (grid0.coords t) ↔ t.val % 8 < 4 :=
  (fun t => by
    have ht : t.val < 256 := Nat.lt_of_lt_of_eq t.isLt N_0
    have e1 : (grid0.coords t 1).val = t.val / 1 % 8 := Pipeline.Grid.coords_val t 1 (by decide) rfl
    simp only [fills, k0_cond2, e1]
    word_cmp
   : ∀ t : Fin grid0.N, fills (grid0.coords t) ↔ t.val % 8 < 4) t

theorem writes_iff (t : Fin cfg0.N) : writes (grid0.coords t) ↔ 4 ≤ t.val % 8 :=
  (fun t => by
    have ht : t.val < 256 := Nat.lt_of_lt_of_eq t.isLt N_0
    have e1 : (grid0.coords t 1).val = t.val / 1 % 8 := Pipeline.Grid.coords_val t 1 (by decide) rfl
    simp only [writes, k0_cond3, e1]
    word_cmp
   : ∀ t : Fin grid0.N, writes (grid0.coords t) ↔ 4 ≤ t.val % 8) t

/-- Where the third branch reads the stream's rows: column block `j - 4`. -/
theorem off2_eq (i : grid0.Coords) (h : writes i) : k0_off2 i = ![(i 1).val - 4, 0, 0] := by
  have h1 : (i 1).val < 8 := (i 1).isLt
  unfold writes k0_cond3 at h
  unfold k0_off2
  generalize (i 1).val = j at h h1
  have hj : j = 0 ∨ j = 1 ∨ j = 2 ∨ j = 3 ∨ j = 4 ∨ j = 5 ∨ j = 6 ∨ j = 7 := by omega
  rcases hj with rfl | rfl | rfl | rfl | rfl | rfl | rfl | rfl <;> first | (exact absurd h (by decide)) | rfl

theorem idle9 : ∀ t : Fin cfg0.N, fills (grid0.coords t) → cfg0.idle 9 (grid0.coords t) = true := by decide +kernel
theorem noFlush9 : ∀ t : Fin cfg0.N, fills (grid0.coords t) → (cfg0.win 9).flush t = false := by decide +kernel
theorem live9 : ∀ t : Fin cfg0.N, writes (grid0.coords t) → cfg0.idle 9 (grid0.coords t) = false := by decide +kernel

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x512 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x512 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x512 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x512 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S2048x512 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x512 .f32 := win0_9.stage (cfg0.slots t 9)
abbrev hs9 (t : Fin cfg0.N) : (ms9 t).IsWhole := hstage0_9 ((cfg0.slots t 9).cast nbuf0_9)
/-- The three scratch buffers: the normed rows, the stream's column blocks, the merged column blocks. -/
abbrev sc0 : Memref sig .tc .vmem S512x2048 .bf16 := Memref.whole cc0_scratch0
abbrev sc1 : Memref sig .tc .vmem S4x512x512 .f32 := Memref.whole cc0_scratch1
abbrev sc2 : Memref sig .tc .vmem S4x512x512 .bf16 := Memref.whole cc0_scratch2

/-- The body at point `t`, as the region calls it. -/
abbrev bodyAt (t : Fin cfg0.N) : Prog (TpuEff nD τ sig (Elt F) Λ₀ .tc) PUnit :=
  cc0_attn_tail (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _)

/-- What the launch hands the region: the three scratch buffers at anything, and the generator's register. -/
theorem handed (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

end Cert.Kernel3Ideal.Tail

end
-- ==== Proof.TailPay.lean ====
/- What the merge kernel's three branches compute from what they load. -/
module

public import proofs.«01_k».proof.Proof.TailSet
public import proofs.«01_k».proof.Proof.Mlp

@[expose] public section

set_option maxRecDepth 16384

noncomputable section

namespace Cert.Kernel3Ideal.Tail

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole two-axis buffer reads what the buffer holds. -/
theorem ld_all {α : EltTy → Type} {e : EltTy} {n0 n1 : ℕ} (x : (⟨2, ![n0, n1]⟩ : Shape).Idx → α e)
    (inb : ∀ a, (![0, 0] : Fin 2 → ℕ) a + (![n0, n1] : Fin 2 → ℕ) a ≤ (⟨2, ![n0, n1]⟩ : Shape).size a) :
    View.ld (Val := α) x (Rect.unit (s := (⟨2, ![n0, n1]⟩ : Shape)) ![0, 0] ![n0, n1] inb) = x := by
  funext y
  refine congrArg x (funext fun a => Fin.ext ?_)
  show (![0, 0] : Fin 2 → ℕ) a + 1 * (y a).val = (y a).val
  fin_cases a <;> simp

/-- Slice `k` of a stack of four replaced, at an index. -/
theorem put_slice {α : Type} (z : S4x512x512.Idx → α) (k : ℕ) (w : S1x512x512.Idx → α) (y : S4x512x512.Idx) :
    VecWindow.put z ![k, 0, 0] S1x512x512.size w y = if (y 0).val = k then w (ix3 (0 : Fin 1) (y 1 : Fin 512) (y 2 : Fin 512)) else z y := by
  have h1 : (y 1).val < 512 := (y 1).isLt
  have h2 : (y 2).val < 512 := (y 2).isLt
  unfold VecWindow.put
  by_cases hk : (y 0).val = k
  · have h : ∀ a, (![k, 0, 0] : Fin 3 → ℕ) a ≤ (y a).val ∧ (y a).val < (![k, 0, 0] : Fin 3 → ℕ) a + S1x512x512.size a := by
      intro a
      fin_cases a
      · exact ⟨hk.ge, show (y 0).val < k + 1 by omega⟩
      · exact ⟨Nat.zero_le _, show (y 1).val < 0 + 512 by omega⟩
      · exact ⟨Nat.zero_le _, show (y 2).val < 0 + 512 by omega⟩
    rw [dif_pos h, if_pos hk]
    refine congrArg w (funext fun a => Fin.ext ?_)
    rw [Rect.unitLocal_val]
    fin_cases a
    · show (y 0).val - k = 0
      omega
    · show (y 1).val - 0 = (y 1).val
      omega
    · show (y 2).val - 0 = (y 2).val
      omega
  · rw [dif_neg, if_neg hk]
    intro h
    have h0 : k ≤ (y 0).val ∧ (y 0).val < k + 1 := h 0
    omega

/-- The normed rows a row block's first point keeps. -/
def normed (x0 : Vec F S512x2048 .f32) (x1 : Vec F S1x2048 .f32) : Vec F S512x2048 .bf16 :=
  shapeCast S512x2048 (truncf .bf16 (mulf (mulf x0 (broadcastTo S512x2048 (rsqrt (addf (divf (shapeCast S512x1 (multiReduction .add [1] S512 (mulf x0 x0) 0x00000000#32 reduces_S512x2048_S512 (.inl rfl) rfl) shapeCasts_S512_S512x1) (broadcast S512x1 (Scalar.ofBits .f32 0x45000000#32))) (broadcast S512x1 (Scalar.ofBits .f32 0x358637BD#32)))) broadcasts_S512x1_S512x2048)) (broadcastTo S512x2048 (shapeCast S1x2048 x1 shapeCasts_S1x2048_S1x2048) broadcasts_S1x2048_S512x2048)) bitsLt_bf16_f32) shapeCasts_S512x2048_S512x2048

/-- A gate: one over one plus the exponential of minus the normed rows' product with its weights. -/
def gate (h : Vec F S512x2048 .bf16) (w : Vec F S2048x512 .bf16) : Vec F S512x512 .f32 :=
  divf (broadcast S512x512 (Scalar.ofBits .f32 0x3F800000#32)) (addf (broadcast S512x512 (Scalar.ofBits .f32 0x3F800000#32)) (exp (subf (broadcast S512x512 (Scalar.ofBits .f32 0x00000000#32)) (matmul dot_S512x2048_S2048x512_S512x512_1_0_0_1_n_n none h (shapeCast S2048x512 w shapeCasts_S2048x512_S2048x512) (constant S512x512 .f32 0x00000000#32)))))

/-- An attention output projected. -/
def proj (y : Vec F S512x1024 .bf16) (w : Vec F S1024x512 .bf16) : Vec F S512x512 .f32 :=
  matmul dot_S512x1024_S1024x512_S512x512_1_0_0_1_n_n none y (shapeCast S1024x512 w shapeCasts_S1024x512_S1024x512) (constant S512x512 .f32 0x00000000#32)

/-- One column block of the merged rows. -/
def merged (h : Vec F S512x2048 .bf16) (x2 x3 : Vec F S512x1024 .bf16) (x4 x5 : Vec F S2048x512 .bf16) (x6 x7 : Vec F S1024x512 .bf16) : Vec F S512x512 .bf16 :=
  truncf .bf16 (addf (mulf (gate h x4) (proj x2 x6)) (mulf (gate h x5) (proj x3 x7))) bitsLt_bf16_f32

/-- The stream's four column blocks, one above the other. -/
def stacked (x0 : Vec F S512x2048 .f32) : Vec F S4x512x512 .f32 := fun k =>
  x0 (ix2 (⟨(k 1).val, (k 1).isLt⟩ : Fin 512) (⟨512 * (k 0).val + (k 2).val, by have h0 : (k 0).val < 4 := (k 0).isLt; have h2 : (k 2).val < 512 := (k 2).isLt; omega⟩ : Fin 2048))

/-- The stream's column blocks, written slice by slice, are the stack. -/
theorem four_slices (z : Vec F S4x512x512 .f32) (x0 : Vec F S512x2048 .f32) :
    VecWindow.put (VecWindow.put (VecWindow.put (VecWindow.put z ![0, 0, 0] S1x512x512.size
      (shapeCast S1x512x512 (extractStridedSlice S512x512 ![0, 0] x0 slices_S512x2048_o0_0_S512x512) shapeCasts_S512x512_S1x512x512))
      ![1, 0, 0] S1x512x512.size
      (shapeCast S1x512x512 (extractStridedSlice S512x512 ![0, 512] x0 slices_S512x2048_o0_512_S512x512) shapeCasts_S512x512_S1x512x512))
      ![2, 0, 0] S1x512x512.size
      (shapeCast S1x512x512 (extractStridedSlice S512x512 ![0, 1024] x0 slices_S512x2048_o0_1024_S512x512) shapeCasts_S512x512_S1x512x512))
      ![3, 0, 0] S1x512x512.size
      (shapeCast S1x512x512 (extractStridedSlice S512x512 ![0, 1536] x0 slices_S512x2048_o0_1536_S512x512) shapeCasts_S512x512_S1x512x512)
      = stacked x0 := by
  funext y
  have h0 : (y 0).val < 4 := (y 0).isLt
  rw [put_slice, put_slice, put_slice, put_slice]
  unfold stacked
  split
  next e =>
    pointwise
    refine congrArg x0 (congrArg (ix2 _) (Fin.ext ?_))
    dsimp only
    omega
  split
  next e =>
    pointwise
    refine congrArg x0 (congrArg (ix2 _) (Fin.ext ?_))
    dsimp only
    omega
  split
  next e =>
    pointwise
    refine congrArg x0 (congrArg (ix2 _) (Fin.ext ?_))
    dsimp only
    omega
  split
  next e =>
    pointwise
    refine congrArg x0 (congrArg (ix2 _) (Fin.ext ?_))
    dsimp only
    omega
  omega

/-- The merged column blocks `d` with block `j` replaced. -/
def filled (d : Vec F S4x512x512 .bf16) (j : ℕ) (b : Vec F S512x512 .bf16) : Vec F S4x512x512 .bf16 :=
  VecWindow.put d ![j, 0, 0] S1x512x512.size (shapeCast S1x512x512 b shapeCasts_S512x512_S1x512x512)

/-- Column block `k` of the merged rows times its rows of the output weights. -/
def share (d : Vec F S4x512x512 .bf16) (x8 : Vec F S2048x512 .bf16) (k : ℕ) (hk : k < 4) : Vec F S512x512 .f32 :=
  matmul dot_S512x512_S512x512_S512x512_1_0_0_1_n_n none
    (shapeCast S512x512 (View.ld d (Rect.unit (s := S4x512x512) ![k, 0, 0] S1x512x512.size (by intro a; fin_cases a <;> simp [S4x512x512, S1x512x512] <;> omega))) shapeCasts_S1x512x512_S512x512)
    (shapeCast S512x512 (View.ld x8 (Rect.unit (s := S2048x512) ![512 * k, 0] S512x512.size (by intro a; fin_cases a <;> simp [S2048x512, S512x512] <;> omega))) shapeCasts_S512x512_S512x512)
    (constant S512x512 .f32 0x00000000#32)

/-- One column block of the result: the stream's, plus the merged rows times the output weights. -/
def result (i : grid0.Coords) (hi : writes i) (e : Vec F S4x512x512 .f32) (d : Vec F S4x512x512 .bf16) (x8 : Vec F S2048x512 .bf16) : Vec F S512x512 .f32 :=
  addf (addf (addf (addf (shapeCast S512x512 (View.ld e (Rect.unit (s := S4x512x512) (k0_off2 i) S1x512x512.size (k0_off2_inb i hi))) shapeCasts_S1x512x512_S512x512)
    (share d x8 0 (by decide))) (share d x8 1 (by decide))) (share d x8 2 (by decide))) (share d x8 3 (by decide))

end Cert.Kernel3Ideal.Tail

end
-- ==== Proof.TailFill.lean ====
/- The merge kernel's body at a later filling point. -/
module

public import proofs.«01_k».proof.Proof.TailPay

@[expose] public section

set_option maxRecDepth 16384

noncomputable section

namespace Cert.Kernel3Ideal.Tail

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A later filling point: it replaces its column block of the merged rows and leaves the rest as it was. -/
theorem run_fill (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S2048x512 .bf16) (harg10 : arg10.IsWhole) (arg11 : Memref sig .tc .vmem S512x512 .f32) (harg11 : arg11.IsWhole) (arg12 : Memref sig .tc .vmem S512x2048 .bf16) (harg12 : arg12.IsWhole) (arg13 : Memref sig .tc .vmem S4x512x512 .f32) (harg13 : arg13.IsWhole) (arg14 : Memref sig .tc .vmem S4x512x512 .bf16) (harg14 : arg14.IsWhole)
    (hc0 : ¬first i) (hc1 : fills i) (hc2 : ¬writes i) (x0 : Vec F S512x2048 .f32) (x1 : Vec F S1x2048 .f32) (x2 : Vec F S512x1024 .bf16) (x3 : Vec F S512x1024 .bf16) (x4 : Vec F S2048x512 .bf16) (x5 : Vec F S2048x512 .bf16) (x6 : Vec F S1024x512 .bf16) (x7 : Vec F S1024x512 .bf16) (x8 : Vec F S2048x512 .bf16) (xi : Vec F S512x512 .f32) (xs0 : Vec F S512x2048 .bf16) (xs1 : Vec F S4x512x512 .f32) (xs2 : Vec F S4x512x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi ∗ owns (c : Thread nD τ) arg12 fullShare xs0 ∗ owns (c : Thread nD τ) arg13 fullShare xs1 ∗ owns (c : Thread nD τ) arg14 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi ∗ owns (c : Thread nD τ) arg12 fullShare xs0 ∗ owns (c : Thread nD τ) arg13 fullShare xs1 ∗ owns (c : Thread nD τ) arg14 fullShare (filled xs2 (i 1).val (merged xs0 x2 x3 x4 x5 x6 x7))) -∗ K ⟨⟩))
      ⊢ wp frame (wpE (defs₀ (F := F)) Variants.none c none) E (cc0_attn_tail i arg2 harg2 arg3 harg3 arg4 harg4 arg5 harg5 arg6 harg6 arg7 harg7 arg8 harg8 arg9 harg9 arg10 harg10 arg11 harg11 arg12 harg12 arg13 harg13 arg14 harg14) K := by
  sl_unfold [cc0_attn_tail]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr; · ipureintro; exact harg13.read_unread _
    iexact H13
  iexists _; isplitr
  swap; · iexact H14
  ipureintro
  refine (View.read_writes_cons_put _ _ _ _ _ (k0_off1_eq i)).trans ?_
  try sl_unfold_run_names
  try simp only [View.writes_nil, View.readAt_eq_ld, Memref.IsWhole.read_unread, ld_all, View.readCov_cons_toLoadRect]
  rfl

end Cert.Kernel3Ideal.Tail

end
-- ==== Proof.TailWrite.lean ====
/- The merge kernel's body at a writing point. -/
module

public import proofs.«01_k».proof.Proof.TailPay

@[expose] public section

set_option maxRecDepth 16384

noncomputable section

namespace Cert.Kernel3Ideal.Tail

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A writing point: it leaves one column block of the result. -/
theorem run_write (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S2048x512 .bf16) (harg10 : arg10.IsWhole) (arg11 : Memref sig .tc .vmem S512x512 .f32) (harg11 : arg11.IsWhole) (arg12 : Memref sig .tc .vmem S512x2048 .bf16) (harg12 : arg12.IsWhole) (arg13 : Memref sig .tc .vmem S4x512x512 .f32) (harg13 : arg13.IsWhole) (arg14 : Memref sig .tc .vmem S4x512x512 .bf16) (harg14 : arg14.IsWhole)
    (hc0 : ¬first i) (hc1 : ¬fills i) (hc2 : writes i) (x0 : Vec F S512x2048 .f32) (x1 : Vec F S1x2048 .f32) (x2 : Vec F S512x1024 .bf16) (x3 : Vec F S512x1024 .bf16) (x4 : Vec F S2048x512 .bf16) (x5 : Vec F S2048x512 .bf16) (x6 : Vec F S1024x512 .bf16) (x7 : Vec F S1024x512 .bf16) (x8 : Vec F S2048x512 .bf16) (xs0 : Vec F S512x2048 .bf16) (xs1 : Vec F S4x512x512 .f32) (xs2 : Vec F S4x512x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare xs0 ∗ owns (c : Thread nD τ) arg13 fullShare xs1 ∗ owns (c : Thread nD τ) arg14 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (result i hc2 xs1 xs2 x8) ∗ owns (c : Thread nD τ) arg12 fullShare xs0 ∗ owns (c : Thread nD τ) arg13 fullShare xs1 ∗ owns (c : Thread nD τ) arg14 fullShare xs2) -∗ K ⟨⟩))
      ⊢ wp frame (wpE (defs₀ (F := F)) Variants.none c none) E (cc0_attn_tail i arg2 harg2 arg3 harg3 arg4 harg4 arg5 harg5 arg6 harg6 arg7 harg7 arg8 harg8 arg9 harg9 arg10 harg10 arg11 harg11 arg12 harg12 arg13 harg13 arg14 harg14) K := by
  sl_unfold [cc0_attn_tail]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, %hf11, H11⟩, ⟨%f12, %hf12, H12⟩, ⟨%f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr
    swap; · iexact H11
    ipureintro
    refine (View.read_writes_full _ _ _ _ _).trans ?_
    try sl_unfold_run_names
    try simp only [View.readAt_eq_ld, Memref.IsWhole.read_unread]
    rfl
  isplitl [H12]
  · iexists _; isplitr; · ipureintro; exact harg12.read_unread _
    iexact H12
  isplitl [H13]
  · iexists _; isplitr; · ipureintro; exact harg13.read_unread _
    iexact H13
  iexists _; isplitr; · ipureintro; exact harg14.read_unread _
  iexact H14

end Cert.Kernel3Ideal.Tail

end
-- ==== Proof.TailFirst.lean ====
/- The merge kernel's body at a row block's first point. -/
module

public import proofs.«01_k».proof.Proof.TailPay

@[expose] public section

set_option maxRecDepth 16384

noncomputable section

namespace Cert.Kernel3Ideal.Tail

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A row block's first point: it keeps the normed rows and the stream's column blocks, and fills merged column block 0. -/
theorem run_first (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S2048x512 .bf16) (harg6 : arg6.IsWhole) (arg7 : Memref sig .tc .vmem S2048x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S2048x512 .bf16) (harg10 : arg10.IsWhole) (arg11 : Memref sig .tc .vmem S512x512 .f32) (harg11 : arg11.IsWhole) (arg12 : Memref sig .tc .vmem S512x2048 .bf16) (harg12 : arg12.IsWhole) (arg13 : Memref sig .tc .vmem S4x512x512 .f32) (harg13 : arg13.IsWhole) (arg14 : Memref sig .tc .vmem S4x512x512 .bf16) (harg14 : arg14.IsWhole)
    (hc0 : first i) (hc1 : fills i) (hc2 : ¬writes i) (x0 : Vec F S512x2048 .f32) (x1 : Vec F S1x2048 .f32) (x2 : Vec F S512x1024 .bf16) (x3 : Vec F S512x1024 .bf16) (x4 : Vec F S2048x512 .bf16) (x5 : Vec F S2048x512 .bf16) (x6 : Vec F S1024x512 .bf16) (x7 : Vec F S1024x512 .bf16) (x8 : Vec F S2048x512 .bf16) (xi : Vec F S512x512 .f32) (xs2 : Vec F S4x512x512 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi ∗ (∃ d, owns (c : Thread nD τ) arg12 fullShare d) ∗ (∃ d, owns (c : Thread nD τ) arg13 fullShare d) ∗ owns (c : Thread nD τ) arg14 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xi ∗ owns (c : Thread nD τ) arg12 fullShare (normed x0 x1) ∗ owns (c : Thread nD τ) arg13 fullShare (stacked x0) ∗ owns (c : Thread nD τ) arg14 fullShare (filled xs2 (i 1).val (merged (normed x0 x1) x2 x3 x4 x5 x6 x7))) -∗ K ⟨⟩))
      ⊢ wp frame (wpE (defs₀ (F := F)) Variants.none c none) E (cc0_attn_tail i arg2 harg2 arg3 harg3 arg4 harg4 arg5 harg5 arg6 harg6 arg7 harg7 arg8 harg8 arg9 harg9 arg10 harg10 arg11 harg11 arg12 harg12 arg13 harg13 arg14 harg14) K := by
  sl_unfold [cc0_attn_tail]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, %hf12, H12⟩, ⟨%d13, %f13, %hf13, H13⟩, ⟨%f14, %hf14, H14⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg14.eq_unread hf14
  sl_exec (disch := first | sl_exact hc0 | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr
    swap; · iexact H12
    ipureintro
    refine (View.read_writes_full _ _ _ _ _).trans ?_
    try sl_unfold_run_names
    try simp only [View.readAt_eq_ld, Memref.IsWhole.read_unread, ld_all]
    rfl
  isplitl [H13]
  · iexists _; isplitr
    swap; · iexact H13
    ipureintro
    refine (View.read_writes_cons_put _ _ _ _ _ rfl).trans ?_
    rw [View.read_writes_cons_put _ _ _ _ _ rfl, View.read_writes_cons_put _ _ _ _ _ rfl, View.read_writes_cons_put _ _ _ _ _ rfl]
    sl_unfold_run_names
    simp only [View.readAt_eq_ld, Memref.IsWhole.read_unread, ld_all]
    exact four_slices _ _
  iexists _; isplitr
  swap; · iexact H14
  ipureintro
  refine (View.read_writes_cons_put _ _ _ _ _ (k0_off1_eq i)).trans ?_
  try sl_unfold_run_names
  try simp only [View.writes_nil, View.readAt_eq_ld, Memref.IsWhole.read_unread, ld_all, View.readCov_cons_toLoadRect]
  rfl

end Cert.Kernel3Ideal.Tail

end
-- ==== Proof.TailFrame.lean ====
/- The merge kernel over its grid: what the scratch buffers hold from point to point, the run, and the frame. -/
module

public import proofs.«01_k».proof.Proof.TailFill
public import proofs.«01_k».proof.Proof.TailWrite
public import proofs.«01_k».proof.Proof.TailFirst

@[expose] public section

set_option maxRecDepth 16384

noncomputable section

namespace Cert.Kernel3Ideal.Tail

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Point number `n`. -/
def pt (n : ℕ) : Fin cfg0.N := if h : n < cfg0.N then ⟨n, h⟩ else ⟨0, by rw [show cfg0.N = 256 from N_0]; decide⟩

theorem pt_val (t : Fin cfg0.N) : pt t.val = t := by unfold pt; rw [dif_pos t.isLt]

/-- The normed rows of row block `q`. -/
def hnAt (c : Dev nD) (q : ℕ) : Vec F S512x2048 .bf16 := normed (iblk m c 0 (pt (8 * q))) (iblk m c 1 (pt (8 * q)))

/-- The stream's column blocks of row block `q`. -/
def xsAt (c : Dev nD) (q : ℕ) : Vec F S4x512x512 .f32 := stacked (iblk m c 0 (pt (8 * q)))

/-- Merged column block `k` of row block `q`. -/
def blockAt (c : Dev nD) (q k : ℕ) : Vec F S512x512 .bf16 :=
  merged (hnAt m c q) (iblk m c 2 (pt (8 * q + k))) (iblk m c 3 (pt (8 * q + k))) (iblk m c 4 (pt (8 * q + k))) (iblk m c 5 (pt (8 * q + k))) (iblk m c 6 (pt (8 * q + k))) (iblk m c 7 (pt (8 * q + k)))

/-- The four merged column blocks of row block `q`. -/
def mixAt (c : Dev nD) (q : ℕ) : Vec F S4x512x512 .bf16 := fun y =>
  blockAt m c q (y 0).val (ix2 (⟨(y 1).val, (y 1).isLt⟩ : Fin 512) (⟨(y 2).val, (y 2).isLt⟩ : Fin 512))

/-- The column block of the result a writing point leaves. -/
def outAt (c : Dev nD) (t : Fin cfg0.N) : Vec F S512x512 .f32 :=
  if h : writes (grid0.coords t) then result (grid0.coords t) h (xsAt m c (t.val / 8)) (mixAt m c (t.val / 8)) (iblk m c 8 t)
  else broadcast S512x512 (Scalar.ofBits .f32 0x00000000#32)

/-- The merged column blocks up to column block `k` are in place. -/
def Kept (c : Dev nD) (q k : ℕ) (d : Vec F S4x512x512 .bf16) : Prop := ∀ y : S4x512x512.Idx, (y 0).val ≤ k → d y = mixAt m c q y

/-- What is held before point `n`: before the first anything; later the row block's normed rows, its column blocks, and the
    merged column blocks filled so far. -/
def held (c : Dev nD) : (n : ℕ) → n ≤ cfg0.N → sProp 𝕄
  | 0, _ => Pipeline.ΦA spec0 c
  | n + 1, _ => iprop(iprop(owns (c : Thread nD τ) sc0 fullShare (hnAt m c (n / 8)) ∗ owns (c : Thread nD τ) sc1 fullShare (xsAt m c (n / 8))
      ∗ (∃ d, ⌜Kept m c (n / 8) (n % 8) d⌝ ∗ owns (c : Thread nD τ) sc2 fullShare d)) ∗ (∃ r, prngReg c r))

theorem held_succ (c : Dev nD) (n : ℕ) (hn : n < cfg0.N) :
    held m c (n + 1) hn = iprop(iprop(owns (c : Thread nD τ) sc0 fullShare (hnAt m c (n / 8)) ∗ owns (c : Thread nD τ) sc1 fullShare (xsAt m c (n / 8))
      ∗ (∃ d, ⌜Kept m c (n / 8) (n % 8) d⌝ ∗ owns (c : Thread nD τ) sc2 fullShare d)) ∗ (∃ r, prngReg c r)) := rfl

/-- Before a point inside a row block. -/
theorem held_pos (c : Dev nD) (n : ℕ) (h : n ≤ cfg0.N) (hz : n % 8 ≠ 0) :
    held m c n h = iprop(iprop(owns (c : Thread nD τ) sc0 fullShare (hnAt m c (n / 8)) ∗ owns (c : Thread nD τ) sc1 fullShare (xsAt m c (n / 8))
      ∗ (∃ d, ⌜Kept m c (n / 8) (n % 8 - 1) d⌝ ∗ owns (c : Thread nD τ) sc2 fullShare d)) ∗ (∃ r, prngReg c r)) := by
  cases n with
  | zero => exact absurd rfl hz
  | succ n =>
    have e1 : (n + 1) / 8 = n / 8 := by omega
    have e2 : (n + 1) % 8 - 1 = n % 8 := by omega
    rw [held_succ m c n h, e1, e2]

/-- At any point what is held gives back the buffers at anything. -/
theorem held_out (c : Dev nD) (n : ℕ) (h : n ≤ cfg0.N) : held m c n h ⊢ Pipeline.ΦA spec0 c := by
  cases n with
  | zero => exact Idealize.SL.BI.Entails.refl _
  | succ n =>
    rw [held_succ m c n h, handed]
    iintro ⟨⟨H0, H1, ⟨%d, %hd, H2⟩⟩, Hg⟩
    isplitl [H0 H1 H2]
    · isplitl [H0]; · iexists _; iexact H0
      isplitl [H1]; · iexists _; iexact H1
      iexists _; iexact H2
    iexact Hg

/-- Filling column block `k` keeps the earlier ones and puts block `k` in place. -/
theorem kept_filled (c : Dev nD) (q k : ℕ) (d : Vec F S4x512x512 .bf16) (hd : k = 0 ∨ Kept m c q (k - 1) d) :
    Kept m c q k (filled d k (blockAt m c q k)) := by
  intro y hy
  unfold filled
  rw [put_slice]
  split
  next e =>
    unfold mixAt
    rw [e]
    generalize blockAt m c q k = b
    pointwise
    try rfl
  next e =>
    rcases hd with rfl | hd
    · omega
    · exact hd y (by omega)

/-- After the last column block the merged rows are whole. -/
theorem kept_all (c : Dev nD) (q k : ℕ) (hk : 3 ≤ k) (d : Vec F S4x512x512 .bf16) (hd : Kept m c q k d) : d = mixAt m c q :=
  funext fun y => hd y (by have : (y 0).val < 4 := (y 0).isLt; omega)

/-- The run's data: each input's buffer at its block, the result's at `outAt`, what is held between points, each input's share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := held m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem held_at (c : Dev nD) (t : Fin cfg0.N) :
    (dats m 0 c).Φ t.castSucc = held m c t.val (Nat.le_of_lt t.isLt) := by
  dsimp only [dats]; exact Pipeline.Dat.Φ_castSucc (held m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem leaves0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after4]
theorem leaves5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl, after5]
theorem leaves6 (c : Dev nD) (t : Fin cfg0.N) : (dats m 0 c).leavesExact 6 t = owns (c : Thread nD τ) (ms6 t) fullShare (iblk m c 6 t) := by
  unfold Dat.leavesExact; rw [show cfg0.idle 6 (grid0.coords t) = false from rfl, after6]
theorem leaves7 (c : Dev nD) (t : Fin cfg0.N) : (dats m 0 c).leavesExact 7 t = owns (c : Thread nD τ) (ms7 t) fullShare (iblk m c 7 t) := by
  unfold Dat.leavesExact; rw [show cfg0.idle 7 (grid0.coords t) = false from rfl, after7]
theorem leaves8 (c : Dev nD) (t : Fin cfg0.N) : (dats m 0 c).leavesExact 8 t = owns (c : Thread nD τ) (ms8 t) fullShare (iblk m c 8 t) := by
  unfold Dat.leavesExact; rw [show cfg0.idle 8 (grid0.coords t) = false from rfl, after8]
theorem leaves9 (c : Dev nD) (t : Fin cfg0.N) (h : writes (grid0.coords t)) :
    (dats m 0 c).leavesExact 9 t = owns (c : Thread nD τ) (ms9 t) fullShare (outAt m c t) := by
  unfold Dat.leavesExact; rw [live9 t h, after9]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 9600000 in
/-- The body at any point. -/
theorem sound_body (c : Dev nD) (t : Fin cfg0.N) :
    bodyPre m c t ⊢ wp frame (wpE (defs₀ (F := F)) Variants.none c none) Set.univ (bodyAt t) (fun _ => bodyPost m c t) := by
  unfold bodyPre bodyPost bodyAt
  simp only [before0, before1, before2, before3, before4, before5, before6, before7, before8]
  rw [show (dats m 0 c).owesAt () t.succ = (dats m 0 c).owesAt () t.castSucc from rfl]
  rw [show (dats m 0 c).Φ t.succ = held m c (t.val + 1) t.isLt from rfl, held_succ, held_at]
  rw [leaves0, leaves1, leaves2, leaves3, leaves4, leaves5, leaves6, leaves7, leaves8]
  have e1 := coord1 t
  by_cases h0 : t.val % 8 = 0
  · have hc0 : first (grid0.coords t) := (first_iff t).mpr h0
    have hc1 : fills (grid0.coords t) := (fills_iff t).mpr (by omega)
    have hc2 : ¬writes (grid0.coords t) := fun h => by have := (writes_iff t).mp h; omega
    have et : pt (8 * (t.val / 8)) = t := by rw [show 8 * (t.val / 8) = t.val by omega]; exact pt_val t
    have hn : hnAt m c (t.val / 8) = normed (iblk m c 0 t) (iblk m c 1 t) := by unfold hnAt; rw [et]
    have hx : xsAt m c (t.val / 8) = stacked (iblk m c 0 t) := by unfold xsAt; rw [et]
    have hb : merged (normed (iblk m c 0 t) (iblk m c 1 t)) (iblk m c 2 t) (iblk m c 3 t) (iblk m c 4 t) (iblk m c 5 t) (iblk m c 6 t) (iblk m c 7 t) = blockAt m c (t.val / 8) 0 := by
      unfold blockAt; rw [hn, Nat.add_zero, et]
    rw [Dat.leavesExact_idle (dats m 0 c) 9 t (idle9 t hc1) (noFlush9 t hc1)]
    refine BIBase.Entails.trans (Laws.sep_mono_left (held_out m c t.val (Nat.le_of_lt t.isLt))) ?_
    rw [handed, hn, hx, h0]
    iintro ⟨⟨⟨HS0, HS1, ⟨%ds2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid0.coords t) _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (iblk m c 8 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexists _; isplitr
        swap; · iexact HS2
        ipureintro
        rw [hb, e1, h0]; exact kept_filled m c _ 0 _ (Or.inl rfl)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  · have hpos : held m c t.val (Nat.le_of_lt t.isLt) = _ := held_pos m c t.val (Nat.le_of_lt t.isLt) h0
    have hc0 : ¬first (grid0.coords t) := fun h => h0 ((first_iff t).mp h)
    rw [hpos]
    by_cases h1 : t.val % 8 < 4
    · have hc1 : fills (grid0.coords t) := (fills_iff t).mpr h1
      have hc2 : ¬writes (grid0.coords t) := fun h => by have := (writes_iff t).mp h; omega
      have et : pt (8 * (t.val / 8) + t.val % 8) = t := by rw [show 8 * (t.val / 8) + t.val % 8 = t.val by omega]; exact pt_val t
      have hb : merged (hnAt m c (t.val / 8)) (iblk m c 2 t) (iblk m c 3 t) (iblk m c 4 t) (iblk m c 5 t) (iblk m c 6 t) (iblk m c 7 t) = blockAt m c (t.val / 8) (t.val % 8) := by
        unfold blockAt; rw [et]
      rw [Dat.leavesExact_idle (dats m 0 c) 9 t (idle9 t hc1) (noFlush9 t hc1)]
      iintro ⟨⟨⟨HS0, HS1, ⟨%ds2, %hk, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_fill c (grid0.coords t) _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (iblk m c 8 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      iintro ⟨H0, H1, H2, H3, H4, H5, H6, H7, H8, H9, HS0, HS1, HS2⟩
      isplitl [HS0 HS1 HS2 Hg]
      · isplitl [HS0 HS1 HS2]
        · isplitl [HS0]; · iexact HS0
          isplitl [HS1]; · iexact HS1
          iexists _; isplitr
          swap; · iexact HS2
          ipureintro
          rw [hb, e1]; exact kept_filled m c _ _ _ (Or.inr hk)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists _; iexact H9
    · have hc1 : ¬fills (grid0.coords t) := fun h => h1 ((fills_iff t).mp h)
      have hc2 : writes (grid0.coords t) := (writes_iff t).mpr (by omega)
      have ho : outAt m c t = result (grid0.coords t) hc2 (xsAt m c (t.val / 8)) (mixAt m c (t.val / 8)) (iblk m c 8 t) := by
        unfold outAt; rw [dif_pos hc2]
      rw [leaves9 m c t hc2, ho]
      iintro ⟨⟨⟨HS0, HS1, ⟨%ds2, %hk, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      obtain rfl := kept_all m c _ _ (by omega) ds2 hk
      iapply (run_write c (grid0.coords t) _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (iblk m c 8 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexact HS2
      iintro ⟨H0, H1, H2, H3, H4, H5, H6, H7, H8, H9, HS0, HS1, HS2⟩
      isplitl [HS0 HS1 HS2 Hg]
      · isplitl [HS0 HS1 HS2]
        · isplitl [HS0]; · iexact HS0
          isplitl [HS1]; · iexact HS1
          iexists _; isplitr
          swap; · iexact HS2
          ipureintro
          exact fun y _ => rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

end Cert.Kernel3Ideal.Tail

end
-- ==== Proof.TailRun.lean ====
/- The merge kernel's whole run, over any float values, and its frame. -/
module

public import proofs.«01_k».proof.Proof.TailFrame
public import Idealize.ShloMosaic.Lib.Claim

@[expose] public section

set_option maxRecDepth 16384

noncomputable section

namespace Cert.Kernel3Ideal.Tail

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem body_row (t : Fin cfg0.N) : defs₀ (F := F) .tc cfg0.body (cfg0.bodyArgs t (cfg0.slots t)) = bodyAt t := by
  unfold defs₀; rw [Defs.onTc_tc]

/-- The body, as the grid asks for it. -/
theorem obliged (c : Dev nD) : BodyObligation (dats (F := F) m 0 c) (defs₀ (F := F)) Variants.none () Set.univ := fun t => by
  rw [bigSep_W0, bigSep_W0, body_row]
  exact triple_restated (sound_body m c t) rfl .rfl fun _ => .rfl

theorem starts (c : Dev nD) : Pipeline.ΦA spec0 c ⊢ (dats m 0 c).Φ 0 := by
  rw [show (dats m 0 c).Φ 0 = held m c 0 (Nat.zero_le _) from rfl]
  exact Idealize.SL.BI.Entails.refl _

theorem ends (c : Dev nD) : (dats m 0 c).Φ (Fin.last cfg0.N) ⊢ Pipeline.ΦA spec0 c :=
  held_out m c cfg0.N (Nat.le_refl _)

set_option backward.isDefEq.respectTransparency.types false in
/-- The whole run: every array ends at what the points leave in it, and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obliged m c).loose) (hq := fun _ _ _ => rfl)
    (howed := fun _ _ => rfl) (V := V m) (hmain := upTo m Variants.none) (hA := A_eq m) (hin := starts m) (hout := ends m)

theorem run_main : θ_run defs (onTc (τ := τ) (main (F := F))) (s₀ m ρ) (Pipeline.FramePost cfgs (dats m) 0 (V m)) :=
  (θ_run defs _ _).mono (fun _ h => h.1) (run_quiet m ρ)

/-- The run with its result: the output array at what the points wrote, the arguments as they were. -/
theorem run_result : θ_run defs (onTc (τ := τ) (main (F := F))) ⟨m, fun _ => 0, ρ⟩ (fun r => ∀ c : Dev nD,
      r.2.mem ((c.tc : Thread nD τ).loc main_v11) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1 9,
      ((h c).1 0).trans (((dats m 0 c).arrAt_in 0 rfl _).trans ((A_eq m c 0).trans (V_arg0 m c))),
      ((h c).2 main_arg1 (Pipeline.mem_restRefs_of main_arg1 (by decide) (by decide))).trans (V_arg1 m c),
      ((h c).1 2).trans (((dats m 0 c).arrAt_in 2 rfl _).trans ((A_eq m c 2).trans (V_arg2 m c))),
      ((h c).1 3).trans (((dats m 0 c).arrAt_in 3 rfl _).trans ((A_eq m c 3).trans (V_arg3 m c))),
      ((h c).2 main_arg4 (Pipeline.mem_restRefs_of main_arg4 (by decide) (by decide))).trans (V_arg4 m c),
      ((h c).2 main_arg5 (Pipeline.mem_restRefs_of main_arg5 (by decide) (by decide))).trans (V_arg5 m c),
      ((h c).2 main_arg6 (Pipeline.mem_restRefs_of main_arg6 (by decide) (by decide))).trans (V_arg6 m c),
      ((h c).2 main_arg7 (Pipeline.mem_restRefs_of main_arg7 (by decide) (by decide))).trans (V_arg7 m c)⟩) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and ((θ_run defs _ _).mono (fun _ h c => (h c).2) (run_result m ρ)) ((θ_run defs _ _).mono (fun _ h => h.2) (run_quiet m ρ))

end Cert.Kernel3Ideal.Tail

end
-- ==== Proof.TailParts.lean ====
/- The merge kernel's arithmetic over the extended reals, read at one row and one column, and its blocks in the arguments. -/
module

public import proofs.«01_k».proof.Proof.TailRun

@[expose] public section

set_option maxRecDepth 16384

noncomputable section

namespace Cert.Kernel3Ideal.Tail

open Cert.Kernel3Ideal Cert.Kernel3Ideal.Gen Cert.Mlp Idealize.ShloMosaic Idealize.ShloMosaic.TcCoe Idealize.SL.Sem

/-- The sigmoid. -/
def sigm (b : EReal) : EReal := Ideal.div 1 (1 + Ideal.exp (0 - b))

theorem normed_at (x : Vec Ideal S512x2048 .f32) (g : Vec Ideal S1x2048 .f32) (r : Fin 512) (k : Fin 2048) :
    normed x g (ix2 r k) = nrm (fun l => x (ix2 r l)) (fun l => g (ix2 0 l)) k := by
  unfold nrm
  pointwise [normed]

theorem gate_at (h : Vec Ideal S512x2048 .bf16) (w : Vec Ideal S2048x512 .bf16) (r d : Fin 512) :
    gate h w (ix2 r d) = sigm (∑ k : Fin 2048, h (ix2 r k) * w (ix2 k d)) := by
  unfold sigm
  pointwise [gate]

theorem proj_at (y : Vec Ideal S512x1024 .bf16) (w : Vec Ideal S1024x512 .bf16) (r d : Fin 512) :
    proj y w (ix2 r d) = ∑ k : Fin 1024, y (ix2 r k) * w (ix2 k d) := by
  pointwise [proj]

theorem merged_at (h : Vec Ideal S512x2048 .bf16) (x2 x3 : Vec Ideal S512x1024 .bf16) (x4 x5 : Vec Ideal S2048x512 .bf16) (x6 x7 : Vec Ideal S1024x512 .bf16)
    (r d : Fin 512) :
    merged h x2 x3 x4 x5 x6 x7 (ix2 r d)
      = sigm (∑ k : Fin 2048, h (ix2 r k) * x4 (ix2 k d)) * (∑ k : Fin 1024, x2 (ix2 r k) * x6 (ix2 k d))
        + sigm (∑ k : Fin 2048, h (ix2 r k) * x5 (ix2 k d)) * (∑ k : Fin 1024, x3 (ix2 r k) * x7 (ix2 k d)) := by
  rw [← gate_at, ← gate_at, ← proj_at, ← proj_at]
  rfl

/-- A load of one slice of a stack of four, -/
theorem ld_slice {φ : EltTy} (D : Vec Ideal S4x512x512 φ) (k : Fin 4) (o : Fin 3 → ℕ) (ho : o = ![k.val, 0, 0])
    (inb : ∀ a, o a + S1x512x512.size a ≤ S4x512x512.size a) (r f : Fin 512) :
    View.ld D (Rect.unit (s := S4x512x512) o S1x512x512.size inb) (ix3 0 r f) = D (ix3 k r f) := by
  subst ho
  refine congrArg D (funext fun a => Fin.ext ?_)
  show (![k.val, 0, 0] : Fin 3 → ℕ) a + 1 * (ix3 (0 : Fin 1) r f a).val = (ix3 k r f a).val
  fin_cases a
  · show k.val + 1 * 0 = k.val
    omega
  · show 0 + 1 * r.val = r.val
    omega
  · show 0 + 1 * f.val = f.val
    omega

/-- and of 512 rows of a column block of the output weights. -/
theorem ld_rows (x8 : Vec Ideal S2048x512 .bf16) (k : ℕ) (hk : k < 4)
    (inb : ∀ a, (![512 * k, 0] : Fin 2 → ℕ) a + S512x512.size a ≤ S2048x512.size a) (f d : Fin 512) :
    View.ld x8 (Rect.unit (s := S2048x512) ![512 * k, 0] S512x512.size inb) (ix2 f d) = x8 (ix2 (⟨512 * k + f, by omega⟩ : Fin 2048) d) := by
  refine congrArg x8 (funext fun a => Fin.ext ?_)
  show (![512 * k, 0] : Fin 2 → ℕ) a + 1 * (ix2 f d a).val = (ix2 (⟨512 * k + f, by omega⟩ : Fin 2048) d a).val
  fin_cases a
  · show 512 * k + 1 * f.val = 512 * k + f.val
    omega
  · show 0 + 1 * d.val = d.val
    omega

theorem product_at (z : Vec Ideal S1x512x512 .bf16) (w : Vec Ideal S512x512 .bf16) (r d : Fin 512) :
    matmul (F := Ideal) (φ₁ := .bf16) (φ₂ := .bf16) dot_S512x512_S512x512_S512x512_1_0_0_1_n_n none (shapeCast S512x512 z shapeCasts_S1x512x512_S512x512)
      (shapeCast S512x512 w shapeCasts_S512x512_S512x512) (constant S512x512 .f32 0x00000000#32) (ix2 r d)
      = ∑ f : Fin 512, z (ix3 0 r f) * w (ix2 f d) := by
  pointwise

theorem share_at (D : Vec Ideal S4x512x512 .bf16) (x8 : Vec Ideal S2048x512 .bf16) (k : ℕ) (hk : k < 4) (r d : Fin 512) :
    share D x8 k hk (ix2 r d) = ∑ f : Fin 512, D (ix3 (⟨k, hk⟩ : Fin 4) r f) * x8 (ix2 (⟨512 * k + f, by omega⟩ : Fin 2048) d) :=
  (product_at _ _ r d).trans (Finset.sum_congr rfl fun f _ => congrArg₂ (· * ·) (ld_slice D ⟨k, hk⟩ _ rfl _ r f) (ld_rows x8 k hk _ f d))

theorem sums_at (z : Vec Ideal S1x512x512 .f32) (s0 s1 s2 s3 : Vec Ideal S512x512 .f32) (r d : Fin 512) :
    addf (F := Ideal) (φ := .f32) (addf (addf (addf (shapeCast S512x512 z shapeCasts_S1x512x512_S512x512) s0) s1) s2) s3 (ix2 r d)
      = z (ix3 0 r d) + s0 (ix2 r d) + s1 (ix2 r d) + s2 (ix2 r d) + s3 (ix2 r d) := by
  pointwise

theorem result_at (i : grid0.Coords) (hi : writes i) (e : Vec Ideal S4x512x512 .f32) (D : Vec Ideal S4x512x512 .bf16) (x8 : Vec Ideal S2048x512 .bf16) (r d : Fin 512) :
    result i hi e D x8 (ix2 r d) = e (ix3 (⟨(i 1).val - 4, by have : (i 1).val < 8 := (i 1).isLt; omega⟩ : Fin 4) r d)
      + share D x8 0 (by decide) (ix2 r d) + share D x8 1 (by decide) (ix2 r d) + share D x8 2 (by decide) (ix2 r d) + share D x8 3 (by decide) (ix2 r d) := by
  have e1 := ld_slice e (⟨(i 1).val - 4, by have : (i 1).val < 8 := (i 1).isLt; omega⟩ : Fin 4) (k0_off2 i) (off2_eq i hi) (k0_off2_inb i hi) r d
  rw [← e1]
  exact sums_at _ _ _ _ _ r d

variable (m : (ℓ : Loc nD τ sig) → Buf (Elt Ideal) ℓ)

/-- The arguments: the stream, the norm's gain, the two attentions' outputs, the weights of the layer's first product,
    of the two projections, and of the output. -/
abbrev A0 (c : Dev nD) : Vec Ideal S16384x2048 .f32 := m ((c : Thread nD τ).loc main_arg0)
abbrev A1 (c : Dev nD) : Vec Ideal S1x2048 .f32 := m ((c : Thread nD τ).loc main_arg1)
abbrev A2 (c : Dev nD) : Vec Ideal S16384x1024 .bf16 := m ((c : Thread nD τ).loc main_arg2)
abbrev A3 (c : Dev nD) : Vec Ideal S16384x1024 .bf16 := m ((c : Thread nD τ).loc main_arg3)
abbrev A4 (c : Dev nD) : Vec Ideal S1x2048x6728 .f32 := m ((c : Thread nD τ).loc main_arg4)
abbrev A5 (c : Dev nD) : Vec Ideal S1x1024x2048 .f32 := m ((c : Thread nD τ).loc main_arg5)
abbrev A6 (c : Dev nD) : Vec Ideal S1x1024x2048 .f32 := m ((c : Thread nD τ).loc main_arg6)
abbrev A7 (c : Dev nD) : Vec Ideal S1x2048x2048 .f32 := m ((c : Thread nD τ).loc main_arg7)

/-- The input blocks of point `t`. -/
abbrev X0 (c : Dev nD) (t : Fin cfg0.N) : Vec Ideal S512x2048 .f32 := iblk m c 0 t
abbrev X1 (c : Dev nD) (t : Fin cfg0.N) : Vec Ideal S1x2048 .f32 := iblk m c 1 t
abbrev X2 (c : Dev nD) (t : Fin cfg0.N) : Vec Ideal S512x1024 .bf16 := iblk m c 2 t
abbrev X3 (c : Dev nD) (t : Fin cfg0.N) : Vec Ideal S512x1024 .bf16 := iblk m c 3 t
abbrev X4 (c : Dev nD) (t : Fin cfg0.N) : Vec Ideal S2048x512 .bf16 := iblk m c 4 t
abbrev X5 (c : Dev nD) (t : Fin cfg0.N) : Vec Ideal S2048x512 .bf16 := iblk m c 5 t
abbrev X6 (c : Dev nD) (t : Fin cfg0.N) : Vec Ideal S1024x512 .bf16 := iblk m c 6 t
abbrev X7 (c : Dev nD) (t : Fin cfg0.N) : Vec Ideal S1024x512 .bf16 := iblk m c 7 t
abbrev X8 (c : Dev nD) (t : Fin cfg0.N) : Vec Ideal S2048x512 .bf16 := iblk m c 8 t

/-- The windows' block indices at point `t`. -/
theorem idx : ∀ t : Fin cfg0.N, win0_0.index t = ![t.val / 8, 0] ∧ win0_1.index t = ![0, 0] ∧ win0_2.index t = ![t.val / 8, 0]
    ∧ win0_3.index t = ![t.val / 8, 0] :=
  (by decide +kernel : ∀ t : Fin grid0.N, _)

/-- Those of the weights where a merged column block is made, -/
theorem idxFill : ∀ t : Fin cfg0.N, t.val % 8 < 4 → win0_4.index t = ![0, t.val % 8] ∧ win0_5.index t = ![0, 4 + t.val % 8]
    ∧ win0_6.index t = ![0, t.val % 8] ∧ win0_7.index t = ![0, t.val % 8] :=
  (by decide +kernel : ∀ t : Fin grid0.N, _)

/-- and those of the output's where a column block of the result is written. -/
theorem idxWrite : ∀ t : Fin cfg0.N, 4 ≤ t.val % 8 → win0_8.index t = ![0, t.val % 8 - 4] ∧ win0_9.index t = ![t.val / 8, t.val % 8 - 4] :=
  (by decide +kernel : ∀ t : Fin grid0.N, _)

variable (c : Dev nD) (t : Fin cfg0.N)

theorem V_1 : V m c main_v1 = (broadcastInDim S1x2048 ![1] bcast_S2048_S1x2048_1 (shapeCast S2048 (A1 m c) shapeCasts_S1x2048_S2048 : FVec Ideal S2048 .f32) : FVec Ideal S1x2048 .f32) := by
  simp only [V]
  after_results
  try rfl
theorem V_4 : V m c main_v4 = (truncf .bf16 (extractStridedSlice S2048x4096 ![0, 2632] (shapeCast S2048x6728 (A4 m c) shapeCasts_S1x2048x6728_S2048x6728 : FVec Ideal S2048x6728 .f32) slices_S2048x6728_S2048x4096_0_2632 : FVec Ideal S2048x4096 .f32) bitsLt_bf16_f32 : FVec Ideal S2048x4096 .bf16) := by
  simp only [V]
  after_results
  try rfl
theorem V_6 : V m c main_v6 = (truncf .bf16 (shapeCast S1024x2048 (A5 m c) shapeCasts_S1x1024x2048_S1024x2048 : FVec Ideal S1024x2048 .f32) bitsLt_bf16_f32 : FVec Ideal S1024x2048 .bf16) := by
  simp only [V]
  after_results
  try rfl
theorem V_8 : V m c main_v8 = (truncf .bf16 (shapeCast S1024x2048 (A6 m c) shapeCasts_S1x1024x2048_S1024x2048 : FVec Ideal S1024x2048 .f32) bitsLt_bf16_f32 : FVec Ideal S1024x2048 .bf16) := by
  simp only [V]
  after_results
  try rfl
theorem V_10 : V m c main_v10 = (truncf .bf16 (shapeCast S2048x2048 (A7 m c) shapeCasts_S1x2048x2048_S2048x2048 : FVec Ideal S2048x2048 .f32) bitsLt_bf16_f32 : FVec Ideal S2048x2048 .bf16) := by
  simp only [V]
  after_results
  try rfl

/-- The prepared operands, read at an index: the gain and the weights themselves. -/
theorem v1_at (k : Fin 2048) : (V m c main_v1 : FVec Ideal S1x2048 .f32) (ix2 0 k) = A1 m c (ix2 0 k) := by
  rw [V_1]
  pointwise
theorem v4_at (k : Fin 2048) (D : Fin 4096) : (V m c main_v4 : FVec Ideal S2048x4096 .bf16) (ix2 k D) = A4 m c (ix3 0 k (⟨2632 + D, by omega⟩ : Fin 6728)) := by
  rw [V_4]
  pointwise
theorem v6_at (k : Fin 1024) (D : Fin 2048) : (V m c main_v6 : FVec Ideal S1024x2048 .bf16) (ix2 k D) = A5 m c (ix3 0 k D) := by
  rw [V_6]
  pointwise
theorem v8_at (k : Fin 1024) (D : Fin 2048) : (V m c main_v8 : FVec Ideal S1024x2048 .bf16) (ix2 k D) = A6 m c (ix3 0 k D) := by
  rw [V_8]
  pointwise
theorem v10_at (k D : Fin 2048) : (V m c main_v10 : FVec Ideal S2048x2048 .bf16) (ix2 k D) = A7 m c (ix3 0 k D) := by
  rw [V_10]
  pointwise

theorem x0_at (r : Fin 512) (k : Fin 2048) (R : Fin 16384) (hR : (R : ℕ) = 512 * (t.val / 8) + r) :
    X0 m c t (ix2 r k) = A0 m c (ix2 R k) := by
  refine Eq.trans ?_ (congrFun (V_arg0 m c) (ix2 R k))
  blk_ext [iblk, idx t]

theorem x1_at (k : Fin 2048) : X1 m c t (ix2 0 k) = A1 m c (ix2 0 k) := by
  refine Eq.trans ?_ (v1_at m c k)
  blk_ext [iblk, idx t]

theorem x2_at (r : Fin 512) (k : Fin 1024) (R : Fin 16384) (hR : (R : ℕ) = 512 * (t.val / 8) + r) :
    X2 m c t (ix2 r k) = A2 m c (ix2 R k) := by
  refine Eq.trans ?_ (congrFun (V_arg2 m c) (ix2 R k))
  blk_ext [iblk, idx t]

theorem x3_at (r : Fin 512) (k : Fin 1024) (R : Fin 16384) (hR : (R : ℕ) = 512 * (t.val / 8) + r) :
    X3 m c t (ix2 r k) = A3 m c (ix2 R k) := by
  refine Eq.trans ?_ (congrFun (V_arg3 m c) (ix2 R k))
  blk_ext [iblk, idx t]

theorem x4_at (ht : t.val % 8 < 4) (k : Fin 2048) (d : Fin 512) (D : Fin 6728) (hD : (D : ℕ) = 2632 + (512 * (t.val % 8) + d)) :
    X4 m c t (ix2 k d) = A4 m c (ix3 0 k D) := by
  refine Eq.trans ?_ ((v4_at m c k (⟨512 * (t.val % 8) + d, by omega⟩ : Fin 4096)).trans (congrArg (fun z => A4 m c (ix3 0 k z)) (Fin.ext hD.symm)))
  blk_ext [iblk, idxFill t ht]

theorem x5_at (ht : t.val % 8 < 4) (k : Fin 2048) (d : Fin 512) (D : Fin 6728) (hD : (D : ℕ) = 4680 + (512 * (t.val % 8) + d)) :
    X5 m c t (ix2 k d) = A4 m c (ix3 0 k D) := by
  refine Eq.trans ?_ ((v4_at m c k (⟨512 * (4 + t.val % 8) + d, by omega⟩ : Fin 4096)).trans (congrArg (fun z => A4 m c (ix3 0 k z)) (Fin.ext (by dsimp only; omega))))
  blk_ext [iblk, idxFill t ht]

theorem x6_at (ht : t.val % 8 < 4) (k : Fin 1024) (d : Fin 512) (D : Fin 2048) (hD : (D : ℕ) = 512 * (t.val % 8) + d) :
    X6 m c t (ix2 k d) = A5 m c (ix3 0 k D) := by
  refine Eq.trans ?_ (v6_at m c k D)
  blk_ext [iblk, idxFill t ht]

theorem x7_at (ht : t.val % 8 < 4) (k : Fin 1024) (d : Fin 512) (D : Fin 2048) (hD : (D : ℕ) = 512 * (t.val % 8) + d) :
    X7 m c t (ix2 k d) = A6 m c (ix3 0 k D) := by
  refine Eq.trans ?_ (v8_at m c k D)
  blk_ext [iblk, idxFill t ht]

theorem x8_at (ht : 4 ≤ t.val % 8) (k : Fin 2048) (d : Fin 512) (D : Fin 2048) (hD : (D : ℕ) = 512 * (t.val % 8 - 4) + d) :
    X8 m c t (ix2 k d) = A7 m c (ix3 0 k D) := by
  refine Eq.trans ?_ (v10_at m c k D)
  blk_ext [iblk, idxWrite t ht]

end Cert.Kernel3Ideal.Tail

end
-- ==== Proof.TailFinal.lean ====
/- The merge kernel's whole result over the extended reals: the stream, plus the gated projections times the output weights. -/
module

public import proofs.«01_k».proof.Proof.TailParts

@[expose] public section

set_option maxRecDepth 16384

noncomputable section

namespace Cert.Kernel3Ideal.Tail

open Cert.Kernel3Ideal Cert.Kernel3Ideal.Gen Cert.Mlp Idealize.ShloMosaic Idealize.ShloMosaic.TcCoe Idealize.SL.Sem

section
variable (x : Vec Ideal S16384x2048 .f32) (g : Vec Ideal S1x2048 .f32) (yf ym : Vec Ideal S16384x1024 .bf16) (w : Vec Ideal S1x2048x6728 .f32)
  (wf wm : Vec Ideal S1x1024x2048 .f32) (wo : Vec Ideal S1x2048x2048 .f32)

/-- The normed row `R`. -/
def row (R : Fin 16384) : Fin 2048 → EReal := nrm (fun l => x (ix2 R l)) (fun l => g (ix2 0 l))

/-- The merged row `R` at column `D`: each attention's output projected, times its gate. -/
def mix (R : Fin 16384) (D : Fin 2048) : EReal :=
  sigm (∑ k : Fin 2048, row x g R k * w (ix3 0 k (⟨2632 + D, by omega⟩ : Fin 6728))) * (∑ k : Fin 1024, yf (ix2 R k) * wf (ix3 0 k D))
    + sigm (∑ k : Fin 2048, row x g R k * w (ix3 0 k (⟨4680 + D, by omega⟩ : Fin 6728))) * (∑ k : Fin 1024, ym (ix2 R k) * wm (ix3 0 k D))

/-- The stream with the first `n` columns of the merged row taken in. -/
def taken (R : Fin 16384) (C : Fin 2048) (n : ℕ) : EReal :=
  x (ix2 R C) + ∑ D ∈ Finset.range n, (if hD : D < 2048 then mix x g yf ym w wf wm R ⟨D, hD⟩ * wo (ix3 0 ⟨D, hD⟩ C) else 0)

/-- The result. -/
def out (R : Fin 16384) (C : Fin 2048) : EReal := x (ix2 R C) + ∑ D : Fin 2048, mix x g yf ym w wf wm R D * wo (ix3 0 D C)

theorem taken_all (R : Fin 16384) (C : Fin 2048) : taken x g yf ym w wf wm wo R C 2048 = out x g yf ym w wf wm wo R C :=
  congrArg (x (ix2 R C) + ·) (all 2048 fun D => mix x g yf ym w wf wm R D * wo (ix3 0 D C))

theorem taken_more (R : Fin 16384) (C : Fin 2048) (n : ℕ) (h : n + 512 ≤ 2048) :
    taken x g yf ym w wf wm wo R C n + ∑ f : Fin 512, mix x g yf ym w wf wm R ⟨n + f, by omega⟩ * wo (ix3 0 (⟨n + f, by omega⟩ : Fin 2048) C)
      = taken x g yf ym w wf wm wo R C (n + 512) := by
  unfold taken
  rw [add_assoc, ← more 2048 512 n (fun D => mix x g yf ym w wf wm R D * wo (ix3 0 D C)) h]

end

variable (m : (ℓ : Loc nD τ sig) → Buf (Elt Ideal) ℓ) (c : Dev nD)

/-- The kept normed rows of a row block. -/
theorem hnAt_at (q : ℕ) (hq : q < 32) (r : Fin 512) (R : Fin 16384) (hR : (R : ℕ) = 512 * q + r) (k : Fin 2048) :
    hnAt m c q (ix2 r k) = row (A0 m c) (A1 m c) R k := by
  have hp : (pt (8 * q)).val = 8 * q := by
    unfold pt; rw [dif_pos (by have : cfg0.N = 256 := N_0; omega)]
  unfold hnAt row
  refine (normed_at _ _ r k).trans ?_
  congr 1
  · funext l; exact x0_at m c (pt (8 * q)) r l R (by rw [hp]; omega)
  · funext l; exact x1_at m c (pt (8 * q)) l

/-- The kept column blocks of the stream. -/
theorem xsAt_at (q : ℕ) (hq : q < 32) (k : Fin 4) (r d : Fin 512) (R : Fin 16384) (hR : (R : ℕ) = 512 * q + r) (C : Fin 2048) (hC : (C : ℕ) = 512 * k + d) :
    xsAt m c q (ix3 k r d) = A0 m c (ix2 R C) := by
  have hp : (pt (8 * q)).val = 8 * q := by
    unfold pt; rw [dif_pos (by have : cfg0.N = 256 := N_0; omega)]
  unfold xsAt stacked
  refine Eq.trans ?_ (x0_at m c (pt (8 * q)) r C R (by rw [hp]; omega))
  exact congrArg (fun z => X0 m c (pt (8 * q)) (ix2 r z)) (Fin.ext hC.symm)

/-- The merged column blocks. -/
theorem mixAt_at (q : ℕ) (hq : q < 32) (k : Fin 4) (r d : Fin 512) (R : Fin 16384) (hR : (R : ℕ) = 512 * q + r) (D : Fin 2048) (hD : (D : ℕ) = 512 * k + d) :
    mixAt m c q (ix3 k r d) = mix (A0 m c) (A1 m c) (A2 m c) (A3 m c) (A4 m c) (A5 m c) (A6 m c) R D := by
  have hp : (pt (8 * q + k.val)).val = 8 * q + k.val := by
    unfold pt; rw [dif_pos (by have : cfg0.N = 256 := N_0; omega)]
  have ht : (pt (8 * q + k.val)).val % 8 = k.val := by rw [hp]; omega
  have ht4 : (pt (8 * q + k.val)).val % 8 < 4 := by omega
  have hr : (R : ℕ) = 512 * ((pt (8 * q + k.val)).val / 8) + r := by rw [hp]; omega
  unfold mix
  refine (merged_at _ _ _ _ _ _ _ r d).trans ?_
  refine congrArg₂ (· + ·) (congrArg₂ (· * ·) (congrArg sigm ?_) ?_) (congrArg₂ (· * ·) (congrArg sigm ?_) ?_)
  · refine Finset.sum_congr rfl fun l _ => congrArg₂ (· * ·) (hnAt_at m c q hq r R hR l) ?_
    exact x4_at m c _ ht4 l d _ (by rw [ht]; dsimp only; omega)
  · refine Finset.sum_congr rfl fun l _ => congrArg₂ (· * ·) (x2_at m c _ r l R hr) ?_
    exact x6_at m c _ ht4 l d _ (by rw [ht]; omega)
  · refine Finset.sum_congr rfl fun l _ => congrArg₂ (· * ·) (hnAt_at m c q hq r R hR l) ?_
    exact x5_at m c _ ht4 l d _ (by rw [ht]; dsimp only; omega)
  · refine Finset.sum_congr rfl fun l _ => congrArg₂ (· * ·) (x3_at m c _ r l R hr) ?_
    exact x7_at m c _ ht4 l d _ (by rw [ht]; omega)

/-- One merged column block times its rows of the output weights, at a point that writes. -/
theorem share_mix (t : Fin cfg0.N) (ht : 4 ≤ t.val % 8) (k : ℕ) (hk : k < 4) (r d : Fin 512) (R : Fin 16384) (hR : (R : ℕ) = 512 * (t.val / 8) + r)
    (C : Fin 2048) (hC : (C : ℕ) = 512 * (t.val % 8 - 4) + d) :
    share (mixAt m c (t.val / 8)) (X8 m c t) k hk (ix2 r d)
      = ∑ f : Fin 512, mix (A0 m c) (A1 m c) (A2 m c) (A3 m c) (A4 m c) (A5 m c) (A6 m c) R ⟨512 * k + f, by omega⟩ * A7 m c (ix3 0 (⟨512 * k + f, by omega⟩ : Fin 2048) C) := by
  have hN : t.val < 256 := lt_of_lt_of_eq t.isLt N_0
  refine (share_at _ _ k hk r d).trans (Finset.sum_congr rfl fun f _ => congrArg₂ (· * ·) ?_ ?_)
  · exact mixAt_at m c _ (by omega) ⟨k, hk⟩ r f R hR _ rfl
  · exact x8_at m c t ht _ d C hC

/-- What a writing point leaves. -/
theorem written (t : Fin cfg0.N) (ht : 4 ≤ t.val % 8) (r d : Fin 512) (R : Fin 16384) (hR : (R : ℕ) = 512 * (t.val / 8) + r)
    (C : Fin 2048) (hC : (C : ℕ) = 512 * (t.val % 8 - 4) + d) :
    outAt m c t (ix2 r d) = out (A0 m c) (A1 m c) (A2 m c) (A3 m c) (A4 m c) (A5 m c) (A6 m c) (A7 m c) R C := by
  have hN : t.val < 256 := lt_of_lt_of_eq t.isLt N_0
  have hw : writes (grid0.coords t) := (writes_iff t).mpr ht
  unfold outAt
  rw [dif_pos hw]
  refine (result_at _ hw _ _ _ r d).trans ?_
  rw [share_mix m c t ht 0 (by decide) r d R hR C hC, share_mix m c t ht 1 (by decide) r d R hR C hC,
    share_mix m c t ht 2 (by decide) r d R hR C hC, share_mix m c t ht 3 (by decide) r d R hR C hC]
  rw [xsAt_at m c _ (by omega) _ r d R hR C (by dsimp only; rw [coord1 t]; exact hC)]
  have h0 : A0 m c (ix2 R C) = taken (A0 m c) (A1 m c) (A2 m c) (A3 m c) (A4 m c) (A5 m c) (A6 m c) (A7 m c) R C (512 * 0) := by
    unfold taken; simp
  rw [h0, taken_more _ _ _ _ _ _ _ _ R C (512 * 0) (by omega)]
  rw [show 512 * 0 + 512 = 512 * 1 from rfl, taken_more _ _ _ _ _ _ _ _ R C (512 * 1) (by omega)]
  rw [show 512 * 1 + 512 = 512 * 2 from rfl, taken_more _ _ _ _ _ _ _ _ R C (512 * 2) (by omega)]
  rw [show 512 * 2 + 512 = 512 * 3 from rfl, taken_more _ _ _ _ _ _ _ _ R C (512 * 3) (by omega)]
  exact taken_all _ _ _ _ _ _ _ _ R C

/-- The whole result. -/
theorem final : (dats m 0 c).arrAt 9 cfg0.N = fun i => out (A0 m c) (A1 m c) (A2 m c) (A3 m c) (A4 m c) (A5 m c) (A6 m c) (A7 m c) (i 0) (i 1) := by
  refine (dats m 0 c).arrAt_eq_of_covers 9 _ (by decide +kernel) fun t hf y => ?_
  have ht : 4 ≤ t.val % 8 := by
    by_contra h
    have := noFlush9 t ((fills_iff t).mpr (by omega))
    simp_all
  blk_simp
  rw [after9]
  have hy : y = ix2 (y 0) (y 1) := by funext a; fin_cases a <;> rfl
  rw [hy]
  refine (written m c t ht (y 0) (y 1) (((win0_9.blk t).view.emb y) 0) ?_ (((win0_9.blk t).view.emb y) 1) ?_).trans ?_
  · blk_simp [idxWrite t ht]
    omega
  · blk_simp [idxWrite t ht]
    omega
  · rfl

end Cert.Kernel3Ideal.Tail

end
-- ==== Proof.TailRef.lean ====
/- The reference's merge of the two attentions, read at one row and one column. -/
module

public import proofs.«01_k».proof.Proof.TailFinal
public import proofs.«01_k».proof.Proof.Gen.Reference3Ideal.Run

@[expose] public section

set_option maxRecDepth 16384

noncomputable section

namespace Cert.Reference3Ideal.Value

open Cert.Reference3Ideal Cert.Reference3Ideal.Gen Cert.Mlp Cert.Kernel3Ideal.Tail Idealize.ShloMosaic Idealize.ShloMosaic.TcCoe Idealize.SL.Sem

variable (x : FVec Ideal S16384x2048 .f32) (g : FVec Ideal S1x2048 .f32) (yf ym y : FVec Ideal S16384x1024 .bf16) (w : FVec Ideal S1x2048x6728 .f32)
  (wf wm wy : FVec Ideal S1x1024x2048 .f32) (wo : FVec Ideal S1x2048x2048 .f32)

/-- The normed rows. -/
def norms : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast S2048 g shapeCasts_S1x2048_S2048)))

/-- Both gates' products. -/
def prods : FVec Ideal S16384x4096 .f32 :=
  Host.dotGeneral dot_S16384x2048_S2048x4096_S16384x4096_1_0_0_1_n_n none (norms x g) (extractStridedSlice S2048x4096 ![0, 2632] (shapeCast S2048x6728 w shapeCasts_S1x2048x6728_S2048x6728) slices_S2048x6728_S2048x4096_0_2632)

/-- The sigmoid of every element. -/
def sigs (a : FVec Ideal S16384x2048 .f32) : FVec Ideal S16384x2048 .f32 :=
  Host.divf (broadcastInDim S16384x2048 ![] bcast_S_S16384x2048 (constant S_ .f32 0x3F800000#32)) (addf (broadcastInDim S16384x2048 ![] bcast_S_S16384x2048 (constant S_ .f32 0x3F800000#32)) (Host.exp (Host.negf a)))

/-- An attention's output projected. -/
def projs : FVec Ideal S16384x2048 .f32 :=
  Host.dotGeneral dot_S16384x1024_S1024x2048_S16384x2048_1_0_0_1_n_n none (extf .f32 y bitsLt_bf16_f32) (shapeCast S1024x2048 wy shapeCasts_S1x1024x2048_S1024x2048)

/-- The merged rows. -/
def mixed : FVec Ideal S16384x2048 .f32 :=
  addf (mulf (sigs (extractStridedSlice S16384x2048 ![0, 0] (prods x g w) slices_S16384x4096_S16384x2048_0_0)) (projs yf wf))
    (mulf (sigs (extractStridedSlice S16384x2048 ![0, 2048] (prods x g w) slices_S16384x4096_S16384x2048_0_2048)) (projs ym wm))

/-- The reference's result. -/
def REF : FVec Ideal S16384x2048 .f32 :=
  addf x (Host.dotGeneral dot_S16384x2048_S2048x2048_S16384x2048_1_0_0_1_n_n none (mixed x g yf ym w wf wm) (shapeCast S2048x2048 wo shapeCasts_S1x2048x2048_S2048x2048))

theorem norms_at (R : Fin 16384) (k : Fin 2048) : norms x g (ix2 R k) = row x g R k := by
  unfold row nrm
  pointwise [norms]

theorem prods_at (R : Fin 16384) (D : Fin 4096) :
    prods x g w (ix2 R D) = ∑ k : Fin 2048, row x g R k * w (ix3 0 k (⟨2632 + D, by omega⟩ : Fin 6728)) := by
  simp only [← norms_at]
  unfold prods
  generalize norms x g = n
  pointwise

theorem sigs_at (a : FVec Ideal S16384x2048 .f32) (i : S16384x2048.Idx) : sigs a i = sigm (a i) := by
  unfold sigm
  rw [zero_sub]
  pointwise [sigs]

theorem projs_at (R : Fin 16384) (D : Fin 2048) : projs y wy (ix2 R D) = ∑ k : Fin 1024, y (ix2 R k) * wy (ix3 0 k D) := by
  unfold projs
  pointwise

theorem left_at (a : FVec Ideal S16384x4096 .f32) (R : Fin 16384) (D : Fin 2048) :
    extractStridedSlice S16384x2048 ![0, 0] a slices_S16384x4096_S16384x2048_0_0 (ix2 R D) = a (ix2 R (⟨D, by omega⟩ : Fin 4096)) := by
  pointwise

theorem right_at (a : FVec Ideal S16384x4096 .f32) (R : Fin 16384) (D : Fin 2048) :
    extractStridedSlice S16384x2048 ![0, 2048] a slices_S16384x4096_S16384x2048_0_2048 (ix2 R D) = a (ix2 R (⟨2048 + D, by omega⟩ : Fin 4096)) := by
  pointwise

theorem mixed_at (R : Fin 16384) (D : Fin 2048) : mixed x g yf ym w wf wm (ix2 R D) = mix x g yf ym w wf wm R D := by
  have hl : sigs (extractStridedSlice S16384x2048 ![0, 0] (prods x g w) slices_S16384x4096_S16384x2048_0_0) (ix2 R D)
      = sigm (∑ k : Fin 2048, row x g R k * w (ix3 0 k (⟨2632 + D, by omega⟩ : Fin 6728))) := by
    rw [sigs_at, left_at, prods_at]
  have hr : sigs (extractStridedSlice S16384x2048 ![0, 2048] (prods x g w) slices_S16384x4096_S16384x2048_0_2048) (ix2 R D)
      = sigm (∑ k : Fin 2048, row x g R k * w (ix3 0 k (⟨4680 + D, by omega⟩ : Fin 6728))) := by
    rw [sigs_at, right_at, prods_at]
    refine congrArg sigm (Finset.sum_congr rfl fun k _ => congrArg (row x g R k * ·) (congrArg (fun z => w (ix3 0 k z)) (Fin.ext ?_)))
    dsimp only
    omega
  unfold mix
  rw [← hl, ← hr, ← projs_at yf wf, ← projs_at ym wm]
  rfl

theorem ref_at (i : S16384x2048.Idx) : REF x g yf ym w wf wm wo i = out x g yf ym w wf wm wo (i 0) (i 1) := by
  have hi : i = ix2 (i 0) (i 1) := by funext a; fin_cases a <;> rfl
  refine (congrArg (REF x g yf ym w wf wm wo) hi).trans ?_
  have h := mixed_at x g yf ym w wf wm (i 0)
  unfold REF out
  simp only [← h]
  generalize mixed x g yf ym w wf wm = n
  pointwise

end Cert.Reference3Ideal.Value

end
-- ==== Proof.TailBits.lean ====
/- The merge kernel's frame at the machine's floats, from the run over any float values: the two programs have the same text. -/
module

public import proofs.«01_k».proof.Proof.TailRun
public import proofs.«01_k».proof.Proof.Gen.Kernel3.Launch

@[expose] public section

namespace Cert.Kernel3Ideal.Tail

open Idealize.ShloMosaic Idealize.ShloMosaic.TcCoe Idealize.SL.Sem

/-- The two programs call the same body, -/
theorem same_body : @Cert.Kernel3.defs₀ Bits _ Cert.Kernel3.Gen.facts = @Cert.Kernel3Ideal.defs₀ Bits _ Cert.Kernel3Ideal.Gen.facts := by
  unfold Cert.Kernel3.defs₀ Cert.Kernel3Ideal.defs₀
  refine congrArg _ ?_
  funext l a
  match l, a with
  | 0, (t, s) => rfl
  | ⟨_ + 1, h⟩, _ => exact absurd h (Nat.not_lt.2 (Nat.le_add_left _ _))

/-- and have the same table of calls. -/
theorem same_calls : @Cert.Kernel3.defs Bits _ Cert.Kernel3.Gen.facts = @Cert.Kernel3Ideal.defs Bits _ Cert.Kernel3Ideal.Gen.facts := by
  unfold Cert.Kernel3.defs Cert.Kernel3Ideal.defs
  exact congrArg (Pipeline.defs (Cert.Kernel3Ideal.pcfgs (F := Bits))) same_body

theorem frame_bits (m : (ℓ : Loc Cert.Kernel3.nD Cert.Kernel3.τ Cert.Kernel3.sig) → Buf (Elt Bits) ℓ) (g : Dev Cert.Kernel3.nD → PrngReg) :
    θ_run (@Cert.Kernel3.defs Bits _ Cert.Kernel3.Gen.facts) (onTc (τ := Cert.Kernel3.τ) (@Cert.Kernel3.main Bits _ Cert.Kernel3.Gen.facts)) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0) := by
  rw [same_calls]
  exact frame (F := Bits) m g

end Cert.Kernel3Ideal.Tail
-- ==== Proof.Qkv.lean ====
/- The forgetting attention's projection over its grid: what each of its four results holds. -/
module

public import proofs.«01_k».proof.Proof.Mlp
public import proofs.«01_k».proof.Proof.Gen.Kernel4Ideal.Value

@[expose] public section

set_option maxRecDepth 16384

noncomputable section

namespace Cert.Kernel4Ideal.Value

open Cert.Kernel4Ideal Cert.Kernel4Ideal.Gen Cert.Mlp Idealize.ShloMosaic Idealize.ShloMosaic.TcCoe Idealize.SL.Sem

/-- The product of the normed rows with the block of weights. -/
theorem pay1_at (x : Vec Ideal S512x2048 .f32) (g : Vec Ideal S1x2048 .f32) (w : Vec Ideal S2048x1536 .bf16) (r : Fin 512) (d : Fin 1536) :
    k0_pay1 (F := Ideal) x g w (ix2 r d) = ∑ k : Fin 2048, nrm (fun l => x (ix2 r l)) (fun l => g (ix2 0 l)) k * w (ix2 k d) := by
  unfold nrm
  pointwise [k0_pay1]

section Values

variable (x : Vec Ideal S16384x2048 .f32) (g : Vec Ideal S1x2048 .f32) (w : Vec Ideal S1x2048x6728 .f32)

/-- Row `R` of the input, normed, times column `D` of the input weights. -/
def entry (R : Fin 16384) (D : Fin 6728) : EReal :=
  ∑ k : Fin 2048, nrm (fun l => x (ix2 R l)) (fun l => g (ix2 0 l)) k * w (ix3 0 k D)

/-- The queries, scaled; -/
def queries (R : Fin 16384) (D : Fin 1024) : EReal := entry x g w R ⟨D, by omega⟩ * Ideal.ofBits FTy.f32 0x3DB504F3#32
/-- the keys, -/
def keys (R : Fin 16384) (D : Fin 256) : EReal := entry x g w R ⟨1024 + D, by omega⟩
/-- and the values. -/
def values (R : Fin 16384) (D : Fin 256) : EReal := entry x g w R ⟨1280 + D, by omega⟩

end Values

variable (m : (ℓ : Loc nD τ sig) → Buf (Elt Ideal) ℓ)

/-- The arguments: the layer's input, the norm's gain, the input weights. -/
abbrev A0 (c : Dev nD) : Vec Ideal S16384x2048 .f32 := m ((c : Thread nD τ).loc main_arg0)
abbrev A1 (c : Dev nD) : Vec Ideal S1x2048 .f32 := m ((c : Thread nD τ).loc main_arg1)
abbrev A2 (c : Dev nD) : Vec Ideal S1x2048x6728 .f32 := m ((c : Thread nD τ).loc main_arg2)

/-- The input blocks of point `t`. -/
abbrev X0 (c : Dev nD) (t : Fin cfg0.N) : Vec Ideal S512x2048 .f32 := iblk m c 0 t
abbrev X1 (c : Dev nD) (t : Fin cfg0.N) : Vec Ideal S1x2048 .f32 := iblk m c 1 t
abbrev X2 (c : Dev nD) (t : Fin cfg0.N) : Vec Ideal S2048x1536 .bf16 := iblk m c 2 t

/-- The windows' block indices at point `t`. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

variable (c : Dev nD) (t : Fin cfg0.N)

theorem V_1 : V m c main_v1 = (broadcastInDim S1x2048 ![1] bcast_S2048_S1x2048_1 (shapeCast S2048 (A1 m c) shapeCasts_S1x2048_S2048 : FVec Ideal S2048 .f32) : FVec Ideal S1x2048 .f32) := by
  simp only [V]
  after_results
  try rfl

theorem V_4 : V m c main_v4 = (truncf .bf16 (extractStridedSlice S2048x1536 ![0, 0] (shapeCast S2048x6728 (A2 m c) shapeCasts_S1x2048x6728_S2048x6728 : FVec Ideal S2048x6728 .f32) slices_S2048x6728_S2048x1536_0_0 : FVec Ideal S2048x1536 .f32) bitsLt_bf16_f32 : FVec Ideal S2048x1536 .bf16) := by
  simp only [V]
  after_results
  try rfl

/-- The prepared operands, read at an index: the gain and the weights themselves. -/
theorem v1_at (k : Fin 2048) : (V m c main_v1 : FVec Ideal S1x2048 .f32) (ix2 0 k) = A1 m c (ix2 0 k) := by
  rw [V_1]
  pointwise

theorem v4_at (k : Fin 2048) (D : Fin 1536) : (V m c main_v4 : FVec Ideal S2048x1536 .bf16) (ix2 k D) = A2 m c (ix3 0 k (⟨D, by omega⟩ : Fin 6728)) := by
  rw [V_4]
  pointwise

theorem x0_at (r : Fin 512) (k : Fin 2048) (R : Fin 16384) (hR : (R : ℕ) = 512 * t.val + r) : X0 m c t (ix2 r k) = A0 m c (ix2 R k) := by
  unfold X0 A0
  blk_ext [iblk, V, idx t]

theorem x1_at (k : Fin 2048) : X1 m c t (ix2 0 k) = A1 m c (ix2 0 k) := by
  refine Eq.trans ?_ (v1_at m c k)
  blk_ext [iblk, idx t]

theorem x2_at (k : Fin 2048) (d : Fin 1536) : X2 m c t (ix2 k d) = A2 m c (ix3 0 k (⟨d, by omega⟩ : Fin 6728)) := by
  refine Eq.trans ?_ (v4_at m c k d)
  blk_ext [iblk, idx t]

/-- What point `t` computes, in the arguments. -/
theorem product (r : Fin 512) (d : Fin 1536) (R : Fin 16384) (hR : (R : ℕ) = 512 * t.val + r) (D : Fin 6728) (hD : (D : ℕ) = d) :
    k0_pay1 (F := Ideal) (X0 m c t) (X1 m c t) (X2 m c t) (ix2 r d) = entry (A0 m c) (A1 m c) (A2 m c) R D := by
  obtain rfl : D = ⟨d, lt_trans d.isLt (by decide)⟩ := Fin.ext hD
  rw [pay1_at, entry]
  refine Finset.sum_congr rfl fun k _ => congrArg₂ (· * ·) ?_ (x2_at m c t k d)
  congr 1
  · funext l; exact x0_at m c t r l R hR
  · funext l; exact x1_at m c t l

theorem pay2_at (x : Vec Ideal S512x2048 .f32) (g : Vec Ideal S1x2048 .f32) (w : Vec Ideal S2048x1536 .bf16) (r : Fin 512) (d : Fin 1024) :
    k0_pay2 (F := Ideal) x g w (ix2 r d) = k0_pay1 (F := Ideal) x g w (ix2 r (⟨d, by omega⟩ : Fin 1536)) * Ideal.ofBits FTy.f32 0x3DB504F3#32 := by
  unfold k0_pay2
  generalize k0_pay1 (F := Ideal) x g w = z
  pointwise

theorem pay3_at (x : Vec Ideal S512x2048 .f32) (g : Vec Ideal S1x2048 .f32) (w : Vec Ideal S2048x1536 .bf16) (r : Fin 512) (d : Fin 256) :
    k0_pay3 (F := Ideal) x g w (ix2 r d) = k0_pay1 (F := Ideal) x g w (ix2 r (⟨1024 + d, by omega⟩ : Fin 1536)) := by
  unfold k0_pay3
  generalize k0_pay1 (F := Ideal) x g w = z
  pointwise

theorem pay4_at (x : Vec Ideal S512x2048 .f32) (g : Vec Ideal S1x2048 .f32) (w : Vec Ideal S2048x1536 .bf16) (r : Fin 512) (d : Fin 256) :
    k0_pay4 (F := Ideal) x g w (ix2 r d) = k0_pay1 (F := Ideal) x g w (ix2 r (⟨1280 + d, by omega⟩ : Fin 1536)) := by
  unfold k0_pay4
  generalize k0_pay1 (F := Ideal) x g w = z
  pointwise

/-- The queries' array, -/
theorem final3 : (dats m 0 c).arrAt 3 cfg0.N = fun i => queries (A0 m c) (A1 m c) (A2 m c) (i 0) (i 1) := by
  refine (dats m 0 c).arrAt_eq_of_covers 3 _ (by decide +kernel) fun t hf y => ?_
  blk_simp
  rw [after0_3]
  have hy : y = ix2 (y 0) (y 1) := by funext a; fin_cases a <;> rfl
  rw [hy]
  unfold out0_3
  frame_out
  refine (pay2_at _ _ _ (y 0) (y 1)).trans ?_
  unfold queries
  refine congrArg (· * _) (product m c t (y 0) _ _ ?_ _ ?_)
  · blk_simp [idx t]
    omega
  · blk_simp [idx t]

/-- the keys', -/
theorem final4 : (dats m 0 c).arrAt 4 cfg0.N = fun i => keys (A0 m c) (A1 m c) (A2 m c) (i 0) (i 1) := by
  refine (dats m 0 c).arrAt_eq_of_covers 4 _ (by decide +kernel) fun t hf y => ?_
  blk_simp
  rw [after0_4]
  have hy : y = ix2 (y 0) (y 1) := by funext a; fin_cases a <;> rfl
  rw [hy]
  unfold out0_4
  frame_out
  refine (pay3_at _ _ _ (y 0) (y 1)).trans (product m c t (y 0) _ _ ?_ _ ?_)
  · blk_simp [idx t]
    omega
  · blk_simp [idx t]

/-- the values', -/
theorem final5 : (dats m 0 c).arrAt 5 cfg0.N = fun i => values (A0 m c) (A1 m c) (A2 m c) (i 0) (i 1) := by
  refine (dats m 0 c).arrAt_eq_of_covers 5 _ (by decide +kernel) fun t hf y => ?_
  blk_simp
  rw [after0_5]
  have hy : y = ix2 (y 0) (y 1) := by funext a; fin_cases a <;> rfl
  rw [hy]
  unfold out0_5
  frame_out
  refine (pay4_at _ _ _ (y 0) (y 1)).trans (product m c t (y 0) _ _ ?_ _ ?_)
  · blk_simp [idx t]
    omega
  · blk_simp [idx t]

/-- and the values' that the attention reads. -/
theorem final6 : (dats m 0 c).arrAt 6 cfg0.N = fun i => values (A0 m c) (A1 m c) (A2 m c) (i 0) (i 1) := by
  refine (dats m 0 c).arrAt_eq_of_covers 6 _ (by decide +kernel) fun t hf y => ?_
  blk_simp
  rw [after0_6]
  have hy : y = ix2 (y 0) (y 1) := by funext a; fin_cases a <;> rfl
  rw [hy]
  unfold out0_6
  frame_out
  refine (pay4_at _ _ _ (y 0) (y 1)).trans (product m c t (y 0) _ _ ?_ _ ?_)
  · blk_simp [idx t]
    omega
  · blk_simp [idx t]

end Cert.Kernel4Ideal.Value

end
-- ==== Proof.QkvRef.lean ====
/- The reference's projection of the forgetting attention, read at one row and one column. -/
module

public import proofs.«01_k».proof.Proof.Qkv
public import proofs.«01_k».proof.Proof.Gen.Reference4Ideal.Run

@[expose] public section

set_option maxRecDepth 16384

noncomputable section

namespace Cert.Reference4Ideal.Value

open Cert.Reference4Ideal Cert.Reference4Ideal.Gen Cert.Mlp Cert.Kernel4Ideal.Value Idealize.ShloMosaic Idealize.ShloMosaic.TcCoe Idealize.SL.Sem

variable (x : FVec Ideal S16384x2048 .f32) (g : FVec Ideal S1x2048 .f32) (w : FVec Ideal S1x2048x6728 .f32)

/-- The normed rows. -/
def norms : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast S2048 g shapeCasts_S1x2048_S2048)))

/-- Their product with the first 1536 columns of the input weights. -/
def prods : FVec Ideal S16384x1536 .f32 :=
  Host.dotGeneral dot_S16384x2048_S2048x1536_S16384x1536_1_0_0_1_n_n none (norms x g) (extractStridedSlice S2048x1536 ![0, 0] (shapeCast S2048x6728 w shapeCasts_S1x2048x6728_S2048x6728) slices_S2048x6728_S2048x1536_0_0)

/-- The reference's four results. -/
def Q : FVec Ideal S16384x1024 .bf16 :=
  truncf .bf16 (mulf (extractStridedSlice S16384x1024 ![0, 0] (prods x g w) slices_S16384x1536_S16384x1024_0_0) (broadcastInDim S16384x1024 ![] bcast_S_S16384x1024 (constant S_ .f32 0x3DB504F3#32))) bitsLt_bf16_f32
def K : FVec Ideal S16384x256 .f32 := extractStridedSlice S16384x256 ![0, 1024] (prods x g w) slices_S16384x1536_S16384x256_0_1024
def W : FVec Ideal S16384x256 .f32 := extractStridedSlice S16384x256 ![0, 1280] (prods x g w) slices_S16384x1536_S16384x256_0_1280
def Wb : FVec Ideal S16384x256 .bf16 := truncf .bf16 (W x g w) bitsLt_bf16_f32

theorem norms_at (R : Fin 16384) (k : Fin 2048) : norms x g (ix2 R k) = nrm (fun l => x (ix2 R l)) (fun l => g (ix2 0 l)) k := by
  unfold nrm
  pointwise [norms]

theorem prods_at (R : Fin 16384) (D : Fin 1536) (E : Fin 6728) (hE : (E : ℕ) = D) : prods x g w (ix2 R D) = entry x g w R E := by
  obtain rfl : E = ⟨D, lt_trans D.isLt (by decide)⟩ := Fin.ext hE
  unfold entry
  simp only [← norms_at]
  unfold prods
  generalize norms x g = n
  pointwise

theorem Q_at (R : Fin 16384) (D : Fin 1024) : Q x g w (ix2 R D) = queries x g w R D := by
  unfold queries
  rw [← prods_at x g w R (⟨D, by omega⟩ : Fin 1536) _ rfl]
  unfold Q
  generalize prods x g w = n
  pointwise

theorem K_at (R : Fin 16384) (D : Fin 256) : K x g w (ix2 R D) = keys x g w R D := by
  unfold keys
  rw [← prods_at x g w R (⟨1024 + D, by omega⟩ : Fin 1536) _ rfl]
  unfold K
  generalize prods x g w = n
  pointwise

theorem W_at (R : Fin 16384) (D : Fin 256) : W x g w (ix2 R D) = values x g w R D := by
  unfold values
  rw [← prods_at x g w R (⟨1280 + D, by omega⟩ : Fin 1536) _ rfl]
  unfold W
  generalize prods x g w = n
  pointwise

/-- Each as one function of the index. -/
theorem Q_eq : Q x g w = fun i => queries x g w (i 0) (i 1) := funext fun i =>
  (congrArg (Q x g w) (show i = ix2 (i 0) (i 1) by funext a; fin_cases a <;> rfl)).trans (Q_at x g w (i 0) (i 1))
theorem K_eq : K x g w = fun i => keys x g w (i 0) (i 1) := funext fun i =>
  (congrArg (K x g w) (show i = ix2 (i 0) (i 1) by funext a; fin_cases a <;> rfl)).trans (K_at x g w (i 0) (i 1))
theorem W_eq : W x g w = fun i => values x g w (i 0) (i 1) := funext fun i =>
  (congrArg (W x g w) (show i = ix2 (i 0) (i 1) by funext a; fin_cases a <;> rfl)).trans (W_at x g w (i 0) (i 1))
theorem Wb_eq : Wb x g w = fun i => values x g w (i 0) (i 1) := W_eq x g w

end Cert.Reference4Ideal.Value

end
-- ==== Proof.Lat.lean ====
/- The latent projection: what the packed weights, the packed bias and the rotary tables hold, column by column. -/
module

public import proofs.«01_k».proof.Proof.Qkv
public import proofs.«01_k».proof.Proof.Gen.Kernel5Ideal.Value

@[expose] public section

set_option maxRecDepth 16384

noncomputable section

namespace Cert.Kernel5Ideal.Value

open Cert.Kernel5Ideal Cert.Kernel5Ideal.Gen Idealize.ShloMosaic Idealize.ShloMosaic.TcCoe Idealize.SL.Sem

/-- The rotated key's columns of the input weights. -/
def turned (w : FVec Ideal S2048x6728 .f32) : FVec Ideal S2048x64 .f32 := extractStridedSlice S2048x64 ![0, 2568] w slices_S2048x6728_S2048x64_0_2568

/-- The same with their halves exchanged. -/
def swapped (w : FVec Ideal S2048x6728 .f32) : FVec Ideal S2048x64 .f32 :=
  concatenate S2048x64 1 [⟨S2048x32, extractStridedSlice S2048x32 ![0, 32] (turned w) slices_S2048x64_S2048x32_0_32⟩, ⟨S2048x32, extractStridedSlice S2048x32 ![0, 0] (turned w) slices_S2048x64_S2048x32_0_0⟩] concatenates_S2048x32_S2048x32_S2048x64_d1

/-- The packed weights: both latents, the key, its exchanged halves and the forget gates, with zeros after each of the last three. -/
def packed (w : FVec Ideal S2048x6728 .f32) : FVec Ideal S2048x1408 .bf16 :=
  truncf .bf16 (concatenate S2048x1408 1 [⟨S2048x1024, extractStridedSlice S2048x1024 ![0, 1544] w slices_S2048x6728_S2048x1024_0_1544⟩, ⟨S2048x64, turned w⟩, ⟨S2048x64, broadcastInDim S2048x64 ![] bcast_S_S2048x64 (constant S_ .f32 0x00000000#32)⟩, ⟨S2048x64, swapped w⟩, ⟨S2048x64, broadcastInDim S2048x64 ![] bcast_S_S2048x64 (constant S_ .f32 0x00000000#32)⟩, ⟨S2048x8, extractStridedSlice S2048x8 ![0, 1536] w slices_S2048x6728_S2048x8_0_1536⟩, ⟨S2048x120, broadcastInDim S2048x120 ![] bcast_S_S2048x120 (constant S_ .f32 0x00000000#32)⟩] concatenates_S2048x1024_S2048x64_S2048x64_S2048x64_S2048x64_S2048x8_S2048x120_S2048x1408_d1) bitsLt_bf16_f32

theorem turned_at (w : FVec Ideal S2048x6728 .f32) (k : Fin 2048) (d : Fin 64) : turned w (ix2 k d) = w (ix2 k ⟨2568 + d, by omega⟩) := by
  pointwise [turned]

theorem swapped_at (w : FVec Ideal S2048x6728 .f32) (k : Fin 2048) (d : Fin 64) :
    swapped w (ix2 k d) = if h : (d : ℕ) < 32 then w (ix2 k ⟨2600 + d, by omega⟩) else w (ix2 k ⟨2568 + (d - 32), by omega⟩) := by
  trans (if h : (d : ℕ) < 32 then turned w (ix2 k ⟨32 + d, by omega⟩) else turned w (ix2 k ⟨d - 32, by omega⟩))
  · unfold swapped
    generalize turned w = a
    pointwise
  · simp only [turned_at]
    split_ifs with h
    · exact congrArg w (congrArg (ix2 k) (Fin.ext (by dsimp only; omega)))
    · rfl

/-- Where each column of the packed weights comes from. -/
theorem packed_at (w : FVec Ideal S2048x6728 .f32) (k : Fin 2048) (d : Fin 1408) : packed w (ix2 k d)
    = if h : (d : ℕ) < 1024 then w (ix2 k ⟨1544 + d, by omega⟩)
      else if h : (d : ℕ) - 1024 < 64 then turned w (ix2 k ⟨d - 1024, h⟩)
      else if h : (d : ℕ) - 1024 - 64 < 64 then 0
      else if h : (d : ℕ) - 1024 - 64 - 64 < 64 then swapped w (ix2 k ⟨d - 1024 - 64 - 64, h⟩)
      else if h : (d : ℕ) - 1024 - 64 - 64 - 64 < 64 then 0
      else if h : (d : ℕ) - 1024 - 64 - 64 - 64 - 64 < 8 then w (ix2 k ⟨1536 + (d - 1024 - 64 - 64 - 64 - 64), by omega⟩)
      else 0 := by
  unfold packed
  generalize turned w = a
  generalize swapped w = b
  pointwise

section Columns

variable (w : FVec Ideal S2048x6728 .f32) (k : Fin 2048) (d : Fin 1408) (D : Fin 6728)

/-- The latents' columns, -/
theorem packed_latent (h : (d : ℕ) < 1024) (hD : (D : ℕ) = 1544 + d) : packed w (ix2 k d) = w (ix2 k D) := by
  rw [packed_at, dif_pos h]
  exact congrArg w (congrArg (ix2 k) (Fin.ext hD.symm))

/-- the key's, -/
theorem packed_key (j : Fin 64) (h : (d : ℕ) = 1024 + j) (hD : (D : ℕ) = 2568 + j) : packed w (ix2 k d) = w (ix2 k D) := by
  rw [packed_at, dif_neg (by omega), dif_pos (by omega), turned_at]
  exact congrArg w (congrArg (ix2 k) (Fin.ext (by dsimp only; omega)))

/-- the exchanged halves', -/
theorem packed_swap (j : Fin 64) (h : (d : ℕ) = 1152 + j) (hD : (D : ℕ) = if (j : ℕ) < 32 then 2600 + (j : ℕ) else 2568 + (j - 32)) : packed w (ix2 k d) = w (ix2 k D) := by
  rw [packed_at, dif_neg (by omega), dif_neg (by omega), dif_neg (by omega), dif_pos (by omega), swapped_at]
  by_cases hj : (j : ℕ) < 32
  · rw [dif_pos (by dsimp only; omega)]
    rw [if_pos hj] at hD
    exact congrArg w (congrArg (ix2 k) (Fin.ext (by dsimp only; omega)))
  · rw [dif_neg (by dsimp only; omega)]
    rw [if_neg hj] at hD
    exact congrArg w (congrArg (ix2 k) (Fin.ext (by dsimp only; omega)))

/-- the gates', -/
theorem packed_gate (j : Fin 8) (h : (d : ℕ) = 1280 + j) (hD : (D : ℕ) = 1536 + j) : packed w (ix2 k d) = w (ix2 k D) := by
  rw [packed_at, dif_neg (by omega), dif_neg (by omega), dif_neg (by omega), dif_neg (by omega), dif_neg (by omega), dif_pos (by omega)]
  exact congrArg w (congrArg (ix2 k) (Fin.ext (by dsimp only; omega)))

/-- and the columns of zeros beside the key. -/
theorem packed_gap (j : Fin 128) (hj : 64 ≤ (j : ℕ)) (h : (d : ℕ) = 1024 + j) : packed w (ix2 k d) = 0 := by
  rw [packed_at, dif_neg (by omega), dif_neg (by omega), dif_pos (by omega)]

end Columns

/-- The angles: position times frequency. -/
def angles : FVec Ideal S2048x32 .f32 :=
  mulf (broadcastInDim S2048x32 ![0, 1] bcast_S2048x1_S2048x32_0_1 (broadcastInDim S2048x1 ![0] bcast_S2048_S2048x1_0 (sitofp .f32 (addi (broadcastInDim S2048 ![] bcast_S_S2048 (constantI S_ 32 16#32)) (iotaInDim S2048 32 0))))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- A table of 128 lanes: two halves of 32 and zeros. -/
def table (a b : FVec Ideal S2048x32 .f32) : FVec Ideal S2048x128 .f32 :=
  concatenate S2048x128 1 [⟨S2048x32, a⟩, ⟨S2048x32, b⟩, ⟨S2048x64, broadcastInDim S2048x64 ![] bcast_S_S2048x64 (constant S_ .f32 0x00000000#32)⟩] concatenates_S2048x32_S2048x32_S2048x64_S2048x128_d1

theorem table_at (a b : FVec Ideal S2048x32 .f32) (p : Fin 2048) (d : Fin 128) : table a b (ix2 p d)
    = if h : (d : ℕ) < 32 then a (ix2 p ⟨d, h⟩) else if h : (d : ℕ) - 32 < 32 then b (ix2 p ⟨d - 32, h⟩) else 0 := by
  unfold table
  pointwise

/-- The bias of the forget gates, with zeros after it. -/
def biases (b : FVec Ideal S8 .f32) : FVec Ideal S1x128 .f32 :=
  broadcastInDim S1x128 ![1] bcast_S128_S1x128_1 (concatenate S128 0 [⟨S8, b⟩, ⟨S120, broadcastInDim S120 ![] bcast_S_S120 (constant S_ .f32 0x00000000#32)⟩] concatenates_S8_S120_S128_d0)

theorem biases_at (b : FVec Ideal S8 .f32) (d : Fin 8) : biases b (ix2 0 ⟨d, by omega⟩) = b (ix1 d) := by
  trans (if h : (d : ℕ) < 8 then b (ix1 d) else 0)
  · unfold biases
    pointwise
  · exact dif_pos d.isLt

variable (m : (ℓ : Loc nD τ sig) → Buf (Elt Ideal) ℓ) (c : Dev nD)

abbrev A0 : Vec Ideal S16384x2048 .f32 := m ((c : Thread nD τ).loc main_arg0)
abbrev A1 : Vec Ideal S1x2048 .f32 := m ((c : Thread nD τ).loc main_arg1)
abbrev A2 : Vec Ideal S1x2048x6728 .f32 := m ((c : Thread nD τ).loc main_arg2)
abbrev A3 : Vec Ideal S1x8 .f32 := m ((c : Thread nD τ).loc main_arg3)
abbrev A4 : Vec Ideal S1x512 .f32 := m ((c : Thread nD τ).loc main_arg4)
abbrev A5 : Vec Ideal S1x512 .f32 := m ((c : Thread nD τ).loc main_arg5)

theorem V_11 : V m c main_v11 = packed (shapeCast S2048x6728 (A2 m c) shapeCasts_S1x2048x6728_S2048x6728 : FVec Ideal S2048x6728 .f32) := by
  simp only [V]
  after_results
  rfl

theorem V_15 : V m c main_v15 = biases (shapeCast S8 (A3 m c) shapeCasts_S1x8_S8 : FVec Ideal S8 .f32) := by
  simp only [V]
  after_results
  rfl

theorem V_38 : V m c main_v38 = table (Host.cos angles) (Host.cos angles) := by
  simp only [V]
  after_results
  rfl

theorem V_40 : V m c main_v40 = table (Host.negf (Host.sin angles)) (Host.sin angles) := by
  simp only [V]
  after_results
  rfl

end Cert.Kernel5Ideal.Value

end
-- ==== Proof.LatPay.lean ====
/- The latent projection's body at one row and one column, from its block of products. -/
module

public import proofs.«01_k».proof.Proof.Lat

@[expose] public section

set_option maxRecDepth 16384

noncomputable section

namespace Cert.Kernel5Ideal.Value

open Cert.Kernel5Ideal Cert.Kernel5Ideal.Gen Cert.Mlp Idealize.ShloMosaic Idealize.ShloMosaic.TcCoe Idealize.SL.Sem

/-- A row of 512 divided by its root mean square, times the gain. -/
def nrmL (x g : Fin 512 → EReal) (k : Fin 512) : EReal :=
  x k * Ideal.rsqrt (Ideal.div (∑ l, x l * x l) (Ideal.ofBits FTy.f32 1140850688#32) + Ideal.ofBits FTy.f32 897988541#32) * g k

/-- The logarithm of the sigmoid, as the kernel takes it. -/
def logSig (z : EReal) : EReal := min z 0 - Ideal.log (1 + Ideal.exp (0 - max z (-z)))

/-- The products: the normed rows times the block of weights. -/
theorem pay3_at (x : Vec Ideal S512x2048 .f32) (g : Vec Ideal S1x2048 .f32) (w : Vec Ideal S2048x1408 .bf16) (r : Fin 512) (d : Fin 1408) :
    k0_pay3 (F := Ideal) x g w (ix2 r d) = ∑ k : Fin 2048, nrm (fun l => x (ix2 r l)) (fun l => g (ix2 0 l)) k * w (ix2 k d) := by
  unfold nrm
  pointwise [k0_pay3]

/-- The query latent. -/
theorem pay4_at (x : Vec Ideal S512x2048 .f32) (g : Vec Ideal S1x2048 .f32) (w : Vec Ideal S2048x1408 .bf16) (q : Vec Ideal S1x512 .f32) (r : Fin 512) (d : Fin 512) :
    k0_pay4 (F := Ideal) x g w q (ix2 r d) = nrmL (fun l => k0_pay3 (F := Ideal) x g w (ix2 r (⟨l, by omega⟩ : Fin 1408))) (fun l => q (ix2 0 l)) d := by
  unfold k0_pay4 nrmL
  generalize k0_pay3 (F := Ideal) x g w = z
  pointwise

/-- The key-value latent. -/
theorem pay7_at (x : Vec Ideal S512x2048 .f32) (g : Vec Ideal S1x2048 .f32) (w : Vec Ideal S2048x1408 .bf16) (q : Vec Ideal S1x512 .f32) (r : Fin 512) (d : Fin 512) :
    k0_pay7 (F := Ideal) (k0_pay5 x g w) (k0_pay6 q) (ix2 r d)
      = nrmL (fun l => k0_pay3 (F := Ideal) x g w (ix2 r (⟨512 + l, by omega⟩ : Fin 1408))) (fun l => q (ix2 0 l)) d := by
  unfold k0_pay7 k0_pay5 k0_pay6 nrmL
  generalize k0_pay3 (F := Ideal) x g w = z
  pointwise

section Block

variable (z : FVec Ideal S512x1408 .f32) (co si : Vec Ideal S512x128 .f32) (b : Vec Ideal S1x128 .f32) (r : Fin 512)

/-- The rotated key, all 128 lanes, -/
theorem pay9_at (d : Fin 128) : k0_pay9 (F := Ideal) z co si (ix2 r d)
    = z (ix2 r (⟨1024 + d, by omega⟩ : Fin 1408)) * co (ix2 r d) + z (ix2 r (⟨1152 + d, by omega⟩ : Fin 1408)) * si (ix2 r d) := by
  pointwise [k0_pay9]

/-- and its first 64. -/
theorem pay10_at (d : Fin 64) : k0_pay10 (F := Ideal) z co si (ix2 r d) = k0_pay9 (F := Ideal) z co si (ix2 r (⟨d, by omega⟩ : Fin 128)) := by
  unfold k0_pay10
  generalize k0_pay9 (F := Ideal) z co si = y
  pointwise

/-- A gate's logit with its bias. -/
theorem pay12_at (d : Fin 128) : k0_pay12 (F := Ideal) z b (ix2 r d) = z (ix2 r (⟨1280 + d, by omega⟩ : Fin 1408)) + b (ix2 0 d) := by
  pointwise [k0_pay12]

theorem first8 (d : Fin 128) (x y : EReal) : Scalar.select (IntOp.cmpi CmpIPredicate.slt (BitVec.ofNat 32 ↑d) (8#32)) x y = if (d : ℕ) < 8 then x else y := by
  word_cmp

/-- The gates' logarithms, zero from the ninth lane on, -/
theorem pay1_at (d : Fin 128) : k0_pay1 (F := Ideal) (k0_pay13 z b) (k0_pay14 z b) k0_pay15 (ix2 r d)
    = if (d : ℕ) < 8 then logSig (z (ix2 r (⟨1280 + d, by omega⟩ : Fin 1408)) + b (ix2 0 d)) else 0 := by
  rw [← pay12_at]
  unfold k0_pay1 k0_pay13 k0_pay14 k0_pay15 logSig
  generalize k0_pay12 (F := Ideal) z b = y
  pointwise [first8]
  rfl

/-- and the first eight. -/
theorem pay2_at (a e f : FVec Ideal S512x128 .f32) (d : Fin 8) : k0_pay2 (F := Ideal) a e f (ix2 r d) = k0_pay1 (F := Ideal) a e f (ix2 r (⟨d, by omega⟩ : Fin 128)) := by
  unfold k0_pay2
  generalize k0_pay1 (F := Ideal) a e f = y
  pointwise

end Block

end Cert.Kernel5Ideal.Value

end
-- ==== Proof.LatFinal.lean ====
/- The latent projection over its grid: what each of its seven results holds. -/
module

public import proofs.«01_k».proof.Proof.LatPay

@[expose] public section

set_option maxRecDepth 16384

noncomputable section

namespace Cert.Kernel5Ideal.Value

open Cert.Kernel5Ideal Cert.Kernel5Ideal.Gen Cert.Mlp Cert.Kernel4Ideal.Value Idealize.ShloMosaic Idealize.ShloMosaic.TcCoe Idealize.SL.Sem

section Values

variable (x : Vec Ideal S16384x2048 .f32) (g : Vec Ideal S1x2048 .f32) (w : Vec Ideal S1x2048x6728 .f32)

/-- The latent that starts at column `o` of the input weights. -/
def latent (q : Vec Ideal S1x512 .f32) (o : ℕ) (ho : o + 512 ≤ 6728) (R : Fin 16384) (D : Fin 512) : EReal :=
  nrmL (fun l => entry x g w R ⟨o + l, by omega⟩) (fun l => q (ix2 0 l)) D

/-- The rotated key, from the tables of cosines and sines. -/
def rotated (co si : FVec Ideal S2048x32 .f32) (R : Fin 16384) (D : Fin 64) : EReal :=
  if h : (D : ℕ) < 32 then
    entry x g w R ⟨2568 + D, by omega⟩ * co (ix2 ⟨R % 2048, by omega⟩ ⟨D, h⟩) - entry x g w R ⟨2600 + D, by omega⟩ * si (ix2 ⟨R % 2048, by omega⟩ ⟨D, h⟩)
  else
    entry x g w R ⟨2568 + (D - 32), by omega⟩ * si (ix2 ⟨R % 2048, by omega⟩ ⟨D - 32, by omega⟩)
      + entry x g w R ⟨2568 + D, by omega⟩ * co (ix2 ⟨R % 2048, by omega⟩ ⟨D - 32, by omega⟩)

/-- The logarithm of a forget gate. -/
def gate (b : Vec Ideal S1x8 .f32) (R : Fin 16384) (D : Fin 8) : EReal :=
  logSig (entry x g w R ⟨1536 + D, by omega⟩ + b (ix2 0 D))

/-- A row of `n` lanes with zeros after it. -/
def wide {n : ℕ} (f : Fin n → EReal) (D : Fin 128) : EReal := if h : (D : ℕ) < n then f ⟨D, h⟩ else 0

end Values

variable (m : (ℓ : Loc nD τ sig) → Buf (Elt Ideal) ℓ) (c : Dev nD) (t : Fin cfg0.N)

/-- The input blocks of point `t`. -/
abbrev X0 : Vec Ideal S512x2048 .f32 := iblk m c 0 t
abbrev X1 : Vec Ideal S1x2048 .f32 := iblk m c 1 t
abbrev X2 : Vec Ideal S2048x1408 .bf16 := iblk m c 2 t
abbrev X3 : Vec Ideal S1x512 .f32 := iblk m c 3 t
abbrev X4 : Vec Ideal S1x512 .f32 := iblk m c 4 t
abbrev X5 : Vec Ideal S1x128 .f32 := iblk m c 5 t
abbrev X6 : Vec Ideal S512x128 .f32 := iblk m c 6 t
abbrev X7 : Vec Ideal S512x128 .f32 := iblk m c 7 t

/-- The windows' block indices at point `t`: the tables' blocks come round every four points. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![t.val % 4, 0] ∧ win0_7.index t = ![t.val % 4, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] :=
  (by decide +kernel : ∀ t : Fin grid0.N, _)

theorem V_42 : V m c main_v42 = (broadcastInDim S1x2048 ![1] bcast_S2048_S1x2048_1 (shapeCast S2048 (A1 m c) shapeCasts_S1x2048_S2048 : FVec Ideal S2048 .f32) : FVec Ideal S1x2048 .f32) := by
  simp only [V]
  after_results
  try rfl

theorem V_44 : V m c main_v44 = (broadcastInDim S1x512 ![1] bcast_S512_S1x512_1 (shapeCast S512 (A4 m c) shapeCasts_S1x512_S512 : FVec Ideal S512 .f32) : FVec Ideal S1x512 .f32) := by
  simp only [V]
  after_results
  try rfl

theorem V_46 : V m c main_v46 = (broadcastInDim S1x512 ![1] bcast_S512_S1x512_1 (shapeCast S512 (A5 m c) shapeCasts_S1x512_S512 : FVec Ideal S512 .f32) : FVec Ideal S1x512 .f32) := by
  simp only [V]
  after_results
  try rfl

theorem v42_at (k : Fin 2048) : (V m c main_v42 : FVec Ideal S1x2048 .f32) (ix2 0 k) = A1 m c (ix2 0 k) := by
  rw [V_42]
  pointwise

theorem v44_at (k : Fin 512) : (V m c main_v44 : FVec Ideal S1x512 .f32) (ix2 0 k) = A4 m c (ix2 0 k) := by
  rw [V_44]
  pointwise

theorem v46_at (k : Fin 512) : (V m c main_v46 : FVec Ideal S1x512 .f32) (ix2 0 k) = A5 m c (ix2 0 k) := by
  rw [V_46]
  pointwise

theorem v15_at (d : Fin 8) : (V m c main_v15 : FVec Ideal S1x128 .f32) (ix2 0 ⟨d, by omega⟩) = A3 m c (ix2 0 d) := by
  rw [V_15, biases_at]
  pointwise

theorem weights_at (k : Fin 2048) (D : Fin 6728) :
    (shapeCast S2048x6728 (A2 m c) shapeCasts_S1x2048x6728_S2048x6728 : FVec Ideal S2048x6728 .f32) (ix2 k D) = A2 m c (ix3 0 k D) := by
  pointwise

theorem x0_at (r : Fin 512) (k : Fin 2048) (R : Fin 16384) (hR : (R : ℕ) = 512 * t.val + r) : X0 m c t (ix2 r k) = A0 m c (ix2 R k) := by
  unfold X0 A0
  blk_ext [iblk, V, idx t]

theorem x1_at (k : Fin 2048) : X1 m c t (ix2 0 k) = A1 m c (ix2 0 k) := by
  refine Eq.trans ?_ (v42_at m c k)
  blk_ext [iblk, idx t]

theorem x2_at (k : Fin 2048) (d : Fin 1408) :
    X2 m c t (ix2 k d) = packed (shapeCast S2048x6728 (A2 m c) shapeCasts_S1x2048x6728_S2048x6728 : FVec Ideal S2048x6728 .f32) (ix2 k d) := by
  rw [← V_11]
  blk_ext [iblk, idx t]

theorem x3_at (k : Fin 512) : X3 m c t (ix2 0 k) = A4 m c (ix2 0 k) := by
  refine Eq.trans ?_ (v44_at m c k)
  blk_ext [iblk, idx t]

theorem x4_at (k : Fin 512) : X4 m c t (ix2 0 k) = A5 m c (ix2 0 k) := by
  refine Eq.trans ?_ (v46_at m c k)
  blk_ext [iblk, idx t]

theorem x5_at (d : Fin 8) : X5 m c t (ix2 0 ⟨d, by omega⟩) = A3 m c (ix2 0 d) := by
  refine Eq.trans ?_ (v15_at m c d)
  blk_ext [iblk, idx t]

theorem x6_at (r : Fin 512) (d : Fin 128) (R : Fin 16384) (hR : (R : ℕ) = 512 * t.val + r) :
    X6 m c t (ix2 r d) = table (Host.cos angles) (Host.cos angles) (ix2 ⟨R % 2048, by omega⟩ d) := by
  rw [← V_38 m c]
  have e : (R : ℕ) % 2048 = 512 * (t.val % 4) + r := by omega
  simp only [e]
  blk_ext [iblk, idx t]

theorem x7_at (r : Fin 512) (d : Fin 128) (R : Fin 16384) (hR : (R : ℕ) = 512 * t.val + r) :
    X7 m c t (ix2 r d) = table (Host.negf (Host.sin angles)) (Host.sin angles) (ix2 ⟨R % 2048, by omega⟩ d) := by
  rw [← V_40 m c]
  have e : (R : ℕ) % 2048 = 512 * (t.val % 4) + r := by omega
  simp only [e]
  blk_ext [iblk, idx t]

/-- Point `t`'s block of products. -/
abbrev Z : FVec Ideal S512x1408 .f32 := k0_pay3 (F := Ideal) (X0 m c t) (X1 m c t) (X2 m c t)

section Rows

variable (r : Fin 512) (R : Fin 16384) (hR : (R : ℕ) = 512 * t.val + r)

include hR

/-- A column of products whose weights are column `D` of the input weights, -/
theorem product (d : Fin 1408) (D : Fin 6728) (h : ∀ (w : FVec Ideal S2048x6728 .f32) (k : Fin 2048), packed w (ix2 k d) = w (ix2 k D)) :
    Z m c t (ix2 r d) = entry (A0 m c) (A1 m c) (A2 m c) R D := by
  refine (pay3_at _ _ _ r d).trans ?_
  rw [entry]
  refine Finset.sum_congr rfl fun k _ => congrArg₂ (· * ·) ?_ (((x2_at m c t k d).trans (h _ k)).trans (weights_at m c k D))
  congr 1
  · funext l; exact x0_at m c t r l R hR
  · funext l; exact x1_at m c t l

omit hR in
/-- and one whose weights are zeros. -/
theorem nothing (d : Fin 1408) (h : ∀ (w : FVec Ideal S2048x6728 .f32) (k : Fin 2048), packed w (ix2 k d) = 0) : Z m c t (ix2 r d) = 0 := by
  refine (pay3_at _ _ _ r d).trans ?_
  exact Finset.sum_eq_zero fun k _ => by rw [x2_at, h, mul_zero]

/-- The latents. -/
theorem query_at (d D : Fin 512) (hD : (D : ℕ) = d) : k0_pay4 (F := Ideal) (X0 m c t) (X1 m c t) (X2 m c t) (X3 m c t) (ix2 r d)
    = latent (A0 m c) (A1 m c) (A2 m c) (A4 m c) 1544 (by omega) R D := by
  obtain rfl : D = d := Fin.ext hD
  rw [pay4_at, latent]
  congr 1
  · exact funext fun l => product m c t r R hR _ _ fun w k => packed_latent w k _ _ (by dsimp only; omega) rfl
  · exact funext fun l => x3_at m c t l

theorem keyValue_at (d D : Fin 512) (hD : (D : ℕ) = d) : k0_pay7 (F := Ideal) (k0_pay5 (X0 m c t) (X1 m c t) (X2 m c t)) (k0_pay6 (X4 m c t)) (ix2 r d)
    = latent (A0 m c) (A1 m c) (A2 m c) (A5 m c) 2056 (by omega) R D := by
  obtain rfl : D = d := Fin.ext hD
  rw [pay7_at, latent]
  congr 1
  · exact funext fun l => product m c t r R hR _ _ fun w k => packed_latent w k _ _ (by dsimp only; omega) (by dsimp only; omega)
  · exact funext fun l => x4_at m c t l

/-- The rotated key. -/
theorem key_at (d D : Fin 128) (hD : (D : ℕ) = d) : k0_pay9 (F := Ideal) (Z m c t) (X6 m c t) (X7 m c t) (ix2 r d)
    = wide (rotated (A0 m c) (A1 m c) (A2 m c) (Host.cos angles) (Host.sin angles) R) D := by
  obtain rfl : d = D := Fin.ext hD.symm
  rw [pay9_at, x6_at m c t r d R hR, x7_at m c t r d R hR, table_at, table_at, wide]
  have hn : ∀ i, (Host.negf (Host.sin angles) : FVec Ideal S2048x32 .f32) i = -(Host.sin angles : FVec Ideal S2048x32 .f32) i := fun i => rfl
  by_cases h : (d : ℕ) < 64
  · rw [dif_pos h, rotated, product m c t r R hR _ (⟨2568 + d, by omega⟩ : Fin 6728) fun w k => packed_key w k _ _ ⟨d, h⟩ rfl rfl]
    by_cases h' : (d : ℕ) < 32
    · rw [dif_pos h', dif_pos h', dif_pos h', hn, mul_neg,
        product m c t r R hR _ (⟨2600 + d, by omega⟩ : Fin 6728) fun w k => packed_swap w k _ _ ⟨d, h⟩ rfl (if_pos h').symm]
      rfl
    · rw [dif_neg h', dif_neg h', dif_neg h', dif_pos (by omega), dif_pos (by omega), add_comm,
        product m c t r R hR _ (⟨2568 + (d - 32), by omega⟩ : Fin 6728) fun w k => packed_swap w k _ _ ⟨d, h⟩ rfl (if_neg h').symm]
  · rw [dif_neg h, dif_neg (by omega), dif_neg (by omega), dif_neg (by omega), dif_neg (by omega), mul_zero, mul_zero, add_zero]

/-- The gates. -/
theorem gates_at (d D : Fin 128) (hD : (D : ℕ) = d) : k0_pay1 (F := Ideal) (k0_pay13 (Z m c t) (X5 m c t)) (k0_pay14 (Z m c t) (X5 m c t)) k0_pay15 (ix2 r d)
    = wide (gate (A0 m c) (A1 m c) (A2 m c) (A3 m c) R) D := by
  obtain rfl : d = D := Fin.ext hD.symm
  rw [pay1_at, wide]
  by_cases h : (d : ℕ) < 8
  · rw [if_pos h, dif_pos h, gate]
    exact congrArg logSig (congrArg₂ (· + ·) (product m c t r R hR _ _ fun w k => packed_gate w k _ _ ⟨d, h⟩ rfl rfl) (x5_at m c t ⟨d, h⟩))
  · rw [if_neg h, dif_neg h]

theorem shortKey_at (d D : Fin 64) (hD : (D : ℕ) = d) : k0_pay10 (F := Ideal) (Z m c t) (X6 m c t) (X7 m c t) (ix2 r d)
    = rotated (A0 m c) (A1 m c) (A2 m c) (Host.cos angles) (Host.sin angles) R D := by
  obtain rfl : D = d := Fin.ext hD
  exact (pay10_at _ _ _ r D).trans ((key_at m c t r R hR _ _ rfl).trans (dif_pos D.isLt))

theorem shortGates_at (d D : Fin 8) (hD : (D : ℕ) = d) :
    k0_pay2 (F := Ideal) (k0_pay13 (Z m c t) (X5 m c t)) (k0_pay14 (Z m c t) (X5 m c t)) k0_pay15 (ix2 r d)
    = gate (A0 m c) (A1 m c) (A2 m c) (A3 m c) R D := by
  obtain rfl : D = d := Fin.ext hD
  exact (pay2_at r _ _ _ D).trans ((gates_at m c t r R hR _ _ rfl).trans (dif_pos D.isLt))

end Rows

/-- The seven results: the query latent, -/
theorem final8 : (dats m 0 c).arrAt 8 cfg0.N = fun i => latent (A0 m c) (A1 m c) (A2 m c) (A4 m c) 1544 (by omega) (i 0) (i 1) := by
  refine (dats m 0 c).arrAt_eq_of_covers 8 _ (by decide +kernel) fun t hf y => ?_
  blk_simp
  rw [after0_8]
  have hy : y = ix2 (y 0) (y 1) := by funext a; fin_cases a <;> rfl
  rw [hy]
  unfold out0_8
  frame_out
  refine query_at m c t (y 0) _ ?_ (y 1) _ ?_
  · blk_simp [idx t]
    omega
  · blk_simp [idx t]

/-- the key-value latent, -/
theorem final9 : (dats m 0 c).arrAt 9 cfg0.N = fun i => latent (A0 m c) (A1 m c) (A2 m c) (A5 m c) 2056 (by omega) (i 0) (i 1) := by
  refine (dats m 0 c).arrAt_eq_of_covers 9 _ (by decide +kernel) fun t hf y => ?_
  blk_simp
  rw [after0_9]
  have hy : y = ix2 (y 0) (y 1) := by funext a; fin_cases a <;> rfl
  rw [hy]
  unfold out0_9 k0_pay18 k0_pay17
  frame_out
  refine keyValue_at m c t (y 0) _ ?_ (y 1) _ ?_
  · blk_simp [idx t]
    omega
  · blk_simp [idx t]

/-- the one the attention reads, -/
theorem final10 : (dats m 0 c).arrAt 10 cfg0.N = fun i => latent (A0 m c) (A1 m c) (A2 m c) (A5 m c) 2056 (by omega) (i 0) (i 1) := by
  refine (dats m 0 c).arrAt_eq_of_covers 10 _ (by decide +kernel) fun t hf y => ?_
  blk_simp
  rw [after0_10]
  have hy : y = ix2 (y 0) (y 1) := by funext a; fin_cases a <;> rfl
  rw [hy]
  unfold out0_10 k0_pay18 k0_pay17
  frame_out
  refine keyValue_at m c t (y 0) _ ?_ (y 1) _ ?_
  · blk_simp [idx t]
    omega
  · blk_simp [idx t]

/-- the rotated key, -/
theorem final11 : (dats m 0 c).arrAt 11 cfg0.N = fun i => rotated (A0 m c) (A1 m c) (A2 m c) (Host.cos angles) (Host.sin angles) (i 0) (i 1) := by
  refine (dats m 0 c).arrAt_eq_of_covers 11 _ (by decide +kernel) fun t hf y => ?_
  blk_simp
  rw [after0_11]
  have hy : y = ix2 (y 0) (y 1) := by funext a; fin_cases a <;> rfl
  rw [hy]
  unfold out0_11 k0_pay16
  frame_out
  refine shortKey_at m c t (y 0) _ ?_ (y 1) _ ?_
  · blk_simp [idx t]
    omega
  · blk_simp [idx t]

/-- the one the attention reads, -/
theorem final12 : (dats m 0 c).arrAt 12 cfg0.N = fun i => wide (rotated (A0 m c) (A1 m c) (A2 m c) (Host.cos angles) (Host.sin angles) (i 0)) (i 1) := by
  refine (dats m 0 c).arrAt_eq_of_covers 12 _ (by decide +kernel) fun t hf y => ?_
  blk_simp
  rw [after0_12]
  have hy : y = ix2 (y 0) (y 1) := by funext a; fin_cases a <;> rfl
  rw [hy]
  unfold out0_12 k0_pay16
  frame_out
  refine key_at m c t (y 0) _ ?_ (y 1) _ ?_
  · blk_simp [idx t]
    omega
  · blk_simp [idx t]

/-- the gates, -/
theorem final13 : (dats m 0 c).arrAt 13 cfg0.N = fun i => gate (A0 m c) (A1 m c) (A2 m c) (A3 m c) (i 0) (i 1) := by
  refine (dats m 0 c).arrAt_eq_of_covers 13 _ (by decide +kernel) fun t hf y => ?_
  blk_simp
  rw [after0_13]
  have hy : y = ix2 (y 0) (y 1) := by funext a; fin_cases a <;> rfl
  rw [hy]
  unfold out0_13 k0_pay21 k0_pay20 k0_pay19 k0_pay16
  frame_out
  refine shortGates_at m c t (y 0) _ ?_ (y 1) _ ?_
  · blk_simp [idx t]
    omega
  · blk_simp [idx t]

/-- and the ones the cumulative sum reads. -/
theorem final14 : (dats m 0 c).arrAt 14 cfg0.N = fun i => wide (gate (A0 m c) (A1 m c) (A2 m c) (A3 m c) (i 0)) (i 1) := by
  refine (dats m 0 c).arrAt_eq_of_covers 14 _ (by decide +kernel) fun t hf y => ?_
  blk_simp
  rw [after0_14]
  have hy : y = ix2 (y 0) (y 1) := by funext a; fin_cases a <;> rfl
  rw [hy]
  unfold out0_14 k0_pay21 k0_pay20 k0_pay19 k0_pay16
  frame_out
  refine gates_at m c t (y 0) _ ?_ (y 1) _ ?_
  · blk_simp [idx t]
    omega
  · blk_simp [idx t]

end Cert.Kernel5Ideal.Value

end
-- ==== Proof.LogSig.lean ====
/- The two spellings of the logarithm of the sigmoid. -/
module

public import proofs.«01_k».proof.Proof.LatPay

@[expose] public section

noncomputable section

namespace Cert.Mlp

open Cert.Kernel5Ideal.Value Idealize.ShloMosaic

/-- A number from one on has a logarithm. -/
theorem log_ne_of_le (a : EReal) (h : 1 ≤ a) : Ideal.log a ≠ ⊥ := by
  cases a using EReal.rec with
  | bot => exact absurd h (not_le.2 (EReal.bot_lt_coe 1))
  | top => exact top_ne_bot
  | coe r =>
    have hr : ¬ r ≤ 0 := not_le.2 (lt_of_lt_of_le one_pos (by exact_mod_cast h))
    have e : Ideal.log (r : EReal) = if r ≤ 0 then ⊥ else (Real.log r : EReal) := rfl
    rw [e, if_neg hr]
    exact EReal.coe_ne_bot _

/-- `1 + exp b` has one. -/
theorem log_ne (b : EReal) : Ideal.log (1 + Ideal.exp b) ≠ ⊥ := by
  have h : (0 : EReal) ≤ Ideal.exp b := by
    cases b using EReal.rec with
    | bot => simp
    | top => simp
    | coe r => simpa using Real.exp_nonneg r
  exact log_ne_of_le _ (by simpa using add_le_add_right h 1)

/-- Minus the softplus of `-z`. -/
theorem softplus (z : EReal) : -(max (-z) 0 + Ideal.log (1 + Ideal.exp (-(max (-z) (- -z))))) = logSig z := by
  unfold logSig
  rw [neg_neg, max_comm (-z) z, zero_sub,
    EReal.neg_add (.inl (ne_of_gt (lt_of_lt_of_le EReal.bot_lt_zero (le_max_right _ _)))) (.inr (log_ne _))]
  congr 1
  rcases le_total z 0 with h | h
  · rw [max_eq_left (by simpa using h), neg_neg, min_eq_left h]
  · rw [max_eq_right (by simpa using h), neg_zero, min_eq_right h]

end Cert.Mlp

end
-- ==== Proof.LatRef.lean ====
/- The reference of the latent projection: what each of its seven results holds. -/
module

public import proofs.«01_k».proof.Proof.LatFinal
public import proofs.«01_k».proof.Proof.LogSig
public import proofs.«01_k».proof.Proof.Gen.Reference5Ideal.Run

@[expose] public section

set_option maxRecDepth 16384

noncomputable section

namespace Cert.Reference5Ideal.Value

open Cert.Reference5Ideal Cert.Reference5Ideal.Gen Cert.Mlp Cert.Kernel4Ideal.Value Idealize.ShloMosaic Idealize.ShloMosaic.TcCoe Idealize.SL.Sem
open Cert.Kernel5Ideal.Value (nrmL logSig latent rotated gate wide angles)

variable (x : FVec Ideal S16384x2048 .f32) (g : FVec Ideal S1x2048 .f32) (w : FVec Ideal S1x2048x6728 .f32)
variable (b : FVec Ideal S1x8 .f32) (q : FVec Ideal S1x512 .f32) (co si : FVec Ideal S2048x32 .f32)

/-- The normed rows. -/
def norms : FVec Ideal S16384x2048 .f32 :=
  mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 (broadcastInDim S1x2048 ![1] bcast_S2048_S1x2048_1 (shapeCast S2048 g shapeCasts_S1x2048_S2048)))

/-- Their product with columns 1536 to 2631 of the input weights. -/
def prods : FVec Ideal S16384x1096 .f32 :=
  Host.dotGeneral dot_S16384x2048_S2048x1096_S16384x1096_1_0_0_1_n_n none (norms x g) (extractStridedSlice S2048x1096 ![0, 1536] (shapeCast S2048x6728 w shapeCasts_S1x2048x6728_S2048x6728) slices_S2048x6728_S2048x1096_0_1536)

/-- The two latents before their norms, -/
def zq : FVec Ideal S16384x512 .f32 := extractStridedSlice S16384x512 ![0, 8] (prods x g w) slices_S16384x1096_S16384x512_0_8
def zkv : FVec Ideal S16384x512 .f32 := extractStridedSlice S16384x512 ![0, 520] (prods x g w) slices_S16384x1096_S16384x512_0_520

/-- the norm, -/
def norm (z : FVec Ideal S16384x512 .f32) : FVec Ideal S16384x512 .f32 :=
  mulf (mulf z (broadcastInDim S16384x512 ![0, 1] bcast_S16384x1_S16384x512_0_1 (Host.rsqrt (addf (Host.divf (broadcastInDim S16384x1 ![0] bcast_S16384_S16384x1_0 (Host.reduceAdd (mulf z z) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 (broadcastInDim S1x512 ![1] bcast_S512_S1x512_1 (shapeCast S512 q shapeCasts_S1x512_S512)))

/-- the latents, -/
def Cq : FVec Ideal S16384x512 .bf16 := truncf .bf16 (norm q (zq x g w)) bitsLt_bf16_f32
def Ckv : FVec Ideal S16384x512 .f32 := norm q (zkv x g w)
def Ckvb : FVec Ideal S16384x512 .bf16 := truncf .bf16 (norm q (zkv x g w)) bitsLt_bf16_f32

/-- the keys' columns, the prompts apart, -/
def rows : FVec Ideal S8x2048x64 .f32 := shapeCast S8x2048x64 (extractStridedSlice S16384x64 ![0, 1032] (prods x g w) slices_S16384x1096_S16384x64_0_1032) shapeCasts_S16384x64_S8x2048x64

/-- a table for each prompt, -/
def spread : FVec Ideal S8x2048x32 .f32 := broadcastInDim S8x2048x32 ![0, 1, 2] bcast_S1x2048x32_S8x2048x32_0_1_2 (broadcastInDim S1x2048x32 ![1, 2] bcast_S2048x32_S1x2048x32_1_2 co)

/-- the rotation, -/
def turn (z : FVec Ideal S8x2048x64 .f32) (p s : FVec Ideal S8x2048x32 .f32) : FVec Ideal S8x2048x64 .f32 :=
  concatenate S8x2048x64 2 [⟨S8x2048x32, (subf (mulf (extractStridedSlice S8x2048x32 ![0, 0, 0] z slices_S8x2048x64_S8x2048x32_0_0_0) p) (mulf (extractStridedSlice S8x2048x32 ![0, 0, 32] z slices_S8x2048x64_S8x2048x32_0_0_32) s))⟩, ⟨S8x2048x32, (addf (mulf (extractStridedSlice S8x2048x32 ![0, 0, 0] z slices_S8x2048x64_S8x2048x32_0_0_0) s) (mulf (extractStridedSlice S8x2048x32 ![0, 0, 32] z slices_S8x2048x64_S8x2048x32_0_0_32) p))⟩] concatenates_S8x2048x32_S8x2048x32_S8x2048x64_d2

/-- the keys, -/
def Kr : FVec Ideal S16384x64 .f32 := shapeCast S16384x64 (turn (rows x g w) (spread co) (spread si)) shapeCasts_S8x2048x64_S16384x64

/-- with zeros after them, -/
def lanes64 (z : FVec Ideal S16384x64 .f32) : FVec Ideal S16384x128 .f32 :=
  concatenate S16384x128 1 [⟨S16384x64, z⟩, ⟨S16384x64, (broadcastInDim S16384x64 ![] bcast_S_S16384x64 (constant S_ .f32 0x00000000#32))⟩] concatenates_S16384x64_S16384x64_S16384x128_d1
def Krb : FVec Ideal S16384x128 .bf16 := truncf .bf16 (lanes64 (Kr x g w co si)) bitsLt_bf16_f32

/-- the gates' logits, -/
def logits : FVec Ideal S16384x8 .f32 :=
  addf (extractStridedSlice S16384x8 ![0, 0] (prods x g w) slices_S16384x1096_S16384x8_0_0) (broadcastInDim S16384x8 ![0, 1] bcast_S1x8_S16384x8_0_1 (broadcastInDim S1x8 ![1] bcast_S8_S1x8_1 (shapeCast S8 b shapeCasts_S1x8_S8)))

/-- the logarithms of their sigmoids, -/
def logs (z : FVec Ideal S16384x8 .f32) : FVec Ideal S16384x8 .f32 :=
  Host.negf (select (cmpf .une (subf (Host.negf z) (broadcastInDim S16384x8 ![] bcast_S_S16384x8 (constant S_ .f32 0x00000000#32))) (subf (Host.negf z) (broadcastInDim S16384x8 ![] bcast_S_S16384x8 (constant S_ .f32 0x00000000#32)))) (addf (Host.negf z) (broadcastInDim S16384x8 ![] bcast_S_S16384x8 (constant S_ .f32 0x00000000#32))) (addf (maximumf (Host.negf z) (broadcastInDim S16384x8 ![] bcast_S_S16384x8 (constant S_ .f32 0x00000000#32))) (Host.log1p (Host.exp (Host.negf (Host.absf (subf (Host.negf z) (broadcastInDim S16384x8 ![] bcast_S_S16384x8 (constant S_ .f32 0x00000000#32)))))))))
def Lf : FVec Ideal S16384x8 .f32 := logs (logits x g w b)

/-- and those with zeros after them. -/
def lanes8 (z : FVec Ideal S16384x8 .f32) : FVec Ideal S16384x128 .f32 :=
  concatenate S16384x128 1 [⟨S16384x8, z⟩, ⟨S16384x120, (broadcastInDim S16384x120 ![] bcast_S_S16384x120 (constant S_ .f32 0x00000000#32))⟩] concatenates_S16384x8_S16384x120_S16384x128_d1
def Lfb : FVec Ideal S16384x128 .f32 := lanes8 (Lf x g w b)

theorem norms_at (R : Fin 16384) (k : Fin 2048) : norms x g (ix2 R k) = nrm (fun l => x (ix2 R l)) (fun l => g (ix2 0 l)) k := by
  unfold nrm
  pointwise [norms]

theorem prods_at (R : Fin 16384) (D : Fin 1096) : prods x g w (ix2 R D) = entry x g w R ⟨1536 + D, by omega⟩ := by
  unfold entry
  simp only [← norms_at]
  unfold prods
  generalize norms x g = n
  pointwise

theorem prods_col (R : Fin 16384) (D : Fin 1096) (E : Fin 6728) (h : 1536 + (D : ℕ) = E) : prods x g w (ix2 R D) = entry x g w R E :=
  (prods_at x g w R D).trans (congrArg (entry x g w R) (Fin.ext h))

theorem zq_at (R : Fin 16384) (D : Fin 512) : zq x g w (ix2 R D) = entry x g w R ⟨1544 + D, by omega⟩ := by
  rw [← prods_col x g w R (⟨8 + D, by omega⟩ : Fin 1096) _ (by dsimp only; omega)]
  unfold zq
  generalize prods x g w = n
  pointwise

theorem zkv_at (R : Fin 16384) (D : Fin 512) : zkv x g w (ix2 R D) = entry x g w R ⟨2056 + D, by omega⟩ := by
  rw [← prods_col x g w R (⟨520 + D, by omega⟩ : Fin 1096) _ (by dsimp only; omega)]
  unfold zkv
  generalize prods x g w = n
  pointwise

theorem norm_at (z : FVec Ideal S16384x512 .f32) (R : Fin 16384) (D : Fin 512) :
    norm q z (ix2 R D) = nrmL (fun l => z (ix2 R l)) (fun l => q (ix2 0 l)) D := by
  unfold nrmL
  pointwise [norm]

theorem rows_at (p : Fin 8) (s : Fin 2048) (D : Fin 64) (R : Fin 16384) (hR : (R : ℕ) = p * 2048 + s) (E : Fin 6728) (hE : (E : ℕ) = 2568 + D) :
    rows x g w (ix3 p s D) = entry x g w R E := by
  have hb : (p : ℕ) * 2048 + s < 16384 := by omega
  obtain rfl : R = ⟨p * 2048 + s, hb⟩ := Fin.ext hR
  rw [← prods_col x g w _ (⟨1032 + D, by omega⟩ : Fin 1096) E (by dsimp only; omega)]
  unfold rows
  generalize prods x g w = n
  pointwise

theorem spread_at (p : Fin 8) (s : Fin 2048) (d : Fin 32) : spread co (ix3 p s d) = co (ix2 s d) := by
  pointwise [spread]

theorem turn_at (z : FVec Ideal S8x2048x64 .f32) (u v : FVec Ideal S8x2048x32 .f32) (p : Fin 8) (s : Fin 2048) (D : Fin 64) :
    turn z u v (ix3 p s D) = if h : (D : ℕ) < 32 then
        z (ix3 p s D) * u (ix3 p s ⟨D, h⟩) - z (ix3 p s ⟨32 + D, by omega⟩) * v (ix3 p s ⟨D, h⟩)
      else z (ix3 p s ⟨D - 32, by omega⟩) * v (ix3 p s ⟨D - 32, by omega⟩) + z (ix3 p s D) * u (ix3 p s ⟨D - 32, by omega⟩) := by
  pointwise [turn]
  split
  · rfl
  · have e : 32 + ((D : ℕ) - 32) = D := by omega
    simp only [e]

theorem Kr_turn (z : FVec Ideal S8x2048x64 .f32) (R : Fin 16384) (D : Fin 64) :
    (shapeCast S16384x64 z shapeCasts_S8x2048x64_S16384x64 : FVec Ideal S16384x64 .f32) (ix2 R D) = z (ix3 ⟨R / 2048, by omega⟩ ⟨R % 2048, by omega⟩ D) := by
  pointwise

theorem Kr_at (R : Fin 16384) (D : Fin 64) : Kr x g w co si (ix2 R D) = rotated x g w co si R D := by
  have hR : (R : ℕ) = R / 2048 * 2048 + R % 2048 := by omega
  unfold Kr rotated
  rw [Kr_turn, turn_at]
  by_cases h : (D : ℕ) < 32
  · rw [dif_pos h, dif_pos h, spread_at, spread_at, rows_at x g w ⟨R / 2048, by omega⟩ ⟨R % 2048, by omega⟩ _ R hR ⟨2568 + D, by omega⟩ rfl,
      rows_at x g w ⟨R / 2048, by omega⟩ ⟨R % 2048, by omega⟩ _ R hR ⟨2600 + D, by omega⟩ (by dsimp only; omega)]
  · rw [dif_neg h, dif_neg h, spread_at, spread_at, rows_at x g w ⟨R / 2048, by omega⟩ ⟨R % 2048, by omega⟩ _ R hR ⟨2568 + (D - 32), by omega⟩ rfl,
      rows_at x g w ⟨R / 2048, by omega⟩ ⟨R % 2048, by omega⟩ _ R hR ⟨2568 + D, by omega⟩ rfl]

theorem logits_at (R : Fin 16384) (D : Fin 8) : logits x g w b (ix2 R D) = entry x g w R ⟨1536 + D, by omega⟩ + b (ix2 0 D) := by
  rw [← prods_col x g w R (⟨D, by omega⟩ : Fin 1096) _ rfl]
  unfold logits
  generalize prods x g w = n
  pointwise

theorem logs_at (z : FVec Ideal S16384x8 .f32) (R : Fin 16384) (D : Fin 8) : logs z (ix2 R D) = logSig (z (ix2 R D)) := by
  rw [← softplus]
  pointwise [logs]
  rw [if_neg (not_not.2 rfl)]
  rfl

theorem lanes64_at (z : FVec Ideal S16384x64 .f32) (R : Fin 16384) (D : Fin 128) : lanes64 z (ix2 R D) = wide (fun d : Fin 64 => z (ix2 R d)) D := by
  unfold wide
  pointwise [lanes64]

theorem lanes8_at (z : FVec Ideal S16384x8 .f32) (R : Fin 16384) (D : Fin 128) : lanes8 z (ix2 R D) = wide (fun d : Fin 8 => z (ix2 R d)) D := by
  unfold wide
  pointwise [lanes8]

theorem Lf_at (R : Fin 16384) (D : Fin 8) : Lf x g w b (ix2 R D) = gate x g w b R D :=
  (logs_at _ R D).trans (congrArg logSig (logits_at x g w b R D))

/-! The arrays that the run leaves. -/

section Results

variable (m : (ℓ : Loc nD τ sig) → Buf (Elt Ideal) ℓ) (c : Dev nD)

theorem res_Kr : res_main_v93 m c = Kr (m ((c.tc : Thread nD τ).loc main_arg0)) (m ((c.tc : Thread nD τ).loc main_arg1)) (m ((c.tc : Thread nD τ).loc main_arg2)) (Host.cos angles) (Host.sin angles) := rfl
theorem res_Krb : res_main_v98 m c = Krb (m ((c.tc : Thread nD τ).loc main_arg0)) (m ((c.tc : Thread nD τ).loc main_arg1)) (m ((c.tc : Thread nD τ).loc main_arg2)) (Host.cos angles) (Host.sin angles) := rfl
theorem res_Lf : res_main_v72 m c = Lf (m ((c.tc : Thread nD τ).loc main_arg0)) (m ((c.tc : Thread nD τ).loc main_arg1)) (m ((c.tc : Thread nD τ).loc main_arg2)) (m ((c.tc : Thread nD τ).loc main_arg3)) := rfl
theorem res_Lfb : res_main_v100 m c = Lfb (m ((c.tc : Thread nD τ).loc main_arg0)) (m ((c.tc : Thread nD τ).loc main_arg1)) (m ((c.tc : Thread nD τ).loc main_arg2)) (m ((c.tc : Thread nD τ).loc main_arg3)) := rfl

end Results

/-! Each as one function of the index. -/

theorem Cq_eq : Cq x g w q = fun i => latent x g w q 1544 (by omega) (i 0) (i 1) := funext fun i =>
  (congrArg (Cq x g w q) (show i = ix2 (i 0) (i 1) by funext a; fin_cases a <;> rfl)).trans
    ((norm_at q _ (i 0) (i 1)).trans (congrArg (fun f => nrmL f _ _) (funext fun l => zq_at x g w (i 0) l)))
theorem Ckv_eq : Ckv x g w q = fun i => latent x g w q 2056 (by omega) (i 0) (i 1) := funext fun i =>
  (congrArg (Ckv x g w q) (show i = ix2 (i 0) (i 1) by funext a; fin_cases a <;> rfl)).trans
    ((norm_at q _ (i 0) (i 1)).trans (congrArg (fun f => nrmL f _ _) (funext fun l => zkv_at x g w (i 0) l)))
theorem Ckvb_eq : Ckvb x g w q = fun i => latent x g w q 2056 (by omega) (i 0) (i 1) := Ckv_eq x g w q
theorem Kr_eq : Kr x g w co si = fun i => rotated x g w co si (i 0) (i 1) := funext fun i =>
  (congrArg (Kr x g w co si) (show i = ix2 (i 0) (i 1) by funext a; fin_cases a <;> rfl)).trans
    (Kr_at x g w co si (i 0) (i 1))
theorem Krb_eq : Krb x g w co si = fun i => wide (rotated x g w co si (i 0)) (i 1) := funext fun i =>
  (congrArg (Krb x g w co si) (show i = ix2 (i 0) (i 1) by funext a; fin_cases a <;> rfl)).trans
    ((lanes64_at _ (i 0) (i 1)).trans (congrArg (wide · _) (funext fun d => Kr_at x g w co si (i 0) d)))
theorem Lf_eq : Lf x g w b = fun i => gate x g w b (i 0) (i 1) := funext fun i =>
  (congrArg (Lf x g w b) (show i = ix2 (i 0) (i 1) by funext a; fin_cases a <;> rfl)).trans
    (Lf_at x g w b (i 0) (i 1))
theorem Lfb_eq : Lfb x g w b = fun i => wide (gate x g w b (i 0)) (i 1) := funext fun i =>
  (congrArg (Lfb x g w b) (show i = ix2 (i 0) (i 1) by funext a; fin_cases a <;> rfl)).trans
    ((lanes8_at _ (i 0) (i 1)).trans (congrArg (wide · _) (funext fun d => Lf_at x g w b (i 0) d)))

end Cert.Reference5Ideal.Value

end
-- ==== Proof.FoxOpened.lean ====
/- What the run of the forgetting attention's body found, opened: one trip of its loop, and the block it leaves. -/
module

public import proofs.«01_k».proof.Proof.Gen.Kernel6Ideal.Value
public import Idealize.ShloMosaic.Lib.Pipeline.ValueKit

@[expose] public section

set_option maxRecDepth 16384

noncomputable section

namespace Cert.Kernel6Ideal.Value

open Cert.Kernel6Ideal Cert.Kernel6Ideal.Gen Idealize.ShloMosaic Idealize.ShloMosaic.TcCoe Idealize.SL.Sem
open Idealize.ShloMosaic.Pipeline (Dat)

variable {F : FTy → Type} [FloatOps F] [Named F]

/-- What the loop carries: the scores of the tile to come, and per head `m`, `l` and the weighted sum. -/
abbrev Carry (F : FTy → Type) [FloatOps F] := FVec F S512x512 .f32 × FVec F S512x512 .f32 × FVec F S1x512 .f32 × FVec F S1x512 .f32 × FVec F S128x512 .f32 × FVec F S1x512 .f32 × FVec F S1x512 .f32 × FVec F S128x512 .f32

/-- The second of the two loops the compiler splits the trips into makes none. -/
theorem trips2 : ∀ i : grid0.Coords, (k0_t2_loop i).trips = 0 := by
  decide +kernel

/-- The first makes as many as the point's query block has key tiles before its own. -/
theorem trips1 : ∀ i : grid0.Coords, (k0_t1_loop i).trips = (i 2).val := by
  decide +kernel

section trip

variable (𝒱 : Variants) (c : Dev nD) (bd : Option 𝒱.V) (i : grid0.Coords) (arg3 : Memref sig .tc .vmem S512x512 .bf16) (harg3 : arg3.IsWhole) (arg4 : Memref sig .tc .vmem S2048x256 .bf16) (harg4 : arg4.IsWhole) (arg5 : Memref sig .tc .vmem S4x128x512 .bf16) (harg5 : arg5.IsWhole) (arg6 : Memref sig .tc .vmem S128x256 .bf16) (harg6 : arg6.IsWhole) (arg7 : Memref sig .tc .vmem S128x128 .bf16) (harg7 : arg7.IsWhole) (arg8 : Memref sig .tc .vmem S512x256 .bf16) (harg8 : arg8.IsWhole) (arg2 : BitVec 32) (v0 : Vec F S512x256 .bf16) (v1 : Vec F S512x256 .bf16) (v3 : FVec F S1x512 .f32) (v4 : FVec F S128x512 .f32) (v13 : FVec F S512x512 .f32) (v14 : FVec F S512x512 .f32) (v16 : FVec F S128x128 .bf16) (v22 : FVec F S128x512 .f32) (v25 : FVec F S1x512 .f32) (v28 : FVec F S1x512 .f32) (v30 : FVec F S1x512 .f32) (v32 : FVec F S1x512 .f32) (v34 : FVec F S128x512 .f32)
  (x1 : Vec F S2048x256 .bf16) (x2 : Vec F S4x128x512 .bf16)

/-- One trip: the scores of the next tile, and the running softmax of both heads over the tile carried in. -/
def tripV (k : Fin (k0_t1_loop i).trips) (a : Carry F) : Carry F :=
  let kt : Vec F S512x256 .bf16 := View.ld x1 (Rect.unit (s := S2048x256) (k0_off1 i k) S512x256.size (k0_off1_inb i k))
  let vt : Vec F S1x128x512 .bf16 := View.ld x2 (Rect.unit (s := S4x128x512) (k0_off2 i k) S1x128x512.size (k0_off2_inb i k))
  (k0_pay24 v0 kt, k0_pay25 v1 kt,
    k0_pay27 a.1 a.2.2.1, k0_pay33 a.1 a.2.2.1 a.2.2.2.1, k0_pay35 a.1 a.2.2.1 a.2.2.2.2.1 vt,
    k0_pay28 a.2.1 a.2.2.2.2.2.1, k0_pay34 a.2.1 a.2.2.2.2.2.1 a.2.2.2.2.2.2.1, k0_pay36 a.2.1 a.2.2.2.2.2.1 a.2.2.2.2.2.2.2 vt)

/-- The carried state after `k` trips. -/
def runV (init : Carry F) : ℕ → Carry F
  | 0 => init
  | k + 1 => if h : k < (k0_t1_loop i).trips then tripV i v0 v1 x1 x2 ⟨k, h⟩ (runV init k) else runV init k

theorem trip_open (k : Fin (k0_t1_loop i).trips) (acc : Carry F) :
    tripR_k0_t1 (F := F) 𝒱 c bd i arg3 harg3 arg4 harg4 arg5 harg5 arg6 harg6 arg7 harg7 arg8 harg8 arg2 v0 v1 v3 v4 v13 v14 v16 v22 v25 v28 v30 v32 v34 (harg4.unread x1) (harg5.unread x2) k acc
      = tripV i v0 v1 x1 x2 k acc := by
  unfold tripR_k0_t1 trip_k0_t1
  dsimp only
  sl_unfold_words
  simp only [View.readAt_eq_ld, harg4.read_unread, harg5.read_unread]
  rfl

theorem st_open (init : Carry F) : ∀ k, k ≤ (k0_t1_loop i).trips →
    st_k0_t1 (F := F) 𝒱 c bd i arg3 harg3 arg4 harg4 arg5 harg5 arg6 harg6 arg7 harg7 arg8 harg8 arg2 v0 v1 v3 v4 v13 v14 v16 v22 v25 v28 v30 v32 v34 (harg4.unread x1) (harg5.unread x2) init k
      = runV i v0 v1 x1 x2 init k
  | 0, _ => rfl
  | k + 1, h => by
    rw [st_k0_t1_succ 𝒱 c bd i arg3 harg3 arg4 harg4 arg5 harg5 arg6 harg6 arg7 harg7 arg8 harg8 arg2 v0 v1 v3 v4 v13 v14 v16 v22 v25 v28 v30 v32 v34 (harg4.unread x1) (harg5.unread x2) init ⟨k, h⟩,
      trip_open, runV, dif_pos (show k < _ from h), st_open init k (Nat.le_of_succ_le h)]

/-- No trip of the second loop: what it starts from is what it ends with. -/
theorem st2_open (X4 : BufTy.Contents (Elt F) arg4.view.ty) (X5 : BufTy.Contents (Elt F) arg5.view.ty) (a4 a5 a6 a7 a8 a9 a10 a11 a12) (init : Carry F) :
    st_k0_t2 (F := F) 𝒱 c bd i arg3 harg3 arg4 harg4 arg5 harg5 arg6 harg6 arg7 harg7 arg8 harg8 arg2 v0 v1 v3 v4 a4 a5 a6 a7 a8 a9 a10 a11 a12 X4 X5 init
        (Scf.trips (Scalar.addi (0#32) (Scalar.muli (Scalar.divsi (Scalar.subi (BitVec.ofNat 32 (i 2).val) 0#32) 1#32) 1#32))
          (Scalar.addi (0#32) (Scalar.subi (BitVec.ofNat 32 (i 2).val) 0#32)) 1#32) = init := by
  have h : Scf.trips (Scalar.addi (0#32) (Scalar.muli (Scalar.divsi (Scalar.subi (BitVec.ofNat 32 (i 2).val) 0#32) 1#32) 1#32))
      (Scalar.addi (0#32) (Scalar.subi (BitVec.ofNat 32 (i 2).val) 0#32)) 1#32 = 0 := trips2 i
  rw [h]; rfl

end trip

/-- The state the loop starts from: the scores of tile 0 and the running softmax over the meta keys. -/
def entryV (q0 q1 : Vec F S512x256 .bf16) (k0 : Vec F S512x256 .bf16) (km : Vec F S128x256 .bf16) (vm : Vec F S128x128 .bf16) : Carry F :=
  (k0_pay7 q0 k0, k0_pay8 q1 k0,
    k0_pay13 q0 km, k0_pay20 (k0_pay4 (F := F)) (k0_pay15 q0 km) (k0_pay17 q0 km),
    k0_pay22 (k0_pay5 (F := F)) (k0_pay9 vm) (k0_pay15 q0 km) (k0_pay17 q0 km),
    k0_pay14 q1 km, k0_pay21 (k0_pay4 (F := F)) (k0_pay12 q1 km) (k0_pay14 q1 km) (k0_pay16 q1 km),
    k0_pay23 (k0_pay5 (F := F)) (k0_pay9 vm) (k0_pay12 q1 km) (k0_pay14 q1 km) (k0_pay16 q1 km))

/-- The carried state when the loop ends, from the windows' blocks. -/
def stateV (i : grid0.Coords) (x0 : Vec F S512x512 .bf16) (x1 : Vec F S2048x256 .bf16) (x2 : Vec F S4x128x512 .bf16) (x3 : Vec F S128x256 .bf16) (x4 : Vec F S128x128 .bf16) : Carry F :=
  let q0 : Vec F S512x256 .bf16 := View.ld x0 (Rect.unit (s := S512x512) ![0, 0] S512x256.size inb_S512x512_S512x256_0_0)
  let q1 : Vec F S512x256 .bf16 := View.ld x0 (Rect.unit (s := S512x512) ![0, 256] S512x256.size inb_S512x512_S512x256_0_256)
  let k0 : Vec F S512x256 .bf16 := View.ld x1 (Rect.unit (s := S2048x256) ![0, 0] S512x256.size inb_S2048x256_S512x256_0_0)
  runV i q0 q1 x1 x2 (entryV q0 q1 k0 x3 x4) (k0_t1_loop i).trips

theorem origin : (![0, 0] : Fin 2 → Nat) = fun _ => 0 := by funext a; fin_cases a <;> rfl

/-- Two pieces are equal when what they hold is. -/
theorem canon_pair {S : Shape} {e : EltTy} (r r' : Rect S) {P P' : r.shape.Idx → Elt F e} {Q Q' : r'.shape.Idx → Elt F e} (hP : P = P') (hQ : Q = Q') :
    View.canon (Val := Elt F) [⟨r, P⟩, ⟨r', Q⟩] = View.canon (Val := Elt F) [⟨r, P'⟩, ⟨r', Q'⟩] := by rw [hP, hQ]

set_option maxHeartbeats 2000000 in
theorem out_open  (c : Dev nD) (i : grid0.Coords) (arg3 : Memref sig .tc .vmem S512x512 .bf16) (harg3 : arg3.IsWhole) (arg4 : Memref sig .tc .vmem S2048x256 .bf16) (harg4 : arg4.IsWhole) (arg5 : Memref sig .tc .vmem S4x128x512 .bf16) (harg5 : arg5.IsWhole) (arg6 : Memref sig .tc .vmem S128x256 .bf16) (harg6 : arg6.IsWhole) (arg7 : Memref sig .tc .vmem S128x128 .bf16) (harg7 : arg7.IsWhole) (arg8 : Memref sig .tc .vmem S512x256 .bf16) (harg8 : arg8.IsWhole)
    (x0 : Vec F S512x512 .bf16) (x1 : Vec F S2048x256 .bf16) (x2 : Vec F S4x128x512 .bf16) (x3 : Vec F S128x256 .bf16) (x4 : Vec F S128x128 .bf16) :
    let a := stateV i x0 x1 x2 x3 x4
    let vt : Vec F S1x128x512 .bf16 := View.ld x2 (Rect.unit (s := S4x128x512) (k0_off5 i) S1x128x512.size (k0_off5_inb i))
    out0_A_5 c i arg3 harg3 arg4 harg4 arg5 harg5 arg6 harg6 arg7 harg7 arg8 harg8 x0 x1 x2 x3 x4
      = View.canon [⟨Rect.unit (s := S512x256) ![0, 128] S512x128.size inb_S512x256_S512x128_0_128,
            k0_pay2 a.2.2.2.2.2.1 a.2.2.2.2.2.2.1 a.2.2.2.2.2.2.2 (k0_pay50 vt) (k0_pay53 a.2.1) (k0_pay55 a.2.1 a.2.2.2.2.2.1)⟩,
          ⟨Rect.unit (s := S512x256) ![0, 0] S512x128.size inb_S512x256_S512x128_0_0,
            k0_pay1 a.2.2.2.1 a.2.2.2.2.1 (k0_pay50 vt) (k0_pay52 a.1) (k0_pay54 a.1 a.2.2.1) (k0_pay56 a.1 a.2.2.1)⟩] := by
  intro a vt
  unfold out0_A_5
  rw [View.read_writes_eq_canon _ _ _ (cover0_A_5 c i arg3 harg3 arg4 harg4 arg5 harg5 arg6 harg6 arg7 harg7 arg8 harg8 x0 x1 x2 x3 x4)]
  unfold kernelRun0_A
  dsimp only
  refine canon_pair _ _ ?_ ?_ <;> sl_unfold_words <;> simp only [st2_open, View.readAt_eq_ld, harg3.read_unread, harg4.read_unread, harg5.read_unread, harg6.read_unread, harg7.read_unread, st_open _ _ _ _ _ _ _ _ _ _ _ _ _ _ _ _ _ _ _ _ _ _ _ _ _ _ _ _ _ _ _ _ _ _ le_rfl,
    View.ld_unit_zero (S := S128x256) origin, View.ld_unit_zero (S := S128x128) origin] <;> rfl

end Cert.Kernel6Ideal.Value
end
-- ==== Proof.FoxBlock.lean ====
/- What one grid point of the forgetting attention stores, per query and value column: the softmax-weighted sum over the keys it visits. -/
module

public import proofs.«01_k».proof.Proof.FoxOpened
public import proofs.«01_k».proof.Proof.Tile

@[expose] public section

set_option maxRecDepth 16384

noncomputable section

namespace Cert.Kernel6Ideal.Value

open Cert.Kernel6Ideal Cert.Kernel6Ideal.Gen Cert.Soft Idealize.ShloMosaic Idealize.ShloMosaic.TcCoe Idealize.SL.Sem

/-- Trip `k` loads the next key tile, -/
theorem off1_at : ∀ (i : grid0.Coords) (k : Fin (k0_t1_loop i).trips), k0_off1 i k = ![512 * (k.val + 1), 0] := by
  decide +kernel
/-- its own value tile, -/
theorem off2_at : ∀ (i : grid0.Coords) (k : Fin (k0_t1_loop i).trips), k0_off2 i k = ![k.val, 0, 0] := by
  decide +kernel
/-- and after the loop the query block's own value tile is loaded. -/
theorem off5_at : ∀ (i : grid0.Coords), k0_off5 i = ![(i 2).val, 0, 0] := by
  decide +kernel

theorem qi_lt (i : grid0.Coords) : (i 2).val < 4 := (i 2).isLt

theorem mask_eq : (Named.named κ "mask" 0xF149F2CA#32 : Ideal .f32) = ⊥ := IdealRules.named_const.ideal_named_scalar _ _ _ _ rfl

theorem below16 (n : Fin 128) (x y : EReal) :
    Scalar.select (IntOp.cmpi CmpIPredicate.slt (BitVec.ofNat 32 ↑n) 16#32) x y = if (n : ℕ) < 16 then x else y := by
  word_cmp
theorem upto (n r : Fin 512) (x y : EReal) :
    Scalar.select (IntOp.cmpi CmpIPredicate.sle (BitVec.ofNat 32 ↑n) (BitVec.ofNat 32 ↑r)) x y = if (n : ℕ) ≤ r then x else y := by
  word_cmp

/-- A head's columns of the queries; keys and values are the same for both. -/
def col0 (x : Fin 256) : Fin 512 := ⟨x, by omega⟩
def col1 (x : Fin 256) : Fin 512 := ⟨256 + x, by omega⟩

/-- The scores `S` and values `V` of one query and one value column, over the positions a grid point visits,
    as the blocks hold them: 128 meta positions of which 16 are keys, then the prompt keys up to the query. -/
structure Reads (qi : ℕ) (x0 : Vec Ideal S512x512 .bf16) (x1 : Vec Ideal S2048x256 .bf16) (x2 : Vec Ideal S4x128x512 .bf16)
    (x3 : Vec Ideal S128x256 .bf16) (x4 : Vec Ideal S128x128 .bf16) (col : Fin 256 → Fin 512) (row : Fin 128) (r : Fin 512)
    (S V T : ℕ → EReal) : Prop where
  top : ∀ n, S n ≠ ⊤
  bot : S 0 ≠ ⊥
  first : ∀ n : Fin 128, S n = if (n : ℕ) < 16 then ∑ x, x3 (ix2 n x) * x0 (ix2 r (col x)) else ⊥
  raw : ∀ p (h : p < 2048), T p = ∑ x, x1 (ix2 ⟨p, h⟩ x) * x0 (ix2 r (col x))
  past : ∀ k < qi, ∀ j < 512, S (128 + 512 * k + j) = T (512 * k + j)
  own : ∀ j < 512, S (128 + 512 * qi + j) = if j ≤ (r : ℕ) then T (512 * qi + j) else ⊥
  firstV : ∀ n : Fin 128, V n = x4 (ix2 row n)
  tileV : ∀ k (h : k < 4), ∀ j : Fin 512, V (128 + 512 * k + j) = x2 (ix3 ⟨k, h⟩ row j)

section
variable {i : grid0.Coords} {x0 : Vec Ideal S512x512 .bf16} {x1 : Vec Ideal S2048x256 .bf16} {x2 : Vec Ideal S4x128x512 .bf16}
  {x3 : Vec Ideal S128x256 .bf16} {x4 : Vec Ideal S128x128 .bf16} {r : Fin 512} {d : Fin 128} {S V T : ℕ → EReal}

/-- The loop's invariant for one head: the carried scores are the next tile's, and the rest is the running softmax. -/
def Inv (r : Fin 512) (d : Fin 128) (S V T : ℕ → EReal) (k : ℕ) (s : FVec Ideal S512x512 .f32) (m l : FVec Ideal S1x512 .f32)
    (a : FVec Ideal S128x512 .f32) : Prop :=
  (∀ j : Fin 512, s (ix2 j r) = T (512 * k + j)) ∧ Held S V (128 + 512 * k) (m (ix2 0 r)) (l (ix2 0 r)) (a (ix2 d r))

abbrev Q0 (x0 : Vec Ideal S512x512 .bf16) : Vec Ideal S512x256 .bf16 :=
  View.ld x0 (Rect.unit (s := S512x512) ![0, 0] S512x256.size inb_S512x512_S512x256_0_0)
abbrev Q1 (x0 : Vec Ideal S512x512 .bf16) : Vec Ideal S512x256 .bf16 :=
  View.ld x0 (Rect.unit (s := S512x512) ![0, 256] S512x256.size inb_S512x512_S512x256_0_256)
abbrev K0 (x1 : Vec Ideal S2048x256 .bf16) : Vec Ideal S512x256 .bf16 :=
  View.ld x1 (Rect.unit (s := S2048x256) ![0, 0] S512x256.size inb_S2048x256_S512x256_0_0)

/-- Head 0 at the loop's entry. -/
theorem entry_0 (H : Reads (i 2).val x0 x1 x2 x3 x4 col0 d r S V T) :
    let a := entryV (F := Ideal) (Q0 x0) (Q1 x0) (K0 x1) x3 x4
    Inv r d S V T 0 a.1 a.2.2.1 a.2.2.2.1 a.2.2.2.2.1 := by
  have hf : ∀ n : Fin 128, k0_pay11 (F := Ideal) (Q0 x0) x3 (ix2 n r) = S (0 + (n : ℕ)) := fun n => by
    rw [Nat.zero_add, H.first n]
    pointwise [Q0, k0_pay11, k0_pay10, k0_pay6, below16, mask_eq]
    rfl
  refine ⟨fun j => ?_, ?_⟩
  · rw [Nat.mul_zero, Nat.zero_add, H.raw j (by omega)]
    dsimp only [entryV]
    pointwise [Q0, K0, k0_pay7]
    rfl
  · have h := (Held.start S V).tile H.top (fun n => k0_pay11 (F := Ideal) (Q0 x0) x3 (ix2 n r)) (fun n => x4 (ix2 d n)) hf
      (fun n => by rw [Nat.zero_add]; exact (H.firstV n).symm) (m' := k0_pay13 (F := Ideal) (Q0 x0) x3 (ix2 0 r))
      (by pointwise [k0_pay13, k0_pay3, mask_eq])
    rw [Nat.zero_add] at h
    dsimp only [entryV]
    convert h using 1
    · pointwise [k0_pay20, k0_pay15, k0_pay4, k0_pay18, k0_pay17, k0_pay3, mask_eq]
    · pointwise [k0_pay22, k0_pay15, k0_pay5, k0_pay9, k0_pay18, k0_pay17, k0_pay3, mask_eq]

/-- Head 1 at the loop's entry. -/
theorem entry_1 (H : Reads (i 2).val x0 x1 x2 x3 x4 col1 d r S V T) :
    let a := entryV (F := Ideal) (Q0 x0) (Q1 x0) (K0 x1) x3 x4
    Inv r d S V T 0 a.2.1 a.2.2.2.2.2.1 a.2.2.2.2.2.2.1 a.2.2.2.2.2.2.2 := by
  have hf : ∀ n : Fin 128, k0_pay12 (F := Ideal) (Q1 x0) x3 (ix2 n r) = S (0 + (n : ℕ)) := fun n => by
    rw [Nat.zero_add, H.first n]
    pointwise [Q1, k0_pay12, k0_pay10, k0_pay6, below16, mask_eq]
    rfl
  refine ⟨fun j => ?_, ?_⟩
  · rw [Nat.mul_zero, Nat.zero_add, H.raw j (by omega)]
    dsimp only [entryV]
    pointwise [Q1, K0, k0_pay8]
    rfl
  · have h := (Held.start S V).tile H.top (fun n => k0_pay12 (F := Ideal) (Q1 x0) x3 (ix2 n r)) (fun n => x4 (ix2 d n)) hf
      (fun n => by rw [Nat.zero_add]; exact (H.firstV n).symm) (m' := k0_pay14 (F := Ideal) (Q1 x0) x3 (ix2 0 r))
      (by pointwise [k0_pay14, k0_pay3, mask_eq])
    rw [Nat.zero_add] at h
    dsimp only [entryV]
    convert h using 1
    · pointwise [k0_pay21, k0_pay16, k0_pay4, k0_pay19, k0_pay3, mask_eq]
    · pointwise [k0_pay23, k0_pay16, k0_pay5, k0_pay9, k0_pay19, k0_pay3, mask_eq]

/-- Head 0 over one trip. -/
theorem trip_0 (H : Reads (i 2).val x0 x1 x2 x3 x4 col0 d r S V T) (k : Fin (k0_t1_loop i).trips) (a : Carry Ideal)
    (hI : Inv r d S V T k a.1 a.2.2.1 a.2.2.2.1 a.2.2.2.2.1) :
    let b := tripV (F := Ideal) i (Q0 x0) (Q1 x0) x1 x2 k a
    Inv r d S V T (k + 1) b.1 b.2.2.1 b.2.2.2.1 b.2.2.2.2.1 := by
  have hk : k.val < (i 2).val := lt_of_lt_of_eq k.2 (trips1 i)
  have hq := qi_lt i
  refine ⟨fun j => ?_, ?_⟩
  · rw [H.raw (512 * (k.val + 1) + j) (by omega)]
    dsimp only [tripV]
    pointwise [Q0, k0_pay24, off1_at]
    rfl
  · have h := hI.2.tile H.top (fun n => a.1 (ix2 n r)) (fun n => x2 (ix3 ⟨k, by omega⟩ d n))
      (fun n => by rw [hI.1 n]; exact (H.past k hk n n.2).symm) (fun n => (H.tileV k (by omega) n).symm)
      (m' := k0_pay27 (F := Ideal) a.1 a.2.2.1 (ix2 0 r)) (by pointwise [k0_pay27])
    rw [show 128 + 512 * k.val + 512 = 128 + 512 * (k.val + 1) by omega] at h
    dsimp only [tripV]
    convert h using 1
    · pointwise [k0_pay33, k0_pay29, k0_pay31]
    · pointwise [k0_pay35, k0_pay29, k0_pay31, k0_pay26, off2_at]

/-- Head 1 over one trip. -/
theorem trip_1 (H : Reads (i 2).val x0 x1 x2 x3 x4 col1 d r S V T) (k : Fin (k0_t1_loop i).trips) (a : Carry Ideal)
    (hI : Inv r d S V T k a.2.1 a.2.2.2.2.2.1 a.2.2.2.2.2.2.1 a.2.2.2.2.2.2.2) :
    let b := tripV (F := Ideal) i (Q0 x0) (Q1 x0) x1 x2 k a
    Inv r d S V T (k + 1) b.2.1 b.2.2.2.2.2.1 b.2.2.2.2.2.2.1 b.2.2.2.2.2.2.2 := by
  have hk : k.val < (i 2).val := lt_of_lt_of_eq k.2 (trips1 i)
  have hq := qi_lt i
  refine ⟨fun j => ?_, ?_⟩
  · rw [H.raw (512 * (k.val + 1) + j) (by omega)]
    dsimp only [tripV]
    pointwise [Q1, k0_pay25, off1_at]
    rfl
  · have h := hI.2.tile H.top (fun n => a.2.1 (ix2 n r)) (fun n => x2 (ix3 ⟨k, by omega⟩ d n))
      (fun n => by rw [hI.1 n]; exact (H.past k hk n n.2).symm) (fun n => (H.tileV k (by omega) n).symm)
      (m' := k0_pay28 (F := Ideal) a.2.1 a.2.2.2.2.2.1 (ix2 0 r)) (by pointwise [k0_pay28])
    rw [show 128 + 512 * k.val + 512 = 128 + 512 * (k.val + 1) by omega] at h
    dsimp only [tripV]
    convert h using 1
    · pointwise [k0_pay34, k0_pay30, k0_pay32]
    · pointwise [k0_pay36, k0_pay30, k0_pay32, k0_pay26, off2_at]

/-- Head 0 when the loop ends. -/
theorem state_0 (H : Reads (i 2).val x0 x1 x2 x3 x4 col0 d r S V T) :
    let a := stateV (F := Ideal) i x0 x1 x2 x3 x4
    Inv r d S V T (i 2).val a.1 a.2.2.1 a.2.2.2.1 a.2.2.2.2.1 := by
  have step : ∀ k, k ≤ (k0_t1_loop i).trips →
      let a := runV (F := Ideal) i (Q0 x0) (Q1 x0) x1 x2 (entryV (Q0 x0) (Q1 x0) (K0 x1) x3 x4) k
      Inv r d S V T k a.1 a.2.2.1 a.2.2.2.1 a.2.2.2.2.1 := by
    intro k
    induction k with
    | zero => exact fun _ => entry_0 H
    | succ k ih =>
      intro h
      rw [runV, dif_pos (show k < _ from h)]
      exact trip_0 H ⟨k, h⟩ _ (ih (Nat.le_of_succ_le h))
  have out : ∀ n, n = (k0_t1_loop i).trips → let a := stateV (F := Ideal) i x0 x1 x2 x3 x4; Inv r d S V T n a.1 a.2.2.1 a.2.2.2.1 a.2.2.2.2.1 := by
    rintro n rfl
    exact step _ le_rfl
  exact out _ (trips1 i).symm

/-- Head 1 when the loop ends. -/
theorem state_1 (H : Reads (i 2).val x0 x1 x2 x3 x4 col1 d r S V T) :
    let a := stateV (F := Ideal) i x0 x1 x2 x3 x4
    Inv r d S V T (i 2).val a.2.1 a.2.2.2.2.2.1 a.2.2.2.2.2.2.1 a.2.2.2.2.2.2.2 := by
  have step : ∀ k, k ≤ (k0_t1_loop i).trips →
      let a := runV (F := Ideal) i (Q0 x0) (Q1 x0) x1 x2 (entryV (Q0 x0) (Q1 x0) (K0 x1) x3 x4) k
      Inv r d S V T k a.2.1 a.2.2.2.2.2.1 a.2.2.2.2.2.2.1 a.2.2.2.2.2.2.2 := by
    intro k
    induction k with
    | zero => exact fun _ => entry_1 H
    | succ k ih =>
      intro h
      rw [runV, dif_pos (show k < _ from h)]
      exact trip_1 H ⟨k, h⟩ _ (ih (Nat.le_of_succ_le h))
  have out : ∀ n, n = (k0_t1_loop i).trips → let a := stateV (F := Ideal) i x0 x1 x2 x3 x4; Inv r d S V T n a.2.1 a.2.2.2.2.2.1 a.2.2.2.2.2.2.1 a.2.2.2.2.2.2.2 := by
    rintro n rfl
    exact step _ le_rfl
  exact out _ (trips1 i).symm

abbrev VT (i : grid0.Coords) (x2 : Vec Ideal S4x128x512 .bf16) : Vec Ideal S1x128x512 .bf16 :=
  View.ld x2 (Rect.unit (s := S4x128x512) (k0_off5 i) S1x128x512.size (k0_off5_inb i))

/-- Head 0's stored value. -/
theorem out_0 (H : Reads (i 2).val x0 x1 x2 x3 x4 col0 d r S V T) :
    let a := stateV (F := Ideal) i x0 x1 x2 x3 x4
    k0_pay1 (F := Ideal) a.2.2.2.1 a.2.2.2.2.1 (k0_pay50 (VT i x2)) (k0_pay52 a.1) (k0_pay54 a.1 a.2.2.1) (k0_pay56 a.1 a.2.2.1) (ix2 r d)
      = soft S V (128 + 512 * ((i 2).val + 1)) := by
  intro a
  have hI : Inv r d S V T (i 2).val a.1 a.2.2.1 a.2.2.2.1 a.2.2.2.2.1 := state_0 H
  clear_value a
  have h := hI.2.tile H.top (fun n => k0_pay52 (F := Ideal) a.1 (ix2 n r)) (fun n => x2 (ix3 ⟨(i 2).val, qi_lt i⟩ d n))
    (fun n => by
      rw [H.own n n.2, ← hI.1 n]
      pointwise [k0_pay52, k0_pay51, upto, mask_eq]) (fun n => (H.tileV _ (qi_lt i) n).symm) rfl
  rw [show 128 + 512 * (i 2).val + 512 = 128 + 512 * ((i 2).val + 1) by omega] at h
  refine Eq.trans ?_ (h.out H.top (by omega) H.bot)
  pointwise [k0_pay1, k0_pay50, k0_pay54, k0_pay56, VT, off5_at]

/-- Head 1's stored value. -/
theorem out_1 (H : Reads (i 2).val x0 x1 x2 x3 x4 col1 d r S V T) :
    let a := stateV (F := Ideal) i x0 x1 x2 x3 x4
    k0_pay2 (F := Ideal) a.2.2.2.2.2.1 a.2.2.2.2.2.2.1 a.2.2.2.2.2.2.2 (k0_pay50 (VT i x2)) (k0_pay53 a.2.1) (k0_pay55 a.2.1 a.2.2.2.2.2.1) (ix2 r d)
      = soft S V (128 + 512 * ((i 2).val + 1)) := by
  intro a
  have hI : Inv r d S V T (i 2).val a.2.1 a.2.2.2.2.2.1 a.2.2.2.2.2.2.1 a.2.2.2.2.2.2.2 := state_1 H
  clear_value a
  have h := hI.2.tile H.top (fun n => k0_pay53 (F := Ideal) a.2.1 (ix2 n r)) (fun n => x2 (ix3 ⟨(i 2).val, qi_lt i⟩ d n))
    (fun n => by
      rw [H.own n n.2, ← hI.1 n]
      pointwise [k0_pay53, k0_pay51, upto, mask_eq]) (fun n => (H.tileV _ (qi_lt i) n).symm) rfl
  rw [show 128 + 512 * (i 2).val + 512 = 128 + 512 * ((i 2).val + 1) by omega] at h
  refine Eq.trans ?_ (h.out H.top (by omega) H.bot)
  pointwise [k0_pay2, k0_pay50, k0_pay55, VT, off5_at]

end

end Cert.Kernel6Ideal.Value
end
-- ==== Proof.FoxAttn.lean ====
/- The forgetting attention in plain terms: the scores and values one query sees, position by position. -/
module

public import proofs.«01_k».proof.Proof.Attn

@[expose] public section

set_option maxRecDepth 16384

noncomputable section

namespace Cert.Fox

open Cert.Soft Cert.Attn Idealize.ShloMosaic Finset

abbrev Rows := FVec Ideal ⟨2, ![16384, 2048]⟩ .bf16
abbrev Keys := FVec Ideal ⟨2, ![16384, 512]⟩ .bf16
abbrev Vals := FVec Ideal ⟨2, ![16384, 256]⟩ .bf16
abbrev MetaKeys := FVec Ideal ⟨2, ![256, 512]⟩ .bf16
abbrev MetaVals := FVec Ideal ⟨2, ![256, 256]⟩ .bf16

/-- The score of query `s` of sequence `b` with meta key `n`, in query head `h`, whose keys are head `h / 4`'s. -/
def dotM (q : Rows) (km : MetaKeys) (b : Fin 8) (s : Fin 2048) (h : Fin 8) (n : Fin 16) : EReal :=
  ∑ x : Fin 256, q (ix2 ⟨b * 2048 + s, by omega⟩ ⟨h * 256 + x, by omega⟩) * km (ix2 ⟨128 + n, by omega⟩ ⟨h / 4 * 256 + x, by omega⟩)

/-- Its score with prompt key `p`. -/
def dotP (q : Rows) (k : Keys) (b : Fin 8) (s : Fin 2048) (h : Fin 8) (p : Fin 2048) : EReal :=
  ∑ x : Fin 256, q (ix2 ⟨b * 2048 + s, by omega⟩ ⟨h * 256 + x, by omega⟩) * k (ix2 ⟨b * 2048 + p, by omega⟩ ⟨h / 4 * 256 + x, by omega⟩)

/-- The prompt scores by number. -/
def T (q : Rows) (k : Keys) (b : Fin 8) (s : Fin 2048) (h : Fin 8) (p : ℕ) : EReal := if e : p < 2048 then dotP q k b s h ⟨p, e⟩ else 0

/-- The scores as the kernel lays them out: 16 meta keys, nothing up to 128, then the prompt keys a query sees. -/
def S (q : Rows) (k : Keys) (km : MetaKeys) (b : Fin 8) (s : Fin 2048) (h : Fin 8) (n : ℕ) : EReal :=
  if e : n < 16 then dotM q km b s h ⟨n, e⟩ else if n < 128 then ⊥ else if n - 128 ≤ s then T q k b s h (n - 128) else ⊥

/-- The values in the same places. -/
def V (v : Vals) (vm : MetaVals) (b : Fin 8) (col : Fin 256) (n : ℕ) : EReal :=
  if e : n < 16 then vm (ix2 ⟨128 + n, by omega⟩ col) else if n < 128 then 0
  else if e : n - 128 < 2048 then v (ix2 ⟨b * 2048 + (n - 128), by omega⟩ col) else 0

section
variable {q : Rows} {k : Keys} {km : MetaKeys} (hq : ∀ j, ∃ a : ℝ, q j = a) (hk : ∀ j, ∃ a : ℝ, k j = a)
  (hm : ∀ (n : Fin 16) (x : Fin 512), ∃ a : ℝ, km (ix2 ⟨128 + n, by omega⟩ x) = a) (b : Fin 8) (s : Fin 2048) (h : Fin 8)
include hq hk hm

theorem dotM_real (n : Fin 16) : ∃ a : ℝ, dotM q km b s h n = a := real_sum _ _ fun _ => real_mul (hq _) (hm _ _)

theorem dotP_real (p : Fin 2048) : ∃ a : ℝ, dotP q k b s h p = a := real_sum _ _ fun _ => real_mul (hq _) (hk _)

/-- No score is `⊤`, -/
theorem S_top (n : ℕ) : S q k km b s h n ≠ ⊤ := by
  unfold S T
  split
  · obtain ⟨a, e⟩ := dotM_real hq hk hm b s h ⟨n, ‹_›⟩; rw [e]; exact EReal.coe_ne_top a
  split
  · exact bot_ne_top
  split
  · split
    · obtain ⟨a, e⟩ := dotP_real hq hk hm b s h ⟨n - 128, ‹_›⟩; rw [e]; exact EReal.coe_ne_top a
    · exact EReal.zero_ne_top
  · exact bot_ne_top

/-- and the first meta key's is a number. -/
theorem S_bot : S q k km b s h 0 ≠ ⊥ := by
  obtain ⟨a, e⟩ := dotM_real hq hk hm b s h ⟨0, by omega⟩
  rw [S, dif_pos (by omega), e]; exact EReal.coe_ne_bot a

/-- The tiles a grid point visits hold every key its queries see: the rest of the sequence adds nothing. -/
theorem soft_all (v : Vals) (vm : MetaVals) (col : Fin 256) (i : ℕ) (hi : i < 4) (hs : (s : ℕ) < 512 * (i + 1)) :
    soft (S q k km b s h) (V v vm b col) (128 + 512 * (i + 1))
      = soft (fun n => S q k km b s h (place n)) (fun n => V v vm b col (place n)) 2064 := by
  rw [← soft_extend (M := 128 + 2048) (by omega) (S_top hq hk hm b s h) (n₀ := 0) (by omega) (S_bot hq hk hm b s h) fun n hn => by
    rw [S, dif_neg (by omega), if_neg (by omega), if_neg (by omega)]]
  exact soft_gap 2048 (S_top hq hk hm b s h) (S_bot hq hk hm b s h) fun n h1 h2 => by
    rw [S, dif_neg (by omega), if_pos h2]

end

end Cert.Fox
end
-- ==== Proof.FoxBlocks.lean ====
/- What the input blocks of one grid point of the forgetting attention hold: rows and columns of the arguments. -/
module

public import proofs.«01_k».proof.Proof.FoxBlock
public import proofs.«01_k».proof.Proof.FoxAttn
public import proofs.«01_k».proof.Proof.Gen.Kernel6Ideal.Value
public import Idealize.ShloMosaic.Lib.Pipeline.ValueKit
public import Idealize.ShloMosaic.Lib.WordCmp

@[expose] public section

set_option maxRecDepth 16384

noncomputable section

namespace Cert.Kernel6Ideal.Value

open Cert.Kernel6Ideal Cert.Kernel6Ideal.Gen Cert.Soft Idealize.ShloMosaic Idealize.ShloMosaic.TcCoe Idealize.SL.Sem

variable (m : (ℓ : Loc nD τ sig) → Buf (Elt Ideal) ℓ)

/-- The arguments: queries, keys, values, and the two meta arrays. -/
abbrev A0 (c : Dev nD) : Fox.Rows := m ((c : Thread nD τ).loc main_arg0)
abbrev A1 (c : Dev nD) : Fox.Keys := m ((c : Thread nD τ).loc main_arg1)
abbrev A2 (c : Dev nD) : Fox.Vals := m ((c : Thread nD τ).loc main_arg2)
abbrev A3 (c : Dev nD) : Fox.MetaKeys := m ((c : Thread nD τ).loc main_arg3)
abbrev A4 (c : Dev nD) : Fox.MetaVals := m ((c : Thread nD τ).loc main_arg4)

/-- The input blocks at their literal shapes. -/
abbrev X0 (c : Dev nD) (t : Fin cfg0.N) : Vec Ideal S512x512 .bf16 := iblk m c 0 t
abbrev X1 (c : Dev nD) (t : Fin cfg0.N) : Vec Ideal S2048x256 .bf16 := iblk m c 1 t
abbrev X2 (c : Dev nD) (t : Fin cfg0.N) : Vec Ideal S4x128x512 .bf16 := iblk m c 2 t
abbrev X3 (c : Dev nD) (t : Fin cfg0.N) : Vec Ideal S128x256 .bf16 := iblk m c 3 t
abbrev X4 (c : Dev nD) (t : Fin cfg0.N) : Vec Ideal S128x128 .bf16 := iblk m c 4 t

/-- Sequence, head pair and query block of a point. -/
abbrev pb (t : Fin cfg0.N) : ℕ := (grid0.coords t 0).val
abbrev pg (t : Fin cfg0.N) : ℕ := (grid0.coords t 1).val
abbrev pq (t : Fin cfg0.N) : ℕ := (grid0.coords t 2).val

theorem pb_lt (t : Fin cfg0.N) : pb t < 8 := (grid0.coords t 0).isLt
theorem pg_lt (t : Fin cfg0.N) : pg t < 4 := (grid0.coords t 1).isLt
theorem pq_lt (t : Fin cfg0.N) : pq t < 4 := (grid0.coords t 2).isLt

theorem idx : ∀ t : Fin cfg0.N, win0_0.index t = ![pb t * 4 + pq t, pg t] ∧ win0_1.index t = ![pb t, pg t / 2]
    ∧ win0_2.index t = ![pb t, pg t / 2, 0] ∧ win0_3.index t = ![0, pg t / 2] ∧ win0_4.index t = ![pg t / 2, 0]
    ∧ win0_5.index t = ![pb t * 4 + pq t, pg t] :=
  (by decide +kernel : ∀ t : Fin grid0.N, win0_0.index t = ![pb t * 4 + pq t, pg t] ∧ win0_1.index t = ![pb t, pg t / 2]
    ∧ win0_2.index t = ![pb t, pg t / 2, 0] ∧ win0_3.index t = ![0, pg t / 2] ∧ win0_4.index t = ![pg t / 2, 0]
    ∧ win0_5.index t = ![pb t * 4 + pq t, pg t])

variable (c : Dev nD) (t : Fin cfg0.N)

theorem x0_at (r : Fin 512) (x : Fin 512) (R : Fin 16384) (C : Fin 2048)
    (hR : (R : ℕ) = (pb t * 4 + pq t) * 512 + r) (hC : (C : ℕ) = pg t * 512 + x) : X0 m c t (ix2 r x) = A0 m c (ix2 R C) := by
  blk_ext [iblk, V, idx t]

theorem x1_at (r : Fin 2048) (x : Fin 256) (R : Fin 16384) (C : Fin 512)
    (hR : (R : ℕ) = pb t * 2048 + r) (hC : (C : ℕ) = pg t / 2 * 256 + x) : X1 m c t (ix2 r x) = A1 m c (ix2 R C) := by
  blk_ext [iblk, V, idx t]

/-- The values, each 512 rows transposed. -/
theorem V_5 : V m c main_v5 = (transpose S32x256x512 [0, 2, 1] (shapeCast S32x512x256 (A2 m c) shapeCasts_S16384x256_S32x512x256 : FVec Ideal S32x512x256 .bf16) transposes_S32x512x256_S32x256x512_0_2_1 : FVec Ideal S32x256x512 .bf16) := by
  simp only [V, hostOps0, hostOps0_1, hostOps0_2, hostOps0_3, hostOps0_4, List.flatten_cons, List.flatten_nil, List.append_nil, List.cons_append, List.nil_append]
  after_results
  try rfl

/-- Which rows of a meta block hold keys: the first 16. -/
abbrev held : IVec S128x1 1 :=
  broadcastInDim S128x1 ![0] bcast_S128_S128x1_0 (cmpi .slt (iotaInDim S128 32 0) (broadcastInDim S128 ![] bcast_S_S128 (constantI S_ 32 16#32)))

/-- The meta keys, zeros below them. -/
theorem V_7 : V m c main_v7 = (select (broadcastInDim S128x512 ![0, 1] bcast_S128x1_S128x512_0_1 held)
    (extractStridedSlice S128x512 ![128, 0] (A3 m c) slices_S256x512_S128x512_128_0)
    (broadcastInDim S128x512 ![] bcast_S_S128x512 (constant S_ FTy.bf16 0#16)) : FVec Ideal S128x512 .bf16) := by
  simp only [V, hostOps0, hostOps0_1, hostOps0_2, hostOps0_3, hostOps0_4, List.flatten_cons, List.flatten_nil, List.append_nil, List.cons_append, List.nil_append]
  after_results
  rfl

/-- The meta values likewise, transposed. -/
theorem V_10 : V m c main_v10 = (transpose S256x128 [1, 0] (select (broadcastInDim S128x256 ![0, 1] bcast_S128x1_S128x256_0_1 held)
    (extractStridedSlice S128x256 ![128, 0] (A4 m c) slices_S256x256_S128x256_128_0)
    (broadcastInDim S128x256 ![] bcast_S_S128x256 (constant S_ FTy.bf16 0#16)) : FVec Ideal S128x256 .bf16) transposes_S128x256_S256x128_1_0 : FVec Ideal S256x128 .bf16) := by
  simp only [V, hostOps0, hostOps0_1, hostOps0_2, hostOps0_3, hostOps0_4, List.flatten_cons, List.flatten_nil, List.append_nil, List.cons_append, List.nil_append]
  after_results
  rfl

theorem v5_at (K : Fin 32) (D : Fin 256) (j : Fin 512) (R : Fin 16384) (hR : (R : ℕ) = K * 512 + j) :
    (V m c main_v5 : FVec Ideal S32x256x512 .bf16) (ix3 K D j) = A2 m c (ix2 R D) := by
  rw [V_5]
  pointwise
  blk_ext

theorem v7_at (n : Fin 128) (C : Fin 512) (hn : (n : ℕ) < 16) (R : Fin 256) (hR : (R : ℕ) = 128 + n) :
    (V m c main_v7 : FVec Ideal S128x512 .bf16) (ix2 n C) = A3 m c (ix2 R C) := by
  rw [V_7]
  pointwise [held]
  rw [below16, if_pos hn]
  blk_ext

theorem v10_at (D : Fin 256) (n : Fin 128) (R : Fin 256) (hR : (R : ℕ) = 128 + n) :
    (V m c main_v10 : FVec Ideal S256x128 .bf16) (ix2 D n) = if (n : ℕ) < 16 then A4 m c (ix2 R D) else 0 := by
  rw [V_10]
  pointwise [held]
  rw [below16]
  congr 1
  blk_ext

theorem x2_at (k : Fin 4) (d : Fin 128) (j : Fin 512) (R : Fin 16384) (C : Fin 256)
    (hR : (R : ℕ) = pb t * 2048 + k * 512 + j) (hC : (C : ℕ) = pg t / 2 * 128 + d) : X2 m c t (ix3 k d j) = A2 m c (ix2 R C) := by
  have := pb_lt t; have := pg_lt t
  refine Eq.trans ?_ (v5_at m c ⟨pb t * 4 + k, by omega⟩ C j R (by simp only; omega))
  blk_ext [iblk, idx t]

theorem x3_at (n : Fin 128) (x : Fin 256) (hn : (n : ℕ) < 16) (R : Fin 256) (C : Fin 512)
    (hR : (R : ℕ) = 128 + n) (hC : (C : ℕ) = pg t / 2 * 256 + x) : X3 m c t (ix2 n x) = A3 m c (ix2 R C) := by
  refine Eq.trans ?_ (v7_at m c n C hn R hR)
  blk_ext [iblk, idx t]

theorem x4_at (d : Fin 128) (n : Fin 128) (R : Fin 256) (C : Fin 256)
    (hR : (R : ℕ) = 128 + n) (hC : (C : ℕ) = pg t / 2 * 128 + d) :
    X4 m c t (ix2 d n) = if (n : ℕ) < 16 then A4 m c (ix2 R C) else 0 := by
  refine Eq.trans ?_ (v10_at m c C n R hR)
  blk_ext [iblk, idx t]

end Cert.Kernel6Ideal.Value
-- ==== Proof.FoxReference.lean ====
/- The reference's forgetting attention, read at one query and one value column. -/
module

public import proofs.«01_k».proof.Proof.Gen.Reference6Ideal.Run
public import Idealize.ShloMosaic.Lib.Pipeline.ValueKit
public import Idealize.ShloMosaic.Lib.WordCmp
public import proofs.«01_k».proof.Proof.FoxAttn

@[expose] public section
set_option maxRecDepth 16384
noncomputable section
namespace Cert.Reference6Ideal.Value

open Cert.Soft Cert.Reference6Ideal Cert.Reference6Ideal.Gen Idealize.ShloMosaic Idealize.ShloMosaic.TcCoe Idealize.SL.Sem

variable (q : FVec Ideal S16384x2048 .bf16) (k : FVec Ideal S16384x512 .bf16) (v : FVec Ideal S16384x256 .bf16) (km : FVec Ideal S256x512 .bf16) (vm : FVec Ideal S256x256 .bf16)

def keys : FVec Ideal S8x2064x2x256 .f32 :=
  shapeCast _ (concatenate S8x2064x512 1 [⟨S8x16x512, (broadcastInDim S8x16x512 ![0, 1, 2] bcast_S1x16x512_S8x16x512_0_1_2 (broadcastInDim S1x16x512 ![1, 2] bcast_S16x512_S1x16x512_1_2 (extractStridedSlice S16x512 ![128, 0] (extf .f32 km bitsLt_bf16_f32) slices_S256x512_S16x512_128_0)))⟩, ⟨S8x2048x512, (shapeCast _ (extf .f32 k bitsLt_bf16_f32) shapeCasts_S16384x512_S8x2048x512)⟩] concatenates_S8x16x512_S8x2048x512_S8x2064x512_d1) shapeCasts_S8x2064x512_S8x2064x2x256

/-- The scores before the mask. -/
def raws : FVec Ideal S8x2x4x2048x2064 .f32 :=
  transpose S8x2x4x2048x2064 [0, 1, 4, 3, 2] (Host.dotGeneral dot_S8x2064x2x256_S8x2048x2x4x256_S8x2x2064x2048x4_3_4_1_13_02_02 none (keys k km) (shapeCast _ (extf .f32 q bitsLt_bf16_f32) shapeCasts_S16384x2048_S8x2048x2x4x256)) transposes_S8x2x2064x2048x4_S8x2x4x2048x2064_0_1_4_3_2

/-- A query's own position and all before it, the meta keys among them, are seen. -/
def seen : IVec S8x2x4x2048x2064 1 :=
  broadcastInDim S8x2x4x2048x2064 ![3, 4] bcast_S2048x2064_S8x2x4x2048x2064_3_4 (cmpi .sle (broadcastInDim S2048x2064 ![0, 1] bcast_S1x2064_S2048x2064_0_1 (broadcastInDim S1x2064 ![1] bcast_S2064_S1x2064_1 (iotaInDim S2064 32 0))) (broadcastInDim S2048x2064 ![0, 1] bcast_S2048x1_S2048x2064_0_1 (addi (broadcastInDim S2048x1 ![] bcast_S_S2048x1 (constantI S_ 32 16#32)) (broadcastInDim S2048x1 ![0] bcast_S2048_S2048x1_0 (iotaInDim S2048 32 0)))))

def scores : FVec Ideal S8x2x4x2048x2064 .f32 :=
  select seen (raws q k km) (broadcastInDim S8x2x4x2048x2064 ![] bcast_S_S8x2x4x2048x2064 (id (constant S_ .f32 0xFF800000#32)))

def tops : FVec Ideal S8x2x4x2048 .f32 :=
  maximumf (broadcastInDim S8x2x4x2048 ![] bcast_S_S8x2x4x2048 (constant S_ .f32 0xFF800000#32)) (Host.reduce FloatOps.maximumf (scores q k km) (constant S_ .f32 0xFF800000#32) reducesTo_S8x2x4x2048x2064_S8x2x4x2048_d4 h_S_)

def weights : FVec Ideal S8x2x4x2048x2064 .f32 :=
  Host.exp (subf (scores q k km) (broadcastInDim S8x2x4x2048x2064 ![0, 1, 2, 3, 4] bcast_S8x2x4x2048x1_S8x2x4x2048x2064_0_1_2_3_4 (broadcastInDim S8x2x4x2048x1 ![0, 1, 2, 3] bcast_S8x2x4x2048_S8x2x4x2048x1_0_1_2_3 (tops q k km))))

def probs : FVec Ideal S8x2x4x2048x2064 .f32 :=
  Host.divf (weights q k km) (broadcastInDim S8x2x4x2048x2064 ![0, 1, 2, 3, 4] bcast_S8x2x4x2048x1_S8x2x4x2048x2064_0_1_2_3_4 (broadcastInDim S8x2x4x2048x1 ![0, 1, 2, 3] bcast_S8x2x4x2048_S8x2x4x2048x1_0_1_2_3 (Host.reduceAdd (weights q k km) (constant S_ .f32 0x00000000#32) reducesTo_S8x2x4x2048x2064_S8x2x4x2048_d4 h_S_)))

def vals : FVec Ideal S8x2064x2x128 .f32 :=
  shapeCast _ (concatenate S8x2064x256 1 [⟨S8x16x256, (broadcastInDim S8x16x256 ![0, 1, 2] bcast_S1x16x256_S8x16x256_0_1_2 (broadcastInDim S1x16x256 ![1, 2] bcast_S16x256_S1x16x256_1_2 (extractStridedSlice S16x256 ![128, 0] (extf .f32 vm bitsLt_bf16_f32) slices_S256x256_S16x256_128_0)))⟩, ⟨S8x2048x256, (shapeCast _ (extf .f32 v bitsLt_bf16_f32) shapeCasts_S16384x256_S8x2048x256)⟩] concatenates_S8x16x256_S8x2048x256_S8x2064x256_d1) shapeCasts_S8x2064x256_S8x2064x2x128

def heads : FVec Ideal S8x2x128x4x2048 .f32 :=
  Host.dotGeneral dot_S8x2064x2x128_S8x2x4x2048x2064_S8x2x128x4x2048_1_4_3_23_02_01 none (vals v vm) (probs q k km)

/-- The reference's result. -/
def REF : FVec Ideal S16384x1024 .bf16 :=
  truncf .bf16 (shapeCast _ (transpose S8x2048x2x4x128 [0, 4, 1, 3, 2] (heads q k v km vm) transposes_S8x2x128x4x2048_S8x2048x2x4x128_0_4_1_3_2) shapeCasts_S8x2048x2x4x128_S16384x1024) bitsLt_bf16_f32

theorem res_eq (m : (ℓ : Loc nD τ sig) → Buf (Elt Ideal) ℓ) (c : Dev nD) :
    res_main_v44 (F := Ideal) m c = REF (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- Query head `r` of key head `g`. -/
abbrev hd (g : Fin 2) (r : Fin 4) : Fin 8 := ⟨g * 4 + r, by omega⟩

/-- The keys, and the values, by position: the meta rows, then the prompt's. -/
theorem key_at (b : Fin 8) (g : Fin 2) (n : Fin 2064) (x : Fin 256) : keys k km (ix4 b n g x)
    = if hn : (n : ℕ) < 16 then km (ix2 ⟨128 + n, by omega⟩ ⟨g * 256 + x, by omega⟩)
      else k (ix2 ⟨b * 2048 + (n - 16), by omega⟩ ⟨g * 256 + x, by omega⟩) := by
  pointwise [keys]

theorem raw_at (b : Fin 8) (g : Fin 2) (r : Fin 4) (s : Fin 2048) (n : Fin 2064) : raws q k km (ix5 b g r s n)
    = ∑ x : Fin 256, keys k km (ix4 b n g x) * q (ix2 ⟨b * 2048 + s, by omega⟩ ⟨(g * 4 + r) * 256 + x, by omega⟩) := by
  unfold raws
  generalize keys k km = z
  pointwise
  refine Finset.sum_congr rfl fun x _ => ?_
  have e : (g : ℕ) * 1024 + r * 256 + x = (g * 4 + r) * 256 + x := by omega
  simp only [e]

theorem upto (n : Fin 2064) (s : Fin 2048) (x y : EReal) :
    Scalar.select (IntOp.cmpi CmpIPredicate.sle (BitVec.ofNat 32 ↑n) (IntOp.addi (16#32) (BitVec.ofNat 32 ↑s))) x y = if (n : ℕ) ≤ 16 + s then x else y := by
  have e : IntOp.addi (16#32) (BitVec.ofNat 32 ↑s) = BitVec.ofNat 32 (16 + ↑s) := (BitVec.ofNat_add 16 ↑s).symm
  rw [e]
  word_cmp

theorem place_lo {n : ℕ} (h : n < 16) : place n = n := if_pos h
theorem place_hi {n : ℕ} (h : ¬n < 16) : place n = n + 112 := if_neg h

theorem score_at (b : Fin 8) (g : Fin 2) (r : Fin 4) (s : Fin 2048) (n : Fin 2064) :
    scores q k km (ix5 b g r s n) = Fox.S q k km b s (hd g r) (place n) := by
  have e : scores q k km (ix5 b g r s n) = if (n : ℕ) ≤ 16 + s then raws q k km (ix5 b g r s n) else ⊥ := by
    pointwise [scores, seen, upto]
    congr 1
  have eg : ((g : ℕ) * 4 + r) / 4 = g := by omega
  rw [e]
  by_cases hn : (n : ℕ) < 16
  · rw [if_pos (by omega), place_lo hn, Fox.S, dif_pos hn, raw_at]
    unfold Fox.dotM
    refine Finset.sum_congr rfl fun x _ => ?_
    rw [key_at, dif_pos hn, mul_comm]
    simp only [hd, eg]
  · rw [place_hi hn, Fox.S, dif_neg (show ¬(n : ℕ) + 112 < 16 by omega), if_neg (show ¬(n : ℕ) + 112 < 128 by omega)]
    by_cases hs : (n : ℕ) ≤ 16 + s
    · rw [if_pos hs, if_pos (by omega), Fox.T, dif_pos (by omega), raw_at]
      unfold Fox.dotP
      have e : (n : ℕ) + 112 - 128 = n - 16 := by omega
      refine Finset.sum_congr rfl fun x _ => ?_
      rw [key_at, dif_neg hn, mul_comm]
      simp only [hd, eg, e]
    · rw [if_neg hs, if_neg (by omega)]

theorem val_at (b : Fin 8) (g : Fin 2) (d : Fin 128) (n : Fin 2064) :
    vals v vm (ix4 b n g d) = Fox.V v vm b ⟨g * 128 + d, by omega⟩ (place n) := by
  trans (if hn : (n : ℕ) < 16 then vm (ix2 ⟨128 + n, by omega⟩ ⟨g * 128 + d, by omega⟩)
    else v (ix2 ⟨b * 2048 + (n - 16), by omega⟩ ⟨g * 128 + d, by omega⟩))
  · pointwise [vals]
  unfold Fox.V
  by_cases hn : (n : ℕ) < 16
  · simp only [place_lo hn, dif_pos hn]
  · have e1 : ¬(n : ℕ) + 112 < 16 := by omega
    have e2 : ¬(n : ℕ) + 112 < 128 := by omega
    have e3 : (n : ℕ) + 112 - 128 = n - 16 := by omega
    have e4 : (n : ℕ) - 16 < 2048 := by omega
    simp only [place_hi hn, dif_neg hn, dif_neg e1, if_neg e2, e3, dif_pos e4]

theorem reduces_keys : S8x2x4x2048x2064.Reduces [4] S8x2x4x2048 := by decide

theorem fold_at (x : FVec Ideal S8x2x4x2048x2064 .f32) (b : Fin 8) (g : Fin 2) (r : Fin 4) (s : Fin 2048) :
    Host.reduce FloatOps.maximumf x (constant S_ .f32 0xFF800000#32) reducesTo_S8x2x4x2048x2064_S8x2x4x2048_d4 h_S_ (ix4 b g r s)
      = Finset.univ.fold max (Ideal.ofBits FTy.f32 0xFF800000#32) fun n : Fin 2064 => x (ix5 b g r s n) := by
  rw [Host.reduce_eq_fold_single FloatOps.maximumf x _ _ reduces_keys h_S_]
  have e : (x ∘ reduces_keys.lift (ix4 b g r s)) = fun n : Fin 2064 => x (ix5 b g r s n) := funext fun n => congrArg x (by
    funext c; apply Fin.ext; fin_cases c <;> rfl)
  exact congrArg (fun f => Finset.fold max (Ideal.ofBits .f32 0xFF800000#32) f (Finset.univ : Finset (Fin 2064))) e

theorem top_at (b : Fin 8) (g : Fin 2) (r : Fin 4) (s : Fin 2048) :
    tops q k km (ix4 b g r s) = Finset.univ.fold max (Ideal.ofBits FTy.f32 0xFF800000#32) fun n : Fin 2064 => scores q k km (ix5 b g r s n) := by
  have e : ∀ (x y : FVec Ideal S8x2x4x2048 .f32) (j : S8x2x4x2048.Idx), maximumf x y j = max (x j) (y j) := fun _ _ _ => rfl
  have e' : (broadcastInDim S8x2x4x2048 ![] bcast_S_S8x2x4x2048 (constant S_ .f32 0xFF800000#32) : FVec Ideal S8x2x4x2048 .f32) (ix4 b g r s) = ⊥ :=
    Soft.ofBits_neg_inf
  rw [tops, e, fold_at, e']
  exact bot_sup_eq _

theorem prob_at (b : Fin 8) (g : Fin 2) (r : Fin 4) (s : Fin 2048) (n : Fin 2064) : probs q k km (ix5 b g r s n)
    = Ideal.div (Ideal.exp (scores q k km (ix5 b g r s n) - tops q k km (ix4 b g r s)))
      (∑ x, Ideal.exp (scores q k km (ix5 b g r s x) - tops q k km (ix4 b g r s))) := by
  pointwise [probs, weights]

theorem head_at (b : Fin 8) (g : Fin 2) (r : Fin 4) (d : Fin 128) (s : Fin 2048) : heads q k v km vm (ix5 b g d r s)
    = soft (fun n => Fox.S q k km b s (hd g r) (place n)) (fun n => Fox.V v vm b ⟨g * 128 + d, by omega⟩ (place n)) 2064 := by
  pointwise [heads]
  simp only [prob_at]
  exact Attn.soft_fin _ _ _ _ (fun n => score_at q k km b g r s n) (fun n => val_at v vm b g d n) _ (top_at q k km b g r s)

/-- The reference at query `s` of sequence `b`, query head `r` of key head `g`, value column `d`. -/
theorem ref_at (b : Fin 8) (g : Fin 2) (r : Fin 4) (d : Fin 128) (s : Fin 2048) :
    REF q k v km vm (ix2 ⟨b * 2048 + s, by omega⟩ ⟨(g * 4 + r) * 128 + d, by omega⟩)
      = soft (fun n => Fox.S q k km b s (hd g r) (place n)) (fun n => Fox.V v vm b ⟨g * 128 + d, by omega⟩ (place n)) 2064 := by
  rw [← head_at]
  pointwise [REF]

end Cert.Reference6Ideal.Value
end
-- ==== Proof.FoxFinal.lean ====
/- The array the forgetting attention writes: at every query and value column, the softmax over the keys it sees. -/
module

public import proofs.«01_k».proof.Proof.FoxBlocks
public import proofs.«01_k».proof.Proof.FoxReference

@[expose] public section

set_option maxRecDepth 16384

noncomputable section

namespace Cert.Kernel6Ideal.Value

open Cert.Kernel6Ideal Cert.Kernel6Ideal.Gen Cert.Soft Idealize.ShloMosaic Idealize.ShloMosaic.TcCoe Idealize.SL.Sem

variable (m : (ℓ : Loc nD τ sig) → Buf (Elt Ideal) ℓ) (c : Dev nD)

/-- Queries and keys are numbers, and so are the meta keys the attention uses. -/
structure Finite : Prop where
  q : ∀ j, ∃ a : ℝ, A0 m c j = a
  k : ∀ j, ∃ a : ℝ, A1 m c j = a
  km : ∀ (n : Fin 16) (x : Fin 512), ∃ a : ℝ, A3 m c (ix2 ⟨128 + n, by omega⟩ x) = a

variable {m c}

/-- The blocks of a point hold the scores and values of its queries, in head `2g + e`. -/
theorem reads (fin : Finite m c) (t : Fin cfg0.N) (e : ℕ) (he : e < 2) (col : Fin 256 → Fin 512) (hcol : ∀ x, (col x : ℕ) = 256 * e + x)
    (d : Fin 128) (r : Fin 512) (b h : Fin 8) (hb : (b : ℕ) = pb t) (hh : (h : ℕ) = 2 * pg t + e)
    (s : Fin 2048) (hs : (s : ℕ) = 512 * pq t + r) (C : Fin 256) (hC : (C : ℕ) = h / 4 * 128 + d) :
    Reads (pq t) (X0 m c t) (X1 m c t) (X2 m c t) (X3 m c t) (X4 m c t) col d r
      (Fox.S (A0 m c) (A1 m c) (A3 m c) b s h) (Fox.V (A2 m c) (A4 m c) b C) (Fox.T (A0 m c) (A1 m c) b s h) := by
  have := pb_lt t; have := pg_lt t; have := pq_lt t
  refine ⟨Fox.S_top fin.q fin.k fin.km b s h, Fox.S_bot fin.q fin.k fin.km b s h, fun n => ?_, fun p hp => ?_, fun k hk j hj => ?_,
    fun j hj => ?_, fun n => ?_, fun k hk j => ?_⟩
  · unfold Fox.S
    split
    · refine Finset.sum_congr rfl fun x _ => (mul_comm _ _).trans (congrArg₂ (· * ·) ?_ ?_)
      · exact (x3_at m c t n x ‹_› _ _ rfl (by simp only; omega)).symm
      · exact (x0_at m c t r (col x) _ _ (by simp only; omega) (by simp only [hcol]; omega)).symm
    · rw [if_pos n.isLt]
  · unfold Fox.T
    rw [dif_pos hp]
    refine Finset.sum_congr rfl fun x _ => (mul_comm _ _).trans (congrArg₂ (· * ·) ?_ ?_)
    · exact (x1_at m c t _ x _ _ (by simp only; omega) (by simp only; omega)).symm
    · exact (x0_at m c t r (col x) _ _ (by simp only; omega) (by simp only [hcol]; omega)).symm
  · have e1 : 128 + 512 * k + j - 128 = 512 * k + j := by omega
    unfold Fox.S
    rw [dif_neg (by omega), if_neg (by omega), e1, if_pos (by omega)]
  · have e1 : 128 + 512 * pq t + j - 128 = 512 * pq t + j := by omega
    unfold Fox.S
    rw [dif_neg (by omega), if_neg (by omega), e1]
    exact if_congr (by omega) rfl rfl
  · have hx := x4_at m c t d n ⟨128 + n, by omega⟩ C rfl (by omega)
    rw [hx]
    unfold Fox.V
    by_cases hn : (n : ℕ) < 16
    · rw [dif_pos hn, if_pos hn]
    · rw [dif_neg hn, if_neg hn, if_pos n.isLt]
  · have hx := x2_at m c t ⟨k, hk⟩ d j ⟨b * 2048 + (128 + 512 * k + j - 128), by omega⟩ C (by simp only; omega) (by omega)
    rw [hx]
    unfold Fox.V
    rw [dif_neg (by omega), if_neg (by omega), dif_pos (show 128 + 512 * k + j - 128 < 2048 by omega)]

/-- The reference at row `R` and column `C` is query head `C / 128`'s. -/
theorem ref_row (R : Fin 16384) (C : Fin 1024) (b h : Fin 8) (s : Fin 2048) (d : Fin 128) (D : Fin 256) (hR : (R : ℕ) = b * 2048 + s)
    (hC : (C : ℕ) = h * 128 + d) (hD : (D : ℕ) = h / 4 * 128 + d) :
    Cert.Reference6Ideal.Value.REF (A0 m c) (A1 m c) (A2 m c) (A3 m c) (A4 m c) (ix2 R C)
      = soft (fun n => Fox.S (A0 m c) (A1 m c) (A3 m c) b s h (place n)) (fun n => Fox.V (A2 m c) (A4 m c) b D (place n)) 2064 := by
  obtain ⟨h, hh⟩ := h
  simp only at hC hD
  rw [show R = ⟨b * 2048 + s, by omega⟩ from Fin.ext hR, show C = ⟨(h / 4 * 4 + h % 4) * 128 + d, by omega⟩ from Fin.ext (by simp only; omega)]
  have eD : D = ⟨h / 4 * 128 + d, by omega⟩ := Fin.ext hD
  refine (Cert.Reference6Ideal.Value.ref_at _ _ _ _ _ b ⟨h / 4, by omega⟩ ⟨h % 4, by omega⟩ d s).trans ?_
  rw [show (Cert.Reference6Ideal.Value.hd ⟨h / 4, by omega⟩ ⟨h % 4, by omega⟩ : Fin 8) = ⟨h, hh⟩ from Fin.ext (by simp only [Cert.Reference6Ideal.Value.hd]; omega)]
  exact congrArg (fun z => soft _ (fun n => Fox.V (A2 m c) (A4 m c) b z (place n)) 2064) eD.symm

/-- What a point leaves at an index of its block. -/
theorem point (fin : Finite m c) (t : Fin cfg0.N) (y : S512x256.Idx) (R : Fin 16384) (C : Fin 1024)
    (hR : (R : ℕ) = (pb t * 4 + pq t) * 512 + (y 0 : ℕ)) (hC : (C : ℕ) = pg t * 256 + (y 1 : ℕ)) :
    outsAt0 m c t y = Cert.Reference6Ideal.Value.REF (A0 m c) (A1 m c) (A2 m c) (A3 m c) (A4 m c) (ix2 R C) := by
  have p0 := pb_lt t; have p1 := pg_lt t; have p2 := pq_lt t
  unfold outsAt0
  rw [out_open]
  canon_tiles y h
  · have hC' : pg t * 256 + (128 + (y 1 : ℕ)) = (2 * pg t + 1) * 128 + (y 1 : ℕ) := by omega
    have hb : (pb t * 4 + pq t) * 512 + (y 0 : ℕ) = pb t * 2048 + (512 * pq t + (y 0 : ℕ)) := by omega
    rw [show y = ix2 (⟨y 0, y0_lt⟩ : Fin 512) (⟨y 1, y1_lt⟩ : Fin 128) from by funext a; fin_cases a <;> rfl]
    refine (out_1 (reads fin t 1 (by omega) col1 (fun x => by simp [col1]) ⟨y 1, y1_lt⟩ ⟨y 0, y0_lt⟩
      ⟨pb t, p0⟩ ⟨2 * pg t + 1, by omega⟩ rfl rfl ⟨512 * pq t + (y 0 : ℕ), by omega⟩ rfl ⟨(2 * pg t + 1) / 4 * 128 + (y 1 : ℕ), by omega⟩ rfl)).trans ?_
    rw [ref_row R C ⟨pb t, p0⟩ ⟨2 * pg t + 1, by omega⟩ ⟨512 * pq t + (y 0 : ℕ), by omega⟩ ⟨y 1, y1_lt⟩
      ⟨(2 * pg t + 1) / 4 * 128 + (y 1 : ℕ), by omega⟩ (by simp only; omega) (by simp only; omega) rfl]
    exact Fox.soft_all fin.q fin.k fin.km _ _ _ _ _ _ (pq t) p2 (by simp only; omega)
  · have hC' : pg t * 256 + (y 1 : ℕ) = (2 * pg t + 0) * 128 + (y 1 : ℕ) := by omega
    have hb : (pb t * 4 + pq t) * 512 + (y 0 : ℕ) = pb t * 2048 + (512 * pq t + (y 0 : ℕ)) := by omega
    rw [show y = ix2 (⟨y 0, y0_lt⟩ : Fin 512) (⟨y 1, y1_lt⟩ : Fin 128) from by funext a; fin_cases a <;> rfl]
    refine (out_0 (reads fin t 0 (by omega) col0 (fun x => by simp [col0]) ⟨y 1, y1_lt⟩ ⟨y 0, y0_lt⟩
      ⟨pb t, p0⟩ ⟨2 * pg t + 0, by omega⟩ rfl rfl ⟨512 * pq t + (y 0 : ℕ), by omega⟩ rfl ⟨(2 * pg t + 0) / 4 * 128 + (y 1 : ℕ), by omega⟩ rfl)).trans ?_
    rw [ref_row R C ⟨pb t, p0⟩ ⟨2 * pg t + 0, by omega⟩ ⟨512 * pq t + (y 0 : ℕ), by omega⟩ ⟨y 1, y1_lt⟩
      ⟨(2 * pg t + 0) / 4 * 128 + (y 1 : ℕ), by omega⟩ (by simp only; omega) (by simp only; omega) rfl]
    exact Fox.soft_all fin.q fin.k fin.km _ _ _ _ _ _ (pq t) p2 (by simp only; omega)

/-- The whole result. -/
theorem final (fin : Finite m c) : (dats m 0 c).arrAt 5 cfg0.N = Cert.Reference6Ideal.Value.REF (A0 m c) (A1 m c) (A2 m c) (A3 m c) (A4 m c) := by
  refine (dats m 0 c).arrAt_eq_of_covers 5 _ (by decide +kernel) fun t _ y => ?_
  blk_simp
  rw [after0_5]
  refine (point fin t y (((win0_5.blk t).view.emb y) 0) (((win0_5.blk t).view.emb y) 1) ?_ ?_).trans (congrArg _ ?_)
  · blk_simp [idx t]
  · blk_simp [idx t]
  · funext a; fin_cases a <;> rfl

end Cert.Kernel6Ideal.Value
-- ==== Proof.FoxGiven.lean ====
/- What the forgetting attention's precondition says: the packed queries, the keys and the meta keys in use are numbers. -/
module

public import proofs.«01_k».proof.Defs
public import proofs.«01_k».proof.Proof.Given
public import proofs.«01_k».proof.Proof.FoxFinal

@[expose] public section

set_option maxRecDepth 16384

noncomputable section

namespace Cert.FoxGiven

open Idealize.ShloMosaic Idealize.ShloMosaic.TcCoe Idealize.SL.Sem Cert.Pre_finite_packed

instance facts : Facts where
  bitsLt_bf16_f32 := by decide
  bcast_S_S16384x2048 := by decide
  bcast_S_S16384x512 := by decide
  slices_S256x512_S16x512_128_0 := by decide
  bcast_S_S16x512 := by decide

variable (m : (ℓ : Loc Cert.Kernel6Ideal.nD Cert.Kernel6Ideal.τ Cert.Kernel6Ideal.sig) → Buf (Elt Ideal) ℓ)

theorem finite (h : Cert.Pre_Kernel6Ideal_finite_packed m) (c : Dev Cert.Kernel6Ideal.nD) : Cert.Kernel6Ideal.Value.Finite m c := by
  obtain ⟨h1, h2, h3⟩ := h c
  refine ⟨fun j => Cert.Given.real_of_lt _ ?_, fun j => Cert.Given.real_of_lt _ ?_, fun n x => Cert.Given.real_of_lt _ ?_⟩
  · exact congrFun h1 j
  · exact congrFun h2 j
  · refine Eq.trans ?_ (congrFun h3 (ix2 n x))
    pointwise [Cert.Pre_finite_packed.fn]
    rfl

end Cert.FoxGiven
-- ==== Proof.Uq.lean ====
/- The latent attention's queries: the packed weights column by column, and the body at one row and one column. -/
module

public import proofs.«01_k».proof.Proof.Lat
public import proofs.«01_k».proof.Proof.Gen.Kernel7Ideal.Value

@[expose] public section

set_option maxRecDepth 16384

noncomputable section

namespace Cert.Kernel7Ideal.Value

open Cert.Kernel7Ideal Cert.Kernel7Ideal.Gen Idealize.ShloMosaic Idealize.ShloMosaic.TcCoe Idealize.SL.Sem
open Cert.Kernel5Ideal.Value (angles table table_at)

/-- The scale of the scores. -/
abbrev scale : EReal := Ideal.ofBits FTy.f32 0x3D93CD3A#32

/-- The weights with the heads apart. -/
def heads (w : FVec Ideal S1x512x1536 .f32) : FVec Ideal S512x8x192 .f32 :=
  shapeCast S512x8x192 (shapeCast S512x1536 w shapeCasts_S1x512x1536_S512x1536 : FVec Ideal S512x1536 .f32) shapeCasts_S512x1536_S512x8x192

/-- The lanes that are turned, -/
def turning (v : FVec Ideal S512x8x192 .f32) : FVec Ideal S512x8x64 .f32 := extractStridedSlice S512x8x64 ![0, 0, 128] v slices_S512x8x192_S512x8x64_0_0_128

/-- and the same with their halves exchanged. -/
def swapped (v : FVec Ideal S512x8x192 .f32) : FVec Ideal S512x8x64 .f32 :=
  concatenate S512x8x64 2 [⟨S512x8x32, extractStridedSlice S512x8x32 ![0, 0, 32] (turning v) slices_S512x8x64_S512x8x32_0_0_32⟩, ⟨S512x8x32, extractStridedSlice S512x8x32 ![0, 0, 0] (turning v) slices_S512x8x64_S512x8x32_0_0_0⟩] concatenates_S512x8x32_S512x8x32_S512x8x64_d2

/-- Each head's 384 columns: 128 plain lanes, the turned ones, their exchanged halves, with zeros after each of the last two. -/
def parts (v : FVec Ideal S512x8x192 .f32) : FVec Ideal S512x8x384 .f32 :=
  concatenate S512x8x384 2 [⟨S512x8x128, extractStridedSlice S512x8x128 ![0, 0, 0] v slices_S512x8x192_S512x8x128_0_0_0⟩, ⟨S512x8x64, turning v⟩, ⟨S512x8x64, broadcastInDim S512x8x64 ![] bcast_S_S512x8x64 (constant S_ .f32 0x00000000#32)⟩, ⟨S512x8x64, swapped v⟩, ⟨S512x8x64, broadcastInDim S512x8x64 ![] bcast_S_S512x8x64 (constant S_ .f32 0x00000000#32)⟩] concatenates_S512x8x128_S512x8x64_S512x8x64_S512x8x64_S512x8x64_S512x8x384_d2

/-- The packed weights. -/
def packed (v : FVec Ideal S512x8x192 .f32) : FVec Ideal S512x3072 .bf16 :=
  truncf .bf16 (shapeCast S512x3072 (parts v) shapeCasts_S512x8x384_S512x3072 : FVec Ideal S512x3072 .f32) bitsLt_bf16_f32

theorem heads_at (w : FVec Ideal S1x512x1536 .f32) (l : Fin 512) (h : Fin 8) (d : Fin 192) :
    heads w (ix3 l h d) = w (ix3 0 l ⟨h * 192 + d, by omega⟩) := by
  pointwise [heads]

theorem turning_at (v : FVec Ideal S512x8x192 .f32) (l : Fin 512) (h : Fin 8) (d : Fin 64) : turning v (ix3 l h d) = v (ix3 l h ⟨128 + d, by omega⟩) := by
  pointwise [turning]

theorem swapped_at (v : FVec Ideal S512x8x192 .f32) (l : Fin 512) (h : Fin 8) (d : Fin 64) :
    swapped v (ix3 l h d) = if e : (d : ℕ) < 32 then turning v (ix3 l h ⟨32 + d, by omega⟩) else turning v (ix3 l h ⟨d - 32, by omega⟩) := by
  unfold swapped
  generalize turning v = a
  pointwise

theorem parts_at (v : FVec Ideal S512x8x192 .f32) (l : Fin 512) (h : Fin 8) (d : Fin 384) : parts v (ix3 l h d)
    = if e : (d : ℕ) < 128 then v (ix3 l h ⟨d, by omega⟩)
      else if e : (d : ℕ) - 128 < 64 then turning v (ix3 l h ⟨d - 128, e⟩)
      else if e : (d : ℕ) - 128 - 64 < 64 then 0
      else if e : (d : ℕ) - 128 - 64 - 64 < 64 then swapped v (ix3 l h ⟨d - 128 - 64 - 64, e⟩)
      else 0 := by
  unfold parts
  generalize turning v = a
  generalize swapped v = b
  pointwise

theorem packed_at (v : FVec Ideal S512x8x192 .f32) (l : Fin 512) (C : Fin 3072) :
    packed v (ix2 l C) = parts v (ix3 l ⟨C / 384, by omega⟩ ⟨C % 384, by omega⟩) := by
  unfold packed
  generalize parts v = a
  pointwise

theorem packed_head (v : FVec Ideal S512x8x192 .f32) (l : Fin 512) (C : Fin 3072) (h : Fin 8) (d : Fin 384) (hC : (C : ℕ) = 384 * h + d) :
    packed v (ix2 l C) = parts v (ix3 l h d) :=
  (packed_at v l C).trans (congrArg₂ (fun a b => parts v (ix3 l a b)) (Fin.ext (by dsimp only; omega)) (Fin.ext (by dsimp only; omega)))

section Columns

variable (w : FVec Ideal S1x512x1536 .f32) (l : Fin 512) (C : Fin 3072) (h : Fin 8) (D : Fin 1536)

/-- A head's plain columns, -/
theorem packed_plain (d : ℕ) (hd : d < 128) (hC : (C : ℕ) = 384 * h + d) (hD : (D : ℕ) = 192 * h + d) : packed (heads w) (ix2 l C) = w (ix3 0 l D) := by
  rw [packed_head _ l C h ⟨d, by omega⟩ hC, parts_at, dif_pos hd, heads_at]
  exact congrArg w (congrArg (ix3 0 l) (Fin.ext (by dsimp only; omega)))

/-- the turned ones, -/
theorem packed_turn (d : ℕ) (hd : d < 64) (hC : (C : ℕ) = 384 * h + 128 + d) (hD : (D : ℕ) = 192 * h + 128 + d) : packed (heads w) (ix2 l C) = w (ix3 0 l D) := by
  rw [packed_head _ l C h ⟨128 + d, by omega⟩ (by dsimp only; omega), parts_at, dif_neg (by dsimp only; omega), dif_pos (by dsimp only; omega), turning_at, heads_at]
  exact congrArg w (congrArg (ix3 0 l) (Fin.ext (by dsimp only; omega)))

/-- their exchanged halves, -/
theorem packed_swap (d : ℕ) (hd : d < 64) (hC : (C : ℕ) = 384 * h + 256 + d) (hD : (D : ℕ) = if d < 32 then 192 * h + 160 + d else 192 * h + 128 + (d - 32)) :
    packed (heads w) (ix2 l C) = w (ix3 0 l D) := by
  rw [packed_head _ l C h ⟨256 + d, by omega⟩ (by dsimp only; omega), parts_at, dif_neg (by dsimp only; omega), dif_neg (by dsimp only; omega),
    dif_neg (by dsimp only; omega), dif_pos (by dsimp only; omega), swapped_at]
  by_cases hj : d < 32
  · rw [dif_pos (by dsimp only; omega), turning_at, heads_at]
    rw [if_pos hj] at hD
    exact congrArg w (congrArg (ix3 0 l) (Fin.ext (by dsimp only; omega)))
  · rw [dif_neg (by dsimp only; omega), turning_at, heads_at]
    rw [if_neg hj] at hD
    exact congrArg w (congrArg (ix3 0 l) (Fin.ext (by dsimp only; omega)))

end Columns

/-- The product of a block of latents with the packed weights. -/
theorem pay2_at (x : Vec Ideal S512x512 .bf16) (w : Vec Ideal S512x3072 .bf16) (r : Fin 512) (d : Fin 3072) :
    k0_pay2 (F := Ideal) x w (ix2 r d) = ∑ l : Fin 512, x (ix2 r l) * w (ix2 l d) := by
  pointwise [k0_pay2]

theorem pay3_eq (v : Vec Ideal S512x128 .f32) : k0_pay3 (F := Ideal) v = v := by
  funext i
  rw [show i = ix2 (i 0) (i 1) by funext a; fin_cases a <;> rfl]
  pointwise [k0_pay3]

theorem pay4_eq (v : Vec Ideal S512x128 .f32) : k0_pay4 (F := Ideal) v = v := by
  funext i
  rw [show i = ix2 (i 0) (i 1) by funext a; fin_cases a <;> rfl]
  pointwise [k0_pay4]

/-! What each store writes: a head's plain lanes, and its turned ones. -/

section Stores

variable (x : Vec Ideal S512x512 .bf16) (w : Vec Ideal S512x3072 .bf16) (z : FVec Ideal S512x3072 .f32) (co si : FVec Ideal S512x128 .f32) (r : Fin 512) (d : Fin 128)

theorem plain0_at : k0_pay5 (F := Ideal) x w (ix2 r d) = k0_pay2 (F := Ideal) x w (ix2 r (⟨0 + d, by omega⟩ : Fin 3072)) * scale := by
  unfold k0_pay5
  generalize k0_pay2 (F := Ideal) x w = y
  pointwise

theorem turn0_at : k0_pay6 (F := Ideal) x w co si (ix2 r d)
    = (k0_pay2 (F := Ideal) x w (ix2 r (⟨128 + d, by omega⟩ : Fin 3072)) * co (ix2 r d) + k0_pay2 (F := Ideal) x w (ix2 r (⟨256 + d, by omega⟩ : Fin 3072)) * si (ix2 r d)) * scale := by
  unfold k0_pay6
  rw [pay3_eq, pay4_eq]
  generalize k0_pay2 (F := Ideal) x w = y
  pointwise

theorem plain1_at : k0_pay7 (F := Ideal) x w (ix2 r d) = k0_pay2 (F := Ideal) x w (ix2 r (⟨384 + d, by omega⟩ : Fin 3072)) * scale := by
  unfold k0_pay7
  generalize k0_pay2 (F := Ideal) x w = y
  pointwise

theorem turn1_at : k0_pay8 (F := Ideal) x w co si (ix2 r d)
    = (k0_pay2 (F := Ideal) x w (ix2 r (⟨512 + d, by omega⟩ : Fin 3072)) * co (ix2 r d) + k0_pay2 (F := Ideal) x w (ix2 r (⟨640 + d, by omega⟩ : Fin 3072)) * si (ix2 r d)) * scale := by
  unfold k0_pay8
  rw [pay3_eq, pay4_eq]
  generalize k0_pay2 (F := Ideal) x w = y
  pointwise

theorem plain2_at : k0_pay9 (F := Ideal) z (ix2 r d) = z (ix2 r (⟨768 + d, by omega⟩ : Fin 3072)) * scale := by
  pointwise [k0_pay9]

theorem turn2_at : k0_pay10 (F := Ideal) z co si (ix2 r d)
    = (z (ix2 r (⟨896 + d, by omega⟩ : Fin 3072)) * co (ix2 r d) + z (ix2 r (⟨1024 + d, by omega⟩ : Fin 3072)) * si (ix2 r d)) * scale := by
  pointwise [k0_pay10]

theorem plain3_at : k0_pay11 (F := Ideal) z (ix2 r d) = z (ix2 r (⟨1152 + d, by omega⟩ : Fin 3072)) * scale := by
  pointwise [k0_pay11]

theorem turn3_at : k0_pay12 (F := Ideal) z co si (ix2 r d)
    = (z (ix2 r (⟨1280 + d, by omega⟩ : Fin 3072)) * co (ix2 r d) + z (ix2 r (⟨1408 + d, by omega⟩ : Fin 3072)) * si (ix2 r d)) * scale := by
  pointwise [k0_pay12]

theorem plain4_at : k0_pay13 (F := Ideal) z (ix2 r d) = z (ix2 r (⟨1536 + d, by omega⟩ : Fin 3072)) * scale := by
  pointwise [k0_pay13]

theorem turn4_at : k0_pay15 (F := Ideal) (k0_pay14 z co si) (ix2 r d)
    = (z (ix2 r (⟨1664 + d, by omega⟩ : Fin 3072)) * co (ix2 r d) + z (ix2 r (⟨1792 + d, by omega⟩ : Fin 3072)) * si (ix2 r d)) * scale := by
  pointwise [k0_pay15, k0_pay14]

theorem plain5_at : k0_pay16 (F := Ideal) z (ix2 r d) = z (ix2 r (⟨1920 + d, by omega⟩ : Fin 3072)) * scale := by
  pointwise [k0_pay16]

theorem turn5_at : k0_pay17 (F := Ideal) z co si (ix2 r d)
    = (z (ix2 r (⟨2048 + d, by omega⟩ : Fin 3072)) * co (ix2 r d) + z (ix2 r (⟨2176 + d, by omega⟩ : Fin 3072)) * si (ix2 r d)) * scale := by
  pointwise [k0_pay17]

theorem plain6_at : k0_pay18 (F := Ideal) z (ix2 r d) = z (ix2 r (⟨2304 + d, by omega⟩ : Fin 3072)) * scale := by
  pointwise [k0_pay18]

theorem turn6_at : k0_pay19 (F := Ideal) z co si (ix2 r d)
    = (z (ix2 r (⟨2432 + d, by omega⟩ : Fin 3072)) * co (ix2 r d) + z (ix2 r (⟨2560 + d, by omega⟩ : Fin 3072)) * si (ix2 r d)) * scale := by
  pointwise [k0_pay19]

theorem plain7_at : k0_pay20 (F := Ideal) z (ix2 r d) = z (ix2 r (⟨2688 + d, by omega⟩ : Fin 3072)) * scale := by
  pointwise [k0_pay20]

theorem turn7_at : k0_pay1 (F := Ideal) z co si (ix2 r d)
    = (z (ix2 r (⟨2816 + d, by omega⟩ : Fin 3072)) * co (ix2 r d) + z (ix2 r (⟨2944 + d, by omega⟩ : Fin 3072)) * si (ix2 r d)) * scale := by
  pointwise [k0_pay1]

end Stores

end Cert.Kernel7Ideal.Value

end
-- ==== Proof.UqFinal.lean ====
/- The latent attention's queries over their grid: what the array holds. -/
module

public import proofs.«01_k».proof.Proof.Uq

@[expose] public section

set_option maxRecDepth 16384

noncomputable section

namespace Cert.Kernel7Ideal.Value

open Cert.Kernel7Ideal Cert.Kernel7Ideal.Gen Idealize.ShloMosaic Idealize.ShloMosaic.TcCoe Idealize.SL.Sem
open Cert.Kernel5Ideal.Value (angles table table_at)

section Values

variable (a : Vec Ideal S16384x512 .bf16) (w : Vec Ideal S1x512x1536 .f32) (co si : FVec Ideal S2048x32 .f32)

/-- Row `R` of the latent times column `D` of the weights. -/
def raw (R : Fin 16384) (D : Fin 1536) : EReal := ∑ l : Fin 512, a (ix2 R l) * w (ix3 0 l D)

/-- Head `h`'s rotated lanes, with zeros after them. -/
def turned (R : Fin 16384) (h : Fin 8) (d : Fin 128) : EReal :=
  if e : (d : ℕ) < 32 then
    raw a w R ⟨192 * h + 128 + d, by omega⟩ * co (ix2 ⟨R % 2048, by omega⟩ ⟨d, e⟩) - raw a w R ⟨192 * h + 160 + d, by omega⟩ * si (ix2 ⟨R % 2048, by omega⟩ ⟨d, e⟩)
  else if e : (d : ℕ) < 64 then
    raw a w R ⟨192 * h + 128 + (d - 32), by omega⟩ * si (ix2 ⟨R % 2048, by omega⟩ ⟨d - 32, by omega⟩)
      + raw a w R ⟨192 * h + 128 + d, by omega⟩ * co (ix2 ⟨R % 2048, by omega⟩ ⟨d - 32, by omega⟩)
  else 0

/-- The queries, head after head: 128 plain lanes and 128 rotated ones, scaled. -/
def queries (R : Fin 16384) (C : Fin 2048) : EReal :=
  if e : (C : ℕ) % 256 < 128 then raw a w R ⟨192 * (C / 256) + C % 256, by omega⟩ * scale
  else turned a w co si R ⟨C / 256, by omega⟩ ⟨C % 256 - 128, by omega⟩ * scale

end Values

variable (m : (ℓ : Loc nD τ sig) → Buf (Elt Ideal) ℓ) (c : Dev nD) (t : Fin cfg0.N)

/-- The arguments: the latent and the weights. -/
abbrev A0 : Vec Ideal S16384x512 .bf16 := m ((c : Thread nD τ).loc main_arg0)
abbrev A1 : Vec Ideal S1x512x1536 .f32 := m ((c : Thread nD τ).loc main_arg1)

/-- The input blocks of point `t`. -/
abbrev X0 : Vec Ideal S512x512 .bf16 := iblk m c 0 t
abbrev X1 : Vec Ideal S512x3072 .bf16 := iblk m c 1 t
abbrev X2 : Vec Ideal S512x128 .f32 := iblk m c 2 t
abbrev X3 : Vec Ideal S512x128 .f32 := iblk m c 3 t

/-- The windows' block indices at point `t`: the tables' blocks come round every four points. -/
theorem idx : ∀ t : Fin cfg0.N, win0_0.index t = ![t.val, 0] ∧ win0_1.index t = ![0, 0] ∧ win0_2.index t = ![t.val % 4, 0]
    ∧ win0_3.index t = ![t.val % 4, 0] ∧ win0_4.index t = ![t.val, 0] :=
  (by decide +kernel : ∀ t : Fin grid0.N, _)

theorem V_36 : V m c main_v36 = packed (heads (A1 m c)) := by
  simp only [V]
  after_results
  rfl

theorem V_22 : V m c main_v22 = table (Host.cos angles) (Host.cos angles) := by
  simp only [V]
  after_results
  rfl

theorem V_24 : V m c main_v24 = table (Host.negf (Host.sin angles)) (Host.sin angles) := by
  simp only [V]
  after_results
  rfl

theorem x0_at (r : Fin 512) (k : Fin 512) (R : Fin 16384) (hR : (R : ℕ) = 512 * t.val + r) : X0 m c t (ix2 r k) = A0 m c (ix2 R k) := by
  unfold X0 A0
  blk_ext [iblk, V, idx t]

theorem x1_at (l : Fin 512) (d : Fin 3072) : X1 m c t (ix2 l d) = packed (heads (A1 m c)) (ix2 l d) := by
  rw [← V_36]
  blk_ext [iblk, idx t]

theorem x2_at (r : Fin 512) (d : Fin 128) (R : Fin 16384) (hR : (R : ℕ) = 512 * t.val + r) :
    X2 m c t (ix2 r d) = table (Host.cos angles) (Host.cos angles) (ix2 ⟨R % 2048, by omega⟩ d) := by
  rw [← V_22 m c]
  have e : (R : ℕ) % 2048 = 512 * (t.val % 4) + r := by omega
  simp only [e]
  blk_ext [iblk, idx t]

theorem x3_at (r : Fin 512) (d : Fin 128) (R : Fin 16384) (hR : (R : ℕ) = 512 * t.val + r) :
    X3 m c t (ix2 r d) = table (Host.negf (Host.sin angles)) (Host.sin angles) (ix2 ⟨R % 2048, by omega⟩ d) := by
  rw [← V_24 m c]
  have e : (R : ℕ) % 2048 = 512 * (t.val % 4) + r := by omega
  simp only [e]
  blk_ext [iblk, idx t]

/-- Point `t`'s block of products. -/
abbrev Z : FVec Ideal S512x3072 .f32 := k0_pay2 (F := Ideal) (X0 m c t) (X1 m c t)

section Rows

variable (r : Fin 512) (R : Fin 16384) (hR : (R : ℕ) = 512 * t.val + r)

include hR

/-- A column of products whose weights are column `D` of the weights. -/
theorem product (d : Fin 3072) (D : Fin 1536) (h : ∀ (w : FVec Ideal S1x512x1536 .f32) (l : Fin 512), packed (heads w) (ix2 l d) = w (ix3 0 l D)) :
    Z m c t (ix2 r d) = raw (A0 m c) (A1 m c) R D := by
  rw [raw]
  exact (pay2_at _ _ r d).trans (Finset.sum_congr rfl fun l _ => congrArg₂ (· * ·) (x0_at m c t r l R hR) ((x1_at m c t l d).trans (h _ l)))

/-- A head's plain lanes, -/
theorem plain_at (d : Fin 3072) (C : Fin 2048) (h x : ℕ) (h8 : h < 8) (hx : x < 128) (hd : (d : ℕ) = 384 * h + x) (hC : (C : ℕ) = 256 * h + x) :
    Z m c t (ix2 r d) * scale = queries (A0 m c) (A1 m c) (Host.cos angles) (Host.sin angles) R C := by
  rw [queries, dif_pos (by omega)]
  exact congrArg (· * scale) (product m c t r R hR d _ fun w l => packed_plain w l d ⟨h, h8⟩ _ x hx hd (by dsimp only; omega))

/-- its rotated ones from the tables, -/
theorem turn_head (h : Fin 8) (x : Fin 128) (d e : Fin 3072) (hd : (d : ℕ) = 384 * h + 128 + x) (he : (e : ℕ) = 384 * h + 256 + x) :
    Z m c t (ix2 r d) * X2 m c t (ix2 r x) + Z m c t (ix2 r e) * X3 m c t (ix2 r x)
      = turned (A0 m c) (A1 m c) (Host.cos angles) (Host.sin angles) R h x := by
  rw [x2_at m c t r x R hR, x3_at m c t r x R hR, table_at, table_at, turned]
  have hn : ∀ i, (Host.negf (Host.sin angles) : FVec Ideal S2048x32 .f32) i = -(Host.sin angles : FVec Ideal S2048x32 .f32) i := fun i => rfl
  by_cases h1 : (x : ℕ) < 32
  · rw [dif_pos h1, dif_pos h1, dif_pos h1, hn, mul_neg,
      product m c t r R hR d (⟨192 * h + 128 + x, by omega⟩ : Fin 1536) fun w l => packed_turn w l d h _ x (by omega) hd rfl,
      product m c t r R hR e (⟨192 * h + 160 + x, by omega⟩ : Fin 1536) fun w l => packed_swap w l e h _ x (by omega) he (if_pos h1).symm]
    rfl
  · by_cases h2 : (x : ℕ) < 64
    · rw [dif_neg h1, dif_neg h1, dif_neg h1, dif_pos (by omega), dif_pos (by omega), dif_pos h2, add_comm,
        product m c t r R hR d (⟨192 * h + 128 + x, by omega⟩ : Fin 1536) fun w l => packed_turn w l d h _ x (by omega) hd rfl,
        product m c t r R hR e (⟨192 * h + 128 + (x - 32), by omega⟩ : Fin 1536) fun w l => packed_swap w l e h _ x (by omega) he (if_neg h1).symm]
    · rw [dif_neg h1, dif_neg h1, dif_neg h1, dif_neg (by omega), dif_neg (by omega), dif_neg h2, mul_zero, mul_zero, add_zero]

/-- and scaled. -/
theorem turn_at (d e : Fin 3072) (x : Fin 128) (C : Fin 2048) (h : ℕ) (h8 : h < 8) (hd : (d : ℕ) = 384 * h + 128 + x) (he : (e : ℕ) = 384 * h + 256 + x)
    (hC : (C : ℕ) = 256 * h + 128 + x) :
    (Z m c t (ix2 r d) * X2 m c t (ix2 r x) + Z m c t (ix2 r e) * X3 m c t (ix2 r x)) * scale
      = queries (A0 m c) (A1 m c) (Host.cos angles) (Host.sin angles) R C := by
  rw [queries, dif_neg (by omega)]
  refine congrArg (· * scale) ((turn_head m c t r R hR ⟨h, h8⟩ x d e hd he).trans ?_)
  exact congrArg₂ (turned _ _ _ _ R) (Fin.ext (by dsimp only; omega)) (Fin.ext (by dsimp only; omega))

end Rows

/-- The stores, from whole blocks. -/
theorem out_open (x0 : Vec Ideal S512x512 .bf16) (x1 : Vec Ideal S512x3072 .bf16) (x2 x3 : Vec Ideal S512x128 .f32) :
    out0_4 (F := Ideal) x0 x1 x2 x3 = View.canon [⟨r0_18, k0_pay1 (k0_pay2 x0 x1) x2 x3⟩, ⟨r0_17, k0_pay20 (k0_pay2 x0 x1)⟩,
      ⟨r0_16, k0_pay19 (k0_pay2 x0 x1) x2 x3⟩, ⟨r0_15, k0_pay18 (k0_pay2 x0 x1)⟩,
      ⟨r0_14, k0_pay17 (k0_pay2 x0 x1) x2 x3⟩, ⟨r0_13, k0_pay16 (k0_pay2 x0 x1)⟩,
      ⟨r0_12, k0_pay15 (k0_pay14 (k0_pay2 x0 x1) x2 x3)⟩, ⟨r0_11, k0_pay13 (k0_pay2 x0 x1)⟩,
      ⟨r0_10, k0_pay12 (k0_pay2 x0 x1) x2 x3⟩, ⟨r0_9, k0_pay11 (k0_pay2 x0 x1)⟩,
      ⟨r0_8, k0_pay10 (k0_pay2 x0 x1) x2 x3⟩, ⟨r0_7, k0_pay9 (k0_pay2 x0 x1)⟩,
      ⟨r0_6, k0_pay8 x0 x1 x2 x3⟩, ⟨r0_5, k0_pay7 x0 x1⟩, ⟨r0_4, k0_pay6 x0 x1 x2 x3⟩, ⟨r0_3, k0_pay5 x0 x1⟩] := by
  have e0 : View.ld x0 r0_0 = x0 := by frame_out
  have e1 : View.ld x1 r0_1 = x1 := by frame_out
  have e2 : View.ld x2 r0_2 = x2 := by frame_out
  have e3 : View.ld x3 r0_2 = x3 := by frame_out
  unfold out0_4 k0_pay23 k0_pay22 k0_pay21
  rw [e0, e1, e2, e3, pay3_eq, pay4_eq]

set_option maxHeartbeats 1600000 in
/-- What a point leaves at an index of its block. -/
theorem point (y : S512x2048.Idx) (R : Fin 16384) (C : Fin 2048) (hR : (R : ℕ) = 512 * t.val + (y 0 : ℕ)) (hC : (C : ℕ) = (y 1 : ℕ)) :
    out0_4 (F := Ideal) (X0 m c t) (X1 m c t) (X2 m c t) (X3 m c t) y = queries (A0 m c) (A1 m c) (Host.cos angles) (Host.sin angles) R C := by
  rw [out_open]
  canon_tiles y h
  · rw [show y = ix2 (⟨y 0, y0_lt⟩ : Fin 512) (⟨y 1, y1_lt⟩ : Fin 128) from by funext a; fin_cases a <;> rfl]
    exact (turn7_at _ _ _ _ _).trans (turn_at m c t _ R (by dsimp only; omega) _ _ _ C 7 (by omega) (by dsimp only; try omega) (by dsimp only; try omega) (by dsimp only; omega))
  · rw [show y = ix2 (⟨y 0, y0_lt⟩ : Fin 512) (⟨y 1, y1_lt⟩ : Fin 128) from by funext a; fin_cases a <;> rfl]
    exact (plain7_at _ _ _).trans (plain_at m c t _ R (by dsimp only; omega) _ C 7 (y 1) (by omega) y1_lt (by dsimp only; try omega) (by omega))
  · rw [show y = ix2 (⟨y 0, y0_lt⟩ : Fin 512) (⟨y 1, y1_lt⟩ : Fin 128) from by funext a; fin_cases a <;> rfl]
    exact (turn6_at _ _ _ _ _).trans (turn_at m c t _ R (by dsimp only; omega) _ _ _ C 6 (by omega) (by dsimp only; try omega) (by dsimp only; try omega) (by dsimp only; omega))
  · rw [show y = ix2 (⟨y 0, y0_lt⟩ : Fin 512) (⟨y 1, y1_lt⟩ : Fin 128) from by funext a; fin_cases a <;> rfl]
    exact (plain6_at _ _ _).trans (plain_at m c t _ R (by dsimp only; omega) _ C 6 (y 1) (by omega) y1_lt (by dsimp only; try omega) (by omega))
  · rw [show y = ix2 (⟨y 0, y0_lt⟩ : Fin 512) (⟨y 1, y1_lt⟩ : Fin 128) from by funext a; fin_cases a <;> rfl]
    exact (turn5_at _ _ _ _ _).trans (turn_at m c t _ R (by dsimp only; omega) _ _ _ C 5 (by omega) (by dsimp only; try omega) (by dsimp only; try omega) (by dsimp only; omega))
  · rw [show y = ix2 (⟨y 0, y0_lt⟩ : Fin 512) (⟨y 1, y1_lt⟩ : Fin 128) from by funext a; fin_cases a <;> rfl]
    exact (plain5_at _ _ _).trans (plain_at m c t _ R (by dsimp only; omega) _ C 5 (y 1) (by omega) y1_lt (by dsimp only; try omega) (by omega))
  · rw [show y = ix2 (⟨y 0, y0_lt⟩ : Fin 512) (⟨y 1, y1_lt⟩ : Fin 128) from by funext a; fin_cases a <;> rfl]
    exact (turn4_at _ _ _ _ _).trans (turn_at m c t _ R (by dsimp only; omega) _ _ _ C 4 (by omega) (by dsimp only; try omega) (by dsimp only; try omega) (by dsimp only; omega))
  · rw [show y = ix2 (⟨y 0, y0_lt⟩ : Fin 512) (⟨y 1, y1_lt⟩ : Fin 128) from by funext a; fin_cases a <;> rfl]
    exact (plain4_at _ _ _).trans (plain_at m c t _ R (by dsimp only; omega) _ C 4 (y 1) (by omega) y1_lt (by dsimp only; try omega) (by omega))
  · rw [show y = ix2 (⟨y 0, y0_lt⟩ : Fin 512) (⟨y 1, y1_lt⟩ : Fin 128) from by funext a; fin_cases a <;> rfl]
    exact (turn3_at _ _ _ _ _).trans (turn_at m c t _ R (by dsimp only; omega) _ _ _ C 3 (by omega) (by dsimp only; try omega) (by dsimp only; try omega) (by dsimp only; omega))
  · rw [show y = ix2 (⟨y 0, y0_lt⟩ : Fin 512) (⟨y 1, y1_lt⟩ : Fin 128) from by funext a; fin_cases a <;> rfl]
    exact (plain3_at _ _ _).trans (plain_at m c t _ R (by dsimp only; omega) _ C 3 (y 1) (by omega) y1_lt (by dsimp only; try omega) (by omega))
  · rw [show y = ix2 (⟨y 0, y0_lt⟩ : Fin 512) (⟨y 1, y1_lt⟩ : Fin 128) from by funext a; fin_cases a <;> rfl]
    exact (turn2_at _ _ _ _ _).trans (turn_at m c t _ R (by dsimp only; omega) _ _ _ C 2 (by omega) (by dsimp only; try omega) (by dsimp only; try omega) (by dsimp only; omega))
  · rw [show y = ix2 (⟨y 0, y0_lt⟩ : Fin 512) (⟨y 1, y1_lt⟩ : Fin 128) from by funext a; fin_cases a <;> rfl]
    exact (plain2_at _ _ _).trans (plain_at m c t _ R (by dsimp only; omega) _ C 2 (y 1) (by omega) y1_lt (by dsimp only; try omega) (by omega))
  · rw [show y = ix2 (⟨y 0, y0_lt⟩ : Fin 512) (⟨y 1, y1_lt⟩ : Fin 128) from by funext a; fin_cases a <;> rfl]
    exact (turn1_at _ _ _ _ _ _).trans (turn_at m c t _ R (by dsimp only; omega) _ _ _ C 1 (by omega) (by dsimp only; try omega) (by dsimp only; try omega) (by dsimp only; omega))
  · rw [show y = ix2 (⟨y 0, y0_lt⟩ : Fin 512) (⟨y 1, y1_lt⟩ : Fin 128) from by funext a; fin_cases a <;> rfl]
    exact (plain1_at _ _ _ _).trans (plain_at m c t _ R (by dsimp only; omega) _ C 1 (y 1) (by omega) y1_lt (by dsimp only; try omega) (by omega))
  · rw [show y = ix2 (⟨y 0, y0_lt⟩ : Fin 512) (⟨y 1, y1_lt⟩ : Fin 128) from by funext a; fin_cases a <;> rfl]
    exact (turn0_at _ _ _ _ _ _).trans (turn_at m c t _ R (by dsimp only; omega) _ _ _ C 0 (by omega) (by dsimp only; try omega) (by dsimp only; try omega) (by dsimp only; omega))
  · rw [show y = ix2 (⟨y 0, y0_lt⟩ : Fin 512) (⟨y 1, y1_lt⟩ : Fin 128) from by funext a; fin_cases a <;> rfl]
    exact (plain0_at _ _ _ _).trans (plain_at m c t _ R (by dsimp only; omega) _ C 0 (y 1) (by omega) y1_lt (by dsimp only; try omega) (by omega))

/-- The queries. -/
theorem final4 : (dats m 0 c).arrAt 4 cfg0.N = fun i => queries (A0 m c) (A1 m c) (Host.cos angles) (Host.sin angles) (i 0) (i 1) := by
  refine (dats m 0 c).arrAt_eq_of_covers 4 _ (by decide +kernel) fun t hf y => ?_
  blk_simp
  rw [after0_4]
  refine point m c t y _ _ ?_ ?_
  · blk_simp [idx t]
    try omega
  · blk_simp [idx t]

end Cert.Kernel7Ideal.Value

end
-- ==== Proof.UqRef.lean ====
/- The reference's queries of the latent attention, read at one row and one column. -/
module

public import proofs.«01_k».proof.Proof.UqFinal
public import proofs.«01_k».proof.Proof.Gen.Reference7Ideal.Run

@[expose] public section

set_option maxRecDepth 16384

noncomputable section

namespace Cert.Reference7Ideal.Value

open Cert.Reference7Ideal Cert.Reference7Ideal.Gen Idealize.ShloMosaic Idealize.ShloMosaic.TcCoe Idealize.SL.Sem
open Cert.Kernel5Ideal.Value (angles)
open Cert.Kernel7Ideal.Value (raw turned queries scale)

variable (a : FVec Ideal S16384x512 .bf16) (w : FVec Ideal S1x512x1536 .f32) (co si : FVec Ideal S2048x32 .f32)

/-- The latent times the weights, prompts and heads apart, -/
def prods : FVec Ideal S8x2048x8x192 .f32 :=
  shapeCast S8x2048x8x192 (Host.dotGeneral dot_S16384x512_S512x1536_S16384x1536_1_0_0_1_n_n none (extf .f32 a bitsLt_bf16_f32) (shapeCast S512x1536 w shapeCasts_S1x512x1536_S512x1536)) shapeCasts_S16384x1536_S8x2048x8x192

/-- the lanes that are turned, -/
def turning (z : FVec Ideal S8x2048x8x192 .f32) : FVec Ideal S8x2048x8x64 .f32 := extractStridedSlice S8x2048x8x64 ![0, 0, 0, 128] z slices_S8x2048x8x192_S8x2048x8x64_0_0_0_128

/-- a table for every prompt and head, -/
def spread : FVec Ideal S8x2048x8x32 .f32 :=
  broadcastInDim S8x2048x8x32 ![0, 1, 2, 3] bcast_S1x2048x1x32_S8x2048x8x32_0_1_2_3 (broadcastInDim S1x2048x1x32 ![1, 2, 3] bcast_S2048x1x32_S1x2048x1x32_1_2_3 (broadcastInDim S2048x1x32 ![0, 2] bcast_S2048x32_S2048x1x32_0_2 co))

/-- the rotation, -/
def turn (z : FVec Ideal S8x2048x8x64 .f32) (p s : FVec Ideal S8x2048x8x32 .f32) : FVec Ideal S8x2048x8x64 .f32 :=
  concatenate S8x2048x8x64 3 [⟨S8x2048x8x32, (subf (mulf (extractStridedSlice S8x2048x8x32 ![0, 0, 0, 0] z slices_S8x2048x8x64_S8x2048x8x32_0_0_0_0) p) (mulf (extractStridedSlice S8x2048x8x32 ![0, 0, 0, 32] z slices_S8x2048x8x64_S8x2048x8x32_0_0_0_32) s))⟩, ⟨S8x2048x8x32, (addf (mulf (extractStridedSlice S8x2048x8x32 ![0, 0, 0, 0] z slices_S8x2048x8x64_S8x2048x8x32_0_0_0_0) s) (mulf (extractStridedSlice S8x2048x8x32 ![0, 0, 0, 32] z slices_S8x2048x8x64_S8x2048x8x32_0_0_0_32) p))⟩] concatenates_S8x2048x8x32_S8x2048x8x32_S8x2048x8x64_d3

/-- the plain lanes beside the rotated ones, scaled, -/
def beside (z : FVec Ideal S8x2048x8x192 .f32) (y : FVec Ideal S8x2048x8x64 .f32) : FVec Ideal S8x2048x8x192 .f32 :=
  mulf (concatenate S8x2048x8x192 3 [⟨S8x2048x8x128, extractStridedSlice S8x2048x8x128 ![0, 0, 0, 0] z slices_S8x2048x8x192_S8x2048x8x128_0_0_0_0⟩, ⟨S8x2048x8x64, y⟩] concatenates_S8x2048x8x128_S8x2048x8x64_S8x2048x8x192_d3) (broadcastInDim S8x2048x8x192 ![] bcast_S_S8x2048x8x192 (constant S_ .f32 0x3D93CD3A#32))

/-- with zeros after them, -/
def lanes (z : FVec Ideal S8x2048x8x192 .f32) : FVec Ideal S8x2048x8x256 .f32 :=
  pad S8x2048x8x256 ![0, 0, 0, 0] ![0, 0, 0, 64] ![0, 0, 0, 0] z (sitofp .f32 (constantI S_ 32 0#32)) pads_S8x2048x8x192_S8x2048x8x256_000_000_000_0640 h_S_

/-- the reference's result. -/
def Q : FVec Ideal S16384x2048 .bf16 :=
  truncf .bf16 (shapeCast S16384x2048 (lanes (beside (prods a w) (turn (turning (prods a w)) (spread co) (spread si)))) shapeCasts_S8x2048x8x256_S16384x2048) bitsLt_bf16_f32

theorem zero_word : (FloatOps.sitofp FTy.f32 (0#32) : Ideal FTy.f32) = (0 : EReal) := by
  change (((0#32 : BitVec 32).toInt : ℝ) : EReal) = 0
  simp

theorem lanes_at (z : FVec Ideal S8x2048x8x192 .f32) (p : Fin 8) (s : Fin 2048) (h : Fin 8) (d : Fin 256) :
    lanes z (ix4 p s h d) = if e : (d : ℕ) < 192 then z (ix4 p s h ⟨d, e⟩) else 0 := by
  pointwise [lanes]
  rw [zero_word]

theorem prods_at (p : Fin 8) (s : Fin 2048) (h : Fin 8) (d : Fin 192) (R : Fin 16384) (hR : (R : ℕ) = p * 2048 + s) (D : Fin 1536) (hD : (D : ℕ) = h * 192 + d) :
    prods a w (ix4 p s h d) = raw a w R D := by
  have hb : (p : ℕ) * 2048 + s < 16384 := by omega
  have hc : (h : ℕ) * 192 + d < 1536 := by omega
  obtain rfl : R = ⟨p * 2048 + s, hb⟩ := Fin.ext hR
  obtain rfl : D = ⟨h * 192 + d, hc⟩ := Fin.ext hD
  unfold raw
  pointwise [prods]

theorem turning_at (z : FVec Ideal S8x2048x8x192 .f32) (p : Fin 8) (s : Fin 2048) (h : Fin 8) (d : Fin 64) :
    turning z (ix4 p s h d) = z (ix4 p s h ⟨128 + d, by omega⟩) := by
  pointwise [turning]

theorem spread_at (p : Fin 8) (s : Fin 2048) (h : Fin 8) (d : Fin 32) : spread co (ix4 p s h d) = co (ix2 s d) := by
  pointwise [spread]

theorem turn_at (z : FVec Ideal S8x2048x8x64 .f32) (u v : FVec Ideal S8x2048x8x32 .f32) (p : Fin 8) (s : Fin 2048) (h : Fin 8) (D : Fin 64) :
    turn z u v (ix4 p s h D) = if e : (D : ℕ) < 32 then
        z (ix4 p s h D) * u (ix4 p s h ⟨D, e⟩) - z (ix4 p s h ⟨32 + D, by omega⟩) * v (ix4 p s h ⟨D, e⟩)
      else z (ix4 p s h ⟨D - 32, by omega⟩) * v (ix4 p s h ⟨D - 32, by omega⟩) + z (ix4 p s h D) * u (ix4 p s h ⟨D - 32, by omega⟩) := by
  pointwise [turn]
  split
  · rfl
  · have e : 32 + ((D : ℕ) - 32) = D := by omega
    simp only [e]

theorem beside_at (z : FVec Ideal S8x2048x8x192 .f32) (y : FVec Ideal S8x2048x8x64 .f32) (p : Fin 8) (s : Fin 2048) (h : Fin 8) (d : Fin 192) :
    beside z y (ix4 p s h d) = (if e : (d : ℕ) < 128 then z (ix4 p s h d) else y (ix4 p s h ⟨d - 128, by omega⟩)) * scale := by
  pointwise [beside]

theorem row_at (z : FVec Ideal S8x2048x8x256 .f32) (R : Fin 16384) (C : Fin 2048) :
    (shapeCast S16384x2048 z shapeCasts_S8x2048x8x256_S16384x2048 : FVec Ideal S16384x2048 .f32) (ix2 R C)
      = z (ix4 ⟨R / 2048, by omega⟩ ⟨R % 2048, by omega⟩ ⟨C / 256, by omega⟩ ⟨C % 256, by omega⟩) := by
  pointwise

/-- The rotated lanes at a row and a head. -/
theorem turned_at (R : Fin 16384) (h : Fin 8) (d : Fin 64) :
    turn (turning (prods a w)) (spread co) (spread si) (ix4 ⟨R / 2048, by omega⟩ ⟨R % 2048, by omega⟩ h d) = turned a w co si R h ⟨d, by omega⟩ := by
  have hR : (R : ℕ) = R / 2048 * 2048 + R % 2048 := by omega
  rw [turn_at, turned]
  by_cases e : (d : ℕ) < 32
  · rw [dif_pos e, dif_pos e, spread_at, spread_at, turning_at, turning_at,
      prods_at a w ⟨R / 2048, by omega⟩ ⟨R % 2048, by omega⟩ h _ R hR ⟨192 * h + 128 + d, by omega⟩ (by dsimp only; omega),
      prods_at a w ⟨R / 2048, by omega⟩ ⟨R % 2048, by omega⟩ h _ R hR ⟨192 * h + 160 + d, by omega⟩ (by dsimp only; omega)]
  · rw [dif_neg e, dif_neg e, dif_pos d.isLt, spread_at, spread_at, turning_at, turning_at,
      prods_at a w ⟨R / 2048, by omega⟩ ⟨R % 2048, by omega⟩ h _ R hR ⟨192 * h + 128 + (d - 32), by omega⟩ (by dsimp only; omega),
      prods_at a w ⟨R / 2048, by omega⟩ ⟨R % 2048, by omega⟩ h _ R hR ⟨192 * h + 128 + d, by omega⟩ (by dsimp only; omega)]

theorem Q_at (R : Fin 16384) (C : Fin 2048) : Q a w co si (ix2 R C) = queries a w co si R C := by
  have hR : (R : ℕ) = R / 2048 * 2048 + R % 2048 := by omega
  refine (row_at _ R C).trans ((lanes_at _ _ _ _ _).trans ?_)
  rw [queries]
  by_cases e : (C : ℕ) % 256 < 128
  · rw [dif_pos e, dif_pos (by dsimp only; omega), beside_at, dif_pos e,
      prods_at a w ⟨R / 2048, by omega⟩ ⟨R % 2048, by omega⟩ ⟨C / 256, by omega⟩ _ R hR ⟨192 * (C / 256) + C % 256, by omega⟩ (by dsimp only; omega)]
  · rw [dif_neg e]
    by_cases f : (C : ℕ) % 256 < 192
    · rw [dif_pos f, beside_at, dif_neg e, turned_at]
    · rw [dif_neg f, turned, dif_neg (by dsimp only; omega), dif_neg (by dsimp only; omega), zero_mul]

theorem Q_eq : Q a w co si = fun i => queries a w co si (i 0) (i 1) := funext fun i =>
  (congrArg (Q a w co si) (show i = ix2 (i 0) (i 1) by funext a; fin_cases a <;> rfl)).trans (Q_at a w co si (i 0) (i 1))

theorem res_Q (m : (ℓ : Loc nD τ sig) → Buf (Elt Ideal) ℓ) (c : Dev nD) :
    res_main_v51 m c = Q (m ((c.tc : Thread nD τ).loc main_arg0)) (m ((c.tc : Thread nD τ).loc main_arg1)) (Host.cos angles) (Host.sin angles) := rfl

end Cert.Reference7Ideal.Value

end
-- ==== Proof.Kv.lean ====
/- The latent attention's keys and values over their grid: the latent row multiplied out, and the rotated key beside each head's. -/
module

public import proofs.«01_k».proof.Proof.Qkv
public import proofs.«01_k».proof.Proof.Gen.Kernel8Ideal.Value

@[expose] public section

set_option maxRecDepth 16384

noncomputable section

namespace Cert.Kernel8Ideal.Value

open Cert.Kernel8Ideal Cert.Kernel8Ideal.Gen Idealize.ShloMosaic Idealize.ShloMosaic.TcCoe Idealize.SL.Sem

section Values

variable (a : Vec Ideal S16384x512 .bf16) (k : Vec Ideal S16384x128 .bf16) (w : Vec Ideal S1x512x8x128 .f32)

/-- Row `R` of the latent times head `h`'s weights of lane `d`. -/
def up (R : Fin 16384) (h : Fin 8) (d : Fin 128) : EReal := ∑ l : Fin 512, a (ix2 R l) * w (ix4 0 l h d)

/-- The keys, head after head: 128 lanes of the product, then the 128 of the rotated key. -/
def bothKeys (R : Fin 16384) (C : Fin 2048) : EReal :=
  if h : (C : ℕ) % 256 < 128 then up a w R ⟨C / 256, by omega⟩ ⟨C % 256, h⟩ else k (ix2 R ⟨C % 256 - 128, by omega⟩)

/-- The values, head after head. -/
def ups (R : Fin 16384) (C : Fin 1024) : EReal := up a w R ⟨C / 128, by omega⟩ ⟨C % 128, by omega⟩

end Values

/-- The product of a block of latents with the weights, -/
theorem pay5_at (x : Vec Ideal S512x512 .bf16) (w : Vec Ideal S512x1024 .bf16) (r : Fin 512) (d : Fin 1024) :
    k0_pay5 (F := Ideal) x w (ix2 r d) = ∑ l : Fin 512, x (ix2 r l) * w (ix2 l d) := by
  pointwise [k0_pay5]

/-- and of the values. -/
theorem pay4_at (x : Vec Ideal S512x512 .bf16) (w : Vec Ideal S512x1024 .bf16) (r : Fin 512) (d : Fin 1024) :
    k0_pay4 (F := Ideal) x w (ix2 r d) = ∑ l : Fin 512, x (ix2 r l) * w (ix2 l d) := by
  pointwise [k0_pay4]

/-! Each head's columns of the product. -/

theorem head0_at (x : Vec Ideal S512x512 .bf16) (w : Vec Ideal S512x1024 .bf16) (r : Fin 512) (d : Fin 128) :
    k0_pay6 (F := Ideal) x w (ix2 r d) = k0_pay5 (F := Ideal) x w (ix2 r (⟨0 + d, by omega⟩ : Fin 1024)) := by
  unfold k0_pay6
  generalize k0_pay5 (F := Ideal) x w = z
  pointwise

theorem head1_at (x : Vec Ideal S512x512 .bf16) (w : Vec Ideal S512x1024 .bf16) (r : Fin 512) (d : Fin 128) :
    k0_pay7 (F := Ideal) x w (ix2 r d) = k0_pay5 (F := Ideal) x w (ix2 r (⟨128 + d, by omega⟩ : Fin 1024)) := by
  unfold k0_pay7
  generalize k0_pay5 (F := Ideal) x w = z
  pointwise

theorem head2_at (x : Vec Ideal S512x512 .bf16) (w : Vec Ideal S512x1024 .bf16) (r : Fin 512) (d : Fin 128) :
    k0_pay8 (F := Ideal) x w (ix2 r d) = k0_pay5 (F := Ideal) x w (ix2 r (⟨256 + d, by omega⟩ : Fin 1024)) := by
  unfold k0_pay8
  generalize k0_pay5 (F := Ideal) x w = z
  pointwise

theorem head3_at (x : Vec Ideal S512x512 .bf16) (w : Vec Ideal S512x1024 .bf16) (r : Fin 512) (d : Fin 128) :
    k0_pay9 (F := Ideal) x w (ix2 r d) = k0_pay5 (F := Ideal) x w (ix2 r (⟨384 + d, by omega⟩ : Fin 1024)) := by
  unfold k0_pay9
  generalize k0_pay5 (F := Ideal) x w = z
  pointwise

theorem head4_at (x : Vec Ideal S512x512 .bf16) (w : Vec Ideal S512x1024 .bf16) (r : Fin 512) (d : Fin 128) :
    k0_pay10 (F := Ideal) x w (ix2 r d) = k0_pay5 (F := Ideal) x w (ix2 r (⟨512 + d, by omega⟩ : Fin 1024)) := by
  unfold k0_pay10
  generalize k0_pay5 (F := Ideal) x w = z
  pointwise

theorem head5_at (z : FVec Ideal S512x1024 .f32) (r : Fin 512) (d : Fin 128) :
    k0_pay1 (F := Ideal) z (ix2 r d) = z (ix2 r (⟨640 + d, by omega⟩ : Fin 1024)) := by
  pointwise [k0_pay1]

theorem head6_at (z : FVec Ideal S512x1024 .f32) (r : Fin 512) (d : Fin 128) :
    k0_pay2 (F := Ideal) z (ix2 r d) = z (ix2 r (⟨768 + d, by omega⟩ : Fin 1024)) := by
  pointwise [k0_pay2]

theorem head7_at (z : FVec Ideal S512x1024 .f32) (r : Fin 512) (d : Fin 128) :
    k0_pay3 (F := Ideal) z (ix2 r d) = z (ix2 r (⟨896 + d, by omega⟩ : Fin 1024)) := by
  pointwise [k0_pay3]

variable (m : (ℓ : Loc nD τ sig) → Buf (Elt Ideal) ℓ) (c : Dev nD) (t : Fin cfg0.N)

/-- The arguments: the latent, the rotated key, the weights of the keys and of the values. -/
abbrev A0 : Vec Ideal S16384x512 .bf16 := m ((c : Thread nD τ).loc main_arg0)
abbrev A1 : Vec Ideal S16384x128 .bf16 := m ((c : Thread nD τ).loc main_arg1)
abbrev A2 : Vec Ideal S1x512x8x128 .f32 := m ((c : Thread nD τ).loc main_arg2)
abbrev A3 : Vec Ideal S1x512x8x128 .f32 := m ((c : Thread nD τ).loc main_arg3)

/-- The input blocks of point `t`. -/
abbrev X0 : Vec Ideal S512x512 .bf16 := iblk m c 0 t
abbrev X1 : Vec Ideal S512x128 .bf16 := iblk m c 1 t
abbrev X2 : Vec Ideal S512x1024 .bf16 := iblk m c 2 t
abbrev X3 : Vec Ideal S512x1024 .bf16 := iblk m c 3 t

/-- The windows' block indices at point `t`. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- The weights with the heads' lanes in one row, -/
def flat (w : FVec Ideal S1x512x8x128 .f32) : FVec Ideal S512x1024 .bf16 :=
  truncf .bf16 (shapeCast S512x1024 (shapeCast S512x8x128 w shapeCasts_S1x512x8x128_S512x8x128 : FVec Ideal S512x8x128 .f32) shapeCasts_S512x8x128_S512x1024 : FVec Ideal S512x1024 .f32) bitsLt_bf16_f32

/-- read at a head and a lane. -/
theorem flat_at (w : FVec Ideal S1x512x8x128 .f32) (l : Fin 512) (d : Fin 1024) :
    flat w (ix2 l d) = w (ix4 0 l ⟨d / 128, by omega⟩ ⟨d % 128, by omega⟩) := by
  pointwise [flat]

theorem V_2 : V m c main_v2 = flat (A2 m c) := by
  simp only [V]
  after_results
  rfl

theorem V_5 : V m c main_v5 = flat (A3 m c) := by
  simp only [V]
  after_results
  rfl

theorem x0_at (r : Fin 512) (k : Fin 512) (R : Fin 16384) (hR : (R : ℕ) = 512 * t.val + r) : X0 m c t (ix2 r k) = A0 m c (ix2 R k) := by
  unfold X0 A0
  blk_ext [iblk, V, idx t]

theorem x1_at (r : Fin 512) (k : Fin 128) (R : Fin 16384) (hR : (R : ℕ) = 512 * t.val + r) : X1 m c t (ix2 r k) = A1 m c (ix2 R k) := by
  unfold X1 A1
  blk_ext [iblk, V, idx t]

theorem x2_at (l : Fin 512) (d : Fin 1024) : X2 m c t (ix2 l d) = flat (A2 m c) (ix2 l d) := by
  rw [← V_2]
  blk_ext [iblk, idx t]

theorem x3_at (l : Fin 512) (d : Fin 1024) : X3 m c t (ix2 l d) = flat (A3 m c) (ix2 l d) := by
  rw [← V_5]
  blk_ext [iblk, idx t]

section Rows

variable (r : Fin 512) (R : Fin 16384) (hR : (R : ℕ) = 512 * t.val + r)

include hR

/-- The key product at a column, -/
theorem product (d : Fin 1024) (h : Fin 8) (x : Fin 128) (hd : (d : ℕ) = 128 * h + x) :
    k0_pay5 (F := Ideal) (X0 m c t) (X2 m c t) (ix2 r d) = up (A0 m c) (A2 m c) R h x := by
  have e1 : (⟨d / 128, by omega⟩ : Fin 8) = h := Fin.ext (by dsimp only; omega)
  have e2 : (⟨d % 128, by omega⟩ : Fin 128) = x := Fin.ext (by dsimp only; omega)
  rw [up]
  refine (pay5_at _ _ r d).trans (Finset.sum_congr rfl fun l _ => congrArg₂ (· * ·) (x0_at m c t r l R hR) ?_)
  exact ((x2_at m c t l d).trans (flat_at _ l d)).trans (congrArg₂ (fun a b => A2 m c (ix4 0 l a b)) e1 e2)

/-- the value product, -/
theorem values_at (d D : Fin 1024) (hD : (D : ℕ) = d) :
    k0_pay4 (F := Ideal) (X0 m c t) (X3 m c t) (ix2 r d) = ups (A0 m c) (A3 m c) R D := by
  obtain rfl : D = d := Fin.ext hD
  rw [ups, up]
  refine (pay4_at _ _ r D).trans (Finset.sum_congr rfl fun l _ => congrArg₂ (· * ·) (x0_at m c t r l R hR) ?_)
  exact (x3_at m c t l D).trans (flat_at _ l D)

/-- a head's lanes of the product, -/
theorem plain_at (d : Fin 1024) (C : Fin 2048) (h x : ℕ) (h8 : h < 8) (hx : x < 128) (hd : (d : ℕ) = 128 * h + x) (hC : (C : ℕ) = 256 * h + x) :
    k0_pay5 (F := Ideal) (X0 m c t) (X2 m c t) (ix2 r d) = bothKeys (A0 m c) (A1 m c) (A2 m c) R C := by
  rw [bothKeys, dif_pos (by omega)]
  exact product m c t r R hR d _ _ (by dsimp only; omega)

/-- and the rotated key beside them. -/
theorem turned_at (x : Fin 128) (C : Fin 2048) (h : ℕ) (hC : (C : ℕ) = 256 * h + 128 + x) :
    X1 m c t (ix2 r x) = bothKeys (A0 m c) (A1 m c) (A2 m c) R C := by
  rw [bothKeys, dif_neg (by omega)]
  refine (x1_at m c t r x R hR).trans (congrArg (A1 m c) (congrArg (ix2 R) (Fin.ext ?_)))
  dsimp only
  omega

end Rows

/-- The keys' stores, from whole blocks. -/
theorem out_open (x0 : Vec Ideal S512x512 .bf16) (x1 : Vec Ideal S512x128 .bf16) (x2 x3 : Vec Ideal S512x1024 .bf16) :
    out0_4 (F := Ideal) x0 x1 x2 x3 = View.canon [⟨r0_18, x1⟩, ⟨r0_17, k0_pay3 (k0_pay5 x0 x2)⟩, ⟨r0_16, x1⟩, ⟨r0_15, k0_pay2 (k0_pay5 x0 x2)⟩,
      ⟨r0_14, x1⟩, ⟨r0_13, k0_pay1 (k0_pay5 x0 x2)⟩, ⟨r0_12, x1⟩, ⟨r0_11, k0_pay10 x0 x2⟩, ⟨r0_10, x1⟩, ⟨r0_9, k0_pay9 x0 x2⟩,
      ⟨r0_8, x1⟩, ⟨r0_7, k0_pay8 x0 x2⟩, ⟨r0_6, x1⟩, ⟨r0_5, k0_pay7 x0 x2⟩, ⟨r0_4, x1⟩, ⟨r0_3, k0_pay6 x0 x2⟩] := by
  have e0 : View.ld x0 r0_0 = x0 := by frame_out
  have e1 : View.ld x1 r0_2 = x1 := by frame_out
  have e2 : View.ld x2 r0_1 = x2 := by frame_out
  unfold out0_4 k0_pay11
  rw [e0, e1, e2]

set_option maxHeartbeats 1600000 in
/-- What a point leaves of the keys at an index of its block. -/
theorem point (y : S512x2048.Idx) (R : Fin 16384) (C : Fin 2048) (hR : (R : ℕ) = 512 * t.val + (y 0 : ℕ)) (hC : (C : ℕ) = (y 1 : ℕ)) :
    out0_4 (F := Ideal) (X0 m c t) (X1 m c t) (X2 m c t) (X3 m c t) y = bothKeys (A0 m c) (A1 m c) (A2 m c) R C := by
  rw [out_open]
  canon_tiles y h
  · rw [show y = ix2 (⟨y 0, y0_lt⟩ : Fin 512) (⟨y 1, y1_lt⟩ : Fin 128) from by funext a; fin_cases a <;> rfl]
    exact turned_at m c t _ R (by dsimp only; omega) _ C 7 (by dsimp only; omega)
  · rw [show y = ix2 (⟨y 0, y0_lt⟩ : Fin 512) (⟨y 1, y1_lt⟩ : Fin 128) from by funext a; fin_cases a <;> rfl]
    exact (head7_at _ _ _).trans (plain_at m c t _ R (by dsimp only; omega) _ C 7 (y 1) (by omega) y1_lt (by dsimp only; try omega) (by omega))
  · rw [show y = ix2 (⟨y 0, y0_lt⟩ : Fin 512) (⟨y 1, y1_lt⟩ : Fin 128) from by funext a; fin_cases a <;> rfl]
    exact turned_at m c t _ R (by dsimp only; omega) _ C 6 (by dsimp only; omega)
  · rw [show y = ix2 (⟨y 0, y0_lt⟩ : Fin 512) (⟨y 1, y1_lt⟩ : Fin 128) from by funext a; fin_cases a <;> rfl]
    exact (head6_at _ _ _).trans (plain_at m c t _ R (by dsimp only; omega) _ C 6 (y 1) (by omega) y1_lt (by dsimp only; try omega) (by omega))
  · rw [show y = ix2 (⟨y 0, y0_lt⟩ : Fin 512) (⟨y 1, y1_lt⟩ : Fin 128) from by funext a; fin_cases a <;> rfl]
    exact turned_at m c t _ R (by dsimp only; omega) _ C 5 (by dsimp only; omega)
  · rw [show y = ix2 (⟨y 0, y0_lt⟩ : Fin 512) (⟨y 1, y1_lt⟩ : Fin 128) from by funext a; fin_cases a <;> rfl]
    exact (head5_at _ _ _).trans (plain_at m c t _ R (by dsimp only; omega) _ C 5 (y 1) (by omega) y1_lt (by dsimp only; try omega) (by omega))
  · rw [show y = ix2 (⟨y 0, y0_lt⟩ : Fin 512) (⟨y 1, y1_lt⟩ : Fin 128) from by funext a; fin_cases a <;> rfl]
    exact turned_at m c t _ R (by dsimp only; omega) _ C 4 (by dsimp only; omega)
  · rw [show y = ix2 (⟨y 0, y0_lt⟩ : Fin 512) (⟨y 1, y1_lt⟩ : Fin 128) from by funext a; fin_cases a <;> rfl]
    exact (head4_at _ _ _ _).trans (plain_at m c t _ R (by dsimp only; omega) _ C 4 (y 1) (by omega) y1_lt (by dsimp only; try omega) (by omega))
  · rw [show y = ix2 (⟨y 0, y0_lt⟩ : Fin 512) (⟨y 1, y1_lt⟩ : Fin 128) from by funext a; fin_cases a <;> rfl]
    exact turned_at m c t _ R (by dsimp only; omega) _ C 3 (by dsimp only; omega)
  · rw [show y = ix2 (⟨y 0, y0_lt⟩ : Fin 512) (⟨y 1, y1_lt⟩ : Fin 128) from by funext a; fin_cases a <;> rfl]
    exact (head3_at _ _ _ _).trans (plain_at m c t _ R (by dsimp only; omega) _ C 3 (y 1) (by omega) y1_lt (by dsimp only; try omega) (by omega))
  · rw [show y = ix2 (⟨y 0, y0_lt⟩ : Fin 512) (⟨y 1, y1_lt⟩ : Fin 128) from by funext a; fin_cases a <;> rfl]
    exact turned_at m c t _ R (by dsimp only; omega) _ C 2 (by dsimp only; omega)
  · rw [show y = ix2 (⟨y 0, y0_lt⟩ : Fin 512) (⟨y 1, y1_lt⟩ : Fin 128) from by funext a; fin_cases a <;> rfl]
    exact (head2_at _ _ _ _).trans (plain_at m c t _ R (by dsimp only; omega) _ C 2 (y 1) (by omega) y1_lt (by dsimp only; try omega) (by omega))
  · rw [show y = ix2 (⟨y 0, y0_lt⟩ : Fin 512) (⟨y 1, y1_lt⟩ : Fin 128) from by funext a; fin_cases a <;> rfl]
    exact turned_at m c t _ R (by dsimp only; omega) _ C 1 (by dsimp only; omega)
  · rw [show y = ix2 (⟨y 0, y0_lt⟩ : Fin 512) (⟨y 1, y1_lt⟩ : Fin 128) from by funext a; fin_cases a <;> rfl]
    exact (head1_at _ _ _ _).trans (plain_at m c t _ R (by dsimp only; omega) _ C 1 (y 1) (by omega) y1_lt (by dsimp only; try omega) (by omega))
  · rw [show y = ix2 (⟨y 0, y0_lt⟩ : Fin 512) (⟨y 1, y1_lt⟩ : Fin 128) from by funext a; fin_cases a <;> rfl]
    exact turned_at m c t _ R (by dsimp only; omega) _ C 0 (by dsimp only; omega)
  · rw [show y = ix2 (⟨y 0, y0_lt⟩ : Fin 512) (⟨y 1, y1_lt⟩ : Fin 128) from by funext a; fin_cases a <;> rfl]
    exact (head0_at _ _ _ _).trans (plain_at m c t _ R (by dsimp only; omega) _ C 0 (y 1) (by omega) y1_lt (by dsimp only; try omega) (by omega))

/-- The keys, -/
theorem final4 : (dats m 0 c).arrAt 4 cfg0.N = fun i => bothKeys (A0 m c) (A1 m c) (A2 m c) (i 0) (i 1) := by
  refine (dats m 0 c).arrAt_eq_of_covers 4 _ (by decide +kernel) fun t hf y => ?_
  blk_simp
  rw [after0_4]
  refine point m c t y _ _ ?_ ?_
  · blk_simp [idx t]
    try omega
  · blk_simp [idx t]

/-- and the values. -/
theorem final5 : (dats m 0 c).arrAt 5 cfg0.N = fun i => ups (A0 m c) (A3 m c) (i 0) (i 1) := by
  refine (dats m 0 c).arrAt_eq_of_covers 5 _ (by decide +kernel) fun t hf y => ?_
  blk_simp
  rw [after0_5]
  have hy : y = ix2 (y 0) (y 1) := by funext a; fin_cases a <;> rfl
  rw [hy]
  unfold out0_5
  frame_out
  refine values_at m c t (y 0) _ ?_ (y 1) _ ?_
  · blk_simp [idx t]
    omega
  · blk_simp [idx t]

end Cert.Kernel8Ideal.Value

end
-- ==== Proof.KvRef.lean ====
/- The reference's keys and values of the latent attention, read at one row and one column. -/
module

public import proofs.«01_k».proof.Proof.Kv
public import proofs.«01_k».proof.Proof.Gen.Reference8Ideal.Run

@[expose] public section

set_option maxRecDepth 16384

noncomputable section

namespace Cert.Reference8Ideal.Value

open Cert.Reference8Ideal Cert.Reference8Ideal.Gen Idealize.ShloMosaic Idealize.ShloMosaic.TcCoe Idealize.SL.Sem
open Cert.Kernel8Ideal.Value (up ups bothKeys)

variable (a : FVec Ideal S16384x512 .bf16) (k : FVec Ideal S16384x128 .bf16) (w : FVec Ideal S1x512x8x128 .f32)

/-- The latent multiplied out, head by head, -/
def prods : FVec Ideal S16384x8x128 .f32 :=
  Host.dotGeneral dot_S16384x512_S512x8x128_S16384x8x128_1_0_0_12_n_n none (extf .f32 a bitsLt_bf16_f32) (shapeCast S512x8x128 w shapeCasts_S1x512x8x128_S512x8x128)

/-- the rotated key for each head, -/
def shared : FVec Ideal S16384x8x128 .f32 :=
  broadcastInDim S16384x8x128 ![0, 1, 2] bcast_S16384x1x128_S16384x8x128_0_1_2 (broadcastInDim S16384x1x128 ![0, 2] bcast_S16384x128_S16384x1x128_0_2 (extf .f32 k bitsLt_bf16_f32))

/-- one beside the other, -/
def beside (p q : FVec Ideal S16384x8x128 .f32) : FVec Ideal S16384x8x256 .f32 :=
  concatenate S16384x8x256 2 [⟨S16384x8x128, p⟩, ⟨S16384x8x128, q⟩] concatenates_S16384x8x128_S16384x8x128_S16384x8x256_d2

/-- the reference's two results. -/
def K : FVec Ideal S16384x2048 .bf16 :=
  truncf .bf16 (shapeCast S16384x2048 (beside (prods a w) (shared k)) shapeCasts_S16384x8x256_S16384x2048) bitsLt_bf16_f32
def W : FVec Ideal S16384x1024 .bf16 := truncf .bf16 (shapeCast S16384x1024 (prods a w) shapeCasts_S16384x8x128_S16384x1024) bitsLt_bf16_f32

theorem prods_at (R : Fin 16384) (h : Fin 8) (d : Fin 128) : prods a w (ix3 R h d) = up a w R h d := by
  unfold up
  pointwise [prods]

theorem shared_at (R : Fin 16384) (h : Fin 8) (d : Fin 128) : shared k (ix3 R h d) = k (ix2 R d) := by
  pointwise [shared]

theorem beside_at (p q : FVec Ideal S16384x8x128 .f32) (R : Fin 16384) (h : Fin 8) (d : Fin 256) :
    beside p q (ix3 R h d) = if e : (d : ℕ) < 128 then p (ix3 R h ⟨d, e⟩) else q (ix3 R h ⟨d - 128, by omega⟩) := by
  pointwise [beside]

theorem row_at (z : FVec Ideal S16384x8x256 .f32) (R : Fin 16384) (C : Fin 2048) :
    (shapeCast S16384x2048 z shapeCasts_S16384x8x256_S16384x2048 : FVec Ideal S16384x2048 .f32) (ix2 R C) = z (ix3 R ⟨C / 256, by omega⟩ ⟨C % 256, by omega⟩) := by
  pointwise

theorem K_at (R : Fin 16384) (C : Fin 2048) : K a k w (ix2 R C) = bothKeys a k w R C := by
  unfold bothKeys
  refine (row_at _ R C).trans ((beside_at _ _ R _ _).trans ?_)
  simp only [prods_at, shared_at]

theorem W_at (R : Fin 16384) (C : Fin 1024) : W a w (ix2 R C) = ups a w R C := by
  unfold ups
  rw [← prods_at]
  unfold W
  generalize prods a w = z
  pointwise

/-- Each as one function of the index. -/
theorem K_eq : K a k w = fun i => bothKeys a k w (i 0) (i 1) := funext fun i =>
  (congrArg (K a k w) (show i = ix2 (i 0) (i 1) by funext a; fin_cases a <;> rfl)).trans (K_at a k w (i 0) (i 1))
theorem W_eq : W a w = fun i => ups a w (i 0) (i 1) := funext fun i =>
  (congrArg (W a w) (show i = ix2 (i 0) (i 1) by funext a; fin_cases a <;> rfl)).trans (W_at a w (i 0) (i 1))

end Cert.Reference8Ideal.Value

end
-- ==== Proof.lean ====
/- The certificate: every claim of `Cert.Claim`, from the runs of the programs and the values proved in the modules beside. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Given
public import proofs.«01_k».proof.Proof.MlpRef
public import proofs.«01_k».proof.Proof.TailRef
public import proofs.«01_k».proof.Proof.TailBits
public import proofs.«01_k».proof.Proof.QkvRef
public import proofs.«01_k».proof.Proof.Gen.Kernel3.Launch
public import proofs.«01_k».proof.Proof.Gen.Kernel3Ideal.Launch
public import proofs.«01_k».proof.Proof.Gen.Reference3Ideal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.LatRef
public import proofs.«01_k».proof.Proof.Gen.Kernel6.Frame
public import proofs.«01_k».proof.Proof.Gen.Kernel6Ideal.Value
public import proofs.«01_k».proof.Proof.Gen.Reference6Ideal.Run
public import proofs.«01_k».proof.Proof.FoxGiven
public import proofs.«01_k».proof.Proof.Gen.Kernel7.Frame
public import proofs.«01_k».proof.Proof.UqRef
public import proofs.«01_k».proof.Proof.Gen.Kernel8.Frame
public import proofs.«01_k».proof.Proof.KvRef
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference leaves its arguments as they were, and has no counters. -/
theorem reference_frame : Cert.quiescent_ReferenceIdeal (hReferenceIdeal := Cert.ReferenceIdeal.Gen.facts) := by
  intro m g _
  exact (θ_run _ _ _).mono (fun r h => ⟨fun c => (h c).2, sem_eq_zero_of_no_sems (by decide) r.2⟩) (Cert.ReferenceIdeal.Value.run m g)

/-- The prompt attention: the kernel and the reference end with the same array. -/
theorem attention : Cert.algebraic_KernelIdeal_ReferenceIdeal_pre_finite_scores (hKernelIdeal := Cert.KernelIdeal.Gen.facts)
    (hReferenceIdeal := Cert.ReferenceIdeal.Gen.facts) (hPre_finite_scores := Cert.Given.facts) := by
  pair_intro
  · run_from Cert.KernelIdeal.Value.run_blocks m g
  · run_from Cert.ReferenceIdeal.Value.run m' g'
    obtain ⟨h0, h1, h2, h3, h4⟩ := hagree c
    refine (Cert.ReferenceIdeal.Value.res_eq m' c).trans (Eq.trans ?_ (Cert.KernelIdeal.Value.final (Cert.Given.finite m hpre c)).symm)
    rw [h0, h1, h2, h3, h4]

/-- The feed-forward reference leaves its arguments as they were, and has no counters. -/
theorem reference2_frame : Cert.quiescent_Reference2Ideal (hReference2Ideal := Cert.Reference2Ideal.Gen.facts) := by
  intro m g _
  exact (θ_run _ _ _).mono (fun r h => ⟨fun c => (h c).2, sem_eq_zero_of_no_sems (by decide) r.2⟩) (Cert.Reference2Ideal.Value.run m g)

/-- The feed-forward part: the kernel and the reference end with the same array. -/
theorem feedForward : Cert.algebraic_Kernel2Ideal_Reference2Ideal (hKernel2Ideal := Cert.Kernel2Ideal.Gen.facts)
    (hReference2Ideal := Cert.Reference2Ideal.Gen.facts) := by
  pair_intro
  · run_from Cert.Kernel2Ideal.Value.run_blocks m g
  · run_from Cert.Reference2Ideal.Value.run m' g'
    obtain ⟨h0, h1, h2, h3, h4, h5⟩ := hagree c
    refine (Cert.Reference2Ideal.Value.res_eq m' c).trans (Eq.trans ?_ (Cert.Kernel2Ideal.Value.final m c).symm)
    funext i
    refine (Cert.Reference2Ideal.Value.ref_at _ _ _ _ _ _ i).trans ?_
    rw [h0, h1, h2, h3, h4, h5]

/-- The merge kernel terminates, leaves its arguments as they were, and ends with its counters at zero. -/
theorem merge_frame : Cert.quiescent_Kernel3Ideal (hKernel3Ideal := Cert.Kernel3Ideal.Gen.facts) :=
  fun m g _ => Cert.Kernel3Ideal.Tail.frame m g

/-- The same of the kernel at the machine's floats: one run serves both. -/
theorem merge_frame_bits : Cert.quiescent_Kernel3 (hKernel3 := Cert.Kernel3.Gen.facts) :=
  fun m g _ => Cert.Kernel3Ideal.Tail.frame_bits m g

/-- The merge reference leaves its arguments as they were, and has no counters. -/
theorem reference3_frame : Cert.quiescent_Reference3Ideal (hReference3Ideal := Cert.Reference3Ideal.Gen.facts) := by
  intro m g _
  exact (θ_run _ _ _).mono (fun r h => ⟨fun c => (h c).2, sem_eq_zero_of_no_sems (by decide) r.2⟩) (Cert.Reference3Ideal.Value.run m g)

/-- The merge of the two attentions: the kernel and the reference end with the same array. -/
theorem merge : Cert.algebraic_Kernel3Ideal_Reference3Ideal (hKernel3Ideal := Cert.Kernel3Ideal.Gen.facts)
    (hReference3Ideal := Cert.Reference3Ideal.Gen.facts) := by
  pair_intro
  · run_from Cert.Kernel3Ideal.Tail.run_result m g
  · run_from Cert.Reference3Ideal.Value.run m' g'
    refine Eq.trans (b := Cert.Reference3Ideal.Value.REF _ _ _ _ _ _ _ _) rfl (Eq.trans ?_ (Cert.Kernel3Ideal.Tail.final m c).symm)
    exact funext fun i => Cert.Reference3Ideal.Value.ref_at _ _ _ _ _ _ _ _ i

/-- The projection's reference leaves its arguments as they were, and has no counters. -/
theorem reference4_frame : Cert.quiescent_Reference4Ideal (hReference4Ideal := Cert.Reference4Ideal.Gen.facts) := by
  intro m g _
  exact (θ_run _ _ _).mono (fun r h => ⟨fun c => (h c).2.2.2.2, sem_eq_zero_of_no_sems (by decide) r.2⟩) (Cert.Reference4Ideal.Value.run m g)

/-- The forgetting attention's projection: the kernel and the reference end with the same four arrays. -/
theorem projection : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    · exact Eq.trans (b := Cert.Reference4Ideal.Value.Q _ _ _) rfl
        ((Cert.Reference4Ideal.Value.Q_eq _ _ _).trans (Cert.Kernel4Ideal.Value.final3 m c).symm)
    · exact Eq.trans (b := Cert.Reference4Ideal.Value.K _ _ _) rfl
        ((Cert.Reference4Ideal.Value.K_eq _ _ _).trans (Cert.Kernel4Ideal.Value.final4 m c).symm)
    · exact Eq.trans (b := Cert.Reference4Ideal.Value.W _ _ _) rfl
        ((Cert.Reference4Ideal.Value.W_eq _ _ _).trans (Cert.Kernel4Ideal.Value.final5 m c).symm)
    · exact Eq.trans (b := Cert.Reference4Ideal.Value.Wb _ _ _) rfl
        ((Cert.Reference4Ideal.Value.Wb_eq _ _ _).trans (Cert.Kernel4Ideal.Value.final6 m c).symm)

/-- The latent projection's reference leaves its arguments as they were, and has no counters. -/
theorem reference5_frame : Cert.quiescent_Reference5Ideal (hReference5Ideal := Cert.Reference5Ideal.Gen.facts) := by
  intro m g _
  exact (θ_run _ _ _).mono (fun r h => ⟨fun c => (h c).2.2.2.2.2.2.2, sem_eq_zero_of_no_sems (by decide) r.2⟩) (Cert.Reference5Ideal.Value.run m g)

set_option maxHeartbeats 1600000 in
/-- The latent projection: the kernel and the reference end with the same seven arrays. -/
theorem latents : Cert.algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · run_from Cert.Reference5Ideal.Value.run m' g'
    · exact Eq.trans (b := Cert.Reference5Ideal.Value.Cq _ _ _ _) rfl
        ((Cert.Reference5Ideal.Value.Cq_eq _ _ _ _).trans (Cert.Kernel5Ideal.Value.final8 m c).symm)
    · exact Eq.trans (b := Cert.Reference5Ideal.Value.Ckv _ _ _ _) rfl
        ((Cert.Reference5Ideal.Value.Ckv_eq _ _ _ _).trans (Cert.Kernel5Ideal.Value.final9 m c).symm)
    · exact Eq.trans (b := Cert.Reference5Ideal.Value.Ckvb _ _ _ _) rfl
        ((Cert.Reference5Ideal.Value.Ckvb_eq _ _ _ _).trans (Cert.Kernel5Ideal.Value.final10 m c).symm)
    · rw [Cert.Reference5Ideal.Value.res_Kr]
      simp only [hagree c]
      exact (Cert.Reference5Ideal.Value.Kr_eq _ _ _ _ _).trans (Cert.Kernel5Ideal.Value.final11 m c).symm
    · rw [Cert.Reference5Ideal.Value.res_Krb]
      simp only [hagree c]
      exact (Cert.Reference5Ideal.Value.Krb_eq _ _ _ _ _).trans (Cert.Kernel5Ideal.Value.final12 m c).symm
    · rw [Cert.Reference5Ideal.Value.res_Lf]
      simp only [hagree c]
      exact (Cert.Reference5Ideal.Value.Lf_eq _ _ _ _).trans (Cert.Kernel5Ideal.Value.final13 m c).symm
    · rw [Cert.Reference5Ideal.Value.res_Lfb]
      simp only [hagree c]
      exact (Cert.Reference5Ideal.Value.Lfb_eq _ _ _ _).trans (Cert.Kernel5Ideal.Value.final14 m c).symm

/-- The forgetting attention's reference leaves its arguments as they were, and has no counters. -/
theorem reference6_frame : Cert.quiescent_Reference6Ideal (hReference6Ideal := Cert.Reference6Ideal.Gen.facts) := by
  intro m g _
  exact (θ_run _ _ _).mono (fun r h => ⟨fun c => (h c).2, sem_eq_zero_of_no_sems (by decide) r.2⟩) (Cert.Reference6Ideal.Value.run m g)

/-- The forgetting attention of the prompt: the kernel and the reference end with the same array. -/
theorem forgetting : Cert.algebraic_Kernel6Ideal_Reference6Ideal_pre_finite_packed (hKernel6Ideal := Cert.Kernel6Ideal.Gen.facts)
    (hReference6Ideal := Cert.Reference6Ideal.Gen.facts) (hPre_finite_packed := Cert.FoxGiven.facts) := by
  pair_intro
  · run_from Cert.Kernel6Ideal.Value.run_blocks m g
  · run_from Cert.Reference6Ideal.Value.run m' g'
    obtain ⟨h0, h1, h2, h3, h4⟩ := hagree c
    refine (Cert.Reference6Ideal.Value.res_eq m' c).trans (Eq.trans ?_ (Cert.Kernel6Ideal.Value.final (Cert.FoxGiven.finite m hpre c)).symm)
    rw [h0, h1, h2, h3, h4]

/-- The queries' reference leaves its arguments as they were, and has no counters. -/
theorem reference7_frame : Cert.quiescent_Reference7Ideal (hReference7Ideal := Cert.Reference7Ideal.Gen.facts) := by
  intro m g _
  exact (θ_run _ _ _).mono (fun r h => ⟨fun c => (h c).2, sem_eq_zero_of_no_sems (by decide) r.2⟩) (Cert.Reference7Ideal.Value.run m g)

/-- The latent attention's queries: the kernel and the reference end with the same array. -/
theorem queries : Cert.algebraic_Kernel7Ideal_Reference7Ideal (hKernel7Ideal := Cert.Kernel7Ideal.Gen.facts)
    (hReference7Ideal := Cert.Reference7Ideal.Gen.facts) := by
  pair_intro
  · run_from Cert.Kernel7Ideal.Value.run_blocks m g
  · run_from Cert.Reference7Ideal.Value.run m' g'
    rw [Cert.Reference7Ideal.Value.res_Q]
    simp only [hagree c]
    exact (Cert.Reference7Ideal.Value.Q_eq _ _ _ _).trans (Cert.Kernel7Ideal.Value.final4 m c).symm

/-- The keys' and values' reference leaves its arguments as they were, and has no counters. -/
theorem reference8_frame : Cert.quiescent_Reference8Ideal (hReference8Ideal := Cert.Reference8Ideal.Gen.facts) := by
  intro m g _
  exact (θ_run _ _ _).mono (fun r h => ⟨fun c => (h c).2.2, sem_eq_zero_of_no_sems (by decide) r.2⟩) (Cert.Reference8Ideal.Value.run m g)

/-- The latent attention's keys and values: the kernel and the reference end with the same two arrays. -/
theorem keysValues : Cert.algebraic_Kernel8Ideal_Reference8Ideal (hKernel8Ideal := Cert.Kernel8Ideal.Gen.facts)
    (hReference8Ideal := Cert.Reference8Ideal.Gen.facts) := by
  pair_intro
  · run_from Cert.Kernel8Ideal.Value.run_blocks m g
  · run_from Cert.Reference8Ideal.Value.run m' g'
    · exact Eq.trans (b := Cert.Reference8Ideal.Value.K _ _ _) rfl
        ((Cert.Reference8Ideal.Value.K_eq _ _ _).trans (Cert.Kernel8Ideal.Value.final4 m c).symm)
    · exact Eq.trans (b := Cert.Reference8Ideal.Value.W _ _) rfl
        ((Cert.Reference8Ideal.Value.W_eq _ _).trans (Cert.Kernel8Ideal.Value.final5 m c).symm)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Given.facts, Cert.FoxGiven.facts,
    fun m g _ => Cert.Kernel.Gen.frame m g, fun m g _ => Cert.KernelIdeal.Gen.frame m g, fun m g _ => Cert.KernelIdeal.Gen.frame m g,
    reference_frame, fun m g _ => reference_frame m g trivial,
    fun m g _ => Cert.Kernel2.Gen.frame m g, fun m g _ => Cert.Kernel2Ideal.Gen.frame m g, reference2_frame,
    merge_frame_bits, merge_frame, reference3_frame,
    fun m g _ => Cert.Kernel4.Gen.frame m g, fun m g _ => Cert.Kernel4Ideal.Gen.frame m g, reference4_frame,
    fun m g _ => Cert.Kernel5.Gen.frame m g, fun m g _ => Cert.Kernel5Ideal.Gen.frame m g, reference5_frame,
    fun m g _ => Cert.Kernel6.Gen.frame m g, fun m g _ => Cert.Kernel6Ideal.Gen.frame m g, fun m g _ => Cert.Kernel6Ideal.Gen.frame m g,
    reference6_frame, fun m g _ => reference6_frame m g trivial,
    fun m g _ => Cert.Kernel7.Gen.frame m g, fun m g _ => Cert.Kernel7Ideal.Gen.frame m g, reference7_frame,
    fun m g _ => Cert.Kernel8.Gen.frame m g, fun m g _ => Cert.Kernel8Ideal.Gen.frame m g, reference8_frame,
    IdealRules.named_const.statement _ _ _ _ _ rfl, attention, trivial, feedForward, trivial, merge, trivial, projection, trivial, latents,
    IdealRules.named_const.statement _ _ _ _ _ rfl, forgetting, trivial, queries, trivial, keysValues⟩

end Cert.Proof

end
